-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)) (v3 : (c : Dev Cert.Kernel2Ideal.nD) → Buf (Elt Ideal) ((c.tc : Thread Cert.Kernel2Ideal.nD Cert.Kernel2Ideal.τ).loc Cert.Kernel2Ideal.main_v17_3)) (v4 : (c : Dev Cert.Kernel2Ideal.nD) → Buf (Elt Ideal) ((c.tc : Thread Cert.Kernel2Ideal.nD Cert.Kernel2Ideal.τ).loc Cert.Kernel2Ideal.main_v17_4)) (v5 : (c : Dev Cert.Kernel2Ideal.nD) → Buf (Elt Ideal) ((c.tc : Thread Cert.Kernel2Ideal.nD Cert.Kernel2Ideal.τ).loc Cert.Kernel2Ideal.main_v17_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_v17_3) = v3 c
          ∧ r.2.mem ((c.tc : Thread Cert.Kernel2Ideal.nD Cert.Kernel2Ideal.τ).loc Cert.Kernel2Ideal.main_v17_4) = v4 c
          ∧ r.2.mem ((c.tc : Thread Cert.Kernel2Ideal.nD Cert.Kernel2Ideal.τ).loc Cert.Kernel2Ideal.main_v17_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v94) = v2 c
          ∧ r.2.mem ((c.tc : Thread Cert.Reference2Ideal.nD Cert.Reference2Ideal.τ).loc Cert.Reference2Ideal.main_v92) = v3 c
          ∧ r.2.mem ((c.tc : Thread Cert.Reference2Ideal.nD Cert.Reference2Ideal.τ).loc Cert.Reference2Ideal.main_v95) = v4 c
          ∧ r.2.mem ((c.tc : Thread Cert.Reference2Ideal.nD Cert.Reference2Ideal.τ).loc Cert.Reference2Ideal.main_v96) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)) (v2 : (c : Dev Cert.Kernel3Ideal.nD) → Buf (Elt Ideal) ((c.tc : Thread Cert.Kernel3Ideal.nD Cert.Kernel3Ideal.τ).loc Cert.Kernel3Ideal.main_v38_2)) (v3 : (c : Dev Cert.Kernel3Ideal.nD) → Buf (Elt Ideal) ((c.tc : Thread Cert.Kernel3Ideal.nD Cert.Kernel3Ideal.τ).loc Cert.Kernel3Ideal.main_v38_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_v38_2) = v2 c
          ∧ r.2.mem ((c.tc : Thread Cert.Kernel3Ideal.nD Cert.Kernel3Ideal.τ).loc Cert.Kernel3Ideal.main_v38_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v32) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg1) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_v10) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_arg1) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v4) = v2 c
          ∧ r.2.mem ((c.tc : Thread Cert.Reference7Ideal.nD Cert.Reference7Ideal.τ).loc Cert.Reference7Ideal.main_v10) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_arg1) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_v10) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)) (v3 : (c : Dev Cert.Kernel9Ideal.nD) → Buf (Elt Ideal) ((c.tc : Thread Cert.Kernel9Ideal.nD Cert.Kernel9Ideal.τ).loc Cert.Kernel9Ideal.main_v4_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_v4_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_v27) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)) (v3 : (c : Dev Cert.Kernel10Ideal.nD) → Buf (Elt Ideal) ((c.tc : Thread Cert.Kernel10Ideal.nD Cert.Kernel10Ideal.τ).loc Cert.Kernel10Ideal.main_v1_3)) (v4 : (c : Dev Cert.Kernel10Ideal.nD) → Buf (Elt Ideal) ((c.tc : Thread Cert.Kernel10Ideal.nD Cert.Kernel10Ideal.τ).loc Cert.Kernel10Ideal.main_v1_4)) (v5 : (c : Dev Cert.Kernel10Ideal.nD) → Buf (Elt Ideal) ((c.tc : Thread Cert.Kernel10Ideal.nD Cert.Kernel10Ideal.τ).loc Cert.Kernel10Ideal.main_v1_5)) (v6 : (c : Dev Cert.Kernel10Ideal.nD) → Buf (Elt Ideal) ((c.tc : Thread Cert.Kernel10Ideal.nD Cert.Kernel10Ideal.τ).loc Cert.Kernel10Ideal.main_v1_6)) (v7 : (c : Dev Cert.Kernel10Ideal.nD) → Buf (Elt Ideal) ((c.tc : Thread Cert.Kernel10Ideal.nD Cert.Kernel10Ideal.τ).loc Cert.Kernel10Ideal.main_v1_7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_v1_3) = v3 c
          ∧ r.2.mem ((c.tc : Thread Cert.Kernel10Ideal.nD Cert.Kernel10Ideal.τ).loc Cert.Kernel10Ideal.main_v1_4) = v4 c
          ∧ r.2.mem ((c.tc : Thread Cert.Kernel10Ideal.nD Cert.Kernel10Ideal.τ).loc Cert.Kernel10Ideal.main_v1_5) = v5 c
          ∧ r.2.mem ((c.tc : Thread Cert.Kernel10Ideal.nD Cert.Kernel10Ideal.τ).loc Cert.Kernel10Ideal.main_v1_6) = v6 c
          ∧ r.2.mem ((c.tc : Thread Cert.Kernel10Ideal.nD Cert.Kernel10Ideal.τ).loc Cert.Kernel10Ideal.main_v1_7) = v7 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg5) = v4 c
          ∧ r.2.mem ((c.tc : Thread Cert.Reference10Ideal.nD Cert.Reference10Ideal.τ).loc Cert.Reference10Ideal.main_v47) = v5 c
          ∧ r.2.mem ((c.tc : Thread Cert.Reference10Ideal.nD Cert.Reference10Ideal.τ).loc Cert.Reference10Ideal.main_v28) = v6 c
          ∧ r.2.mem ((c.tc : Thread Cert.Reference10Ideal.nD Cert.Reference10Ideal.τ).loc Cert.Reference10Ideal.main_v34) = v7 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1x1024 .f32) (main_arg2 : FVec F S1024x5632 .f32) (main_arg3 : FVec F S3x5632 .f32) (main_arg4 : FVec F S2816x1024 .f32) (main_arg5 : FVec F S4096x1024 .f32) : IVec S4096x1024 1 × IVec S1x1024 1 × IVec S1024x5632 1 × IVec S3x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Kernel.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1x5632 : Shape := ⟨2, ![1, 5632]⟩
abbrev S5632 : Shape := ⟨1, ![5632]⟩
abbrev S2x5632 : Shape := ⟨2, ![2, 5632]⟩
abbrev S4094x5632 : Shape := ⟨2, ![4094, 5632]⟩
abbrev S4095x5632 : Shape := ⟨2, ![4095, 5632]⟩
abbrev S8x5632 : Shape := ⟨2, ![8, 5632]⟩
abbrev S256x1024 : Shape := ⟨2, ![256, 1024]⟩
abbrev S256x5632 : Shape := ⟨2, ![256, 5632]⟩
abbrev S256x2816 : Shape := ⟨2, ![256, 2816]⟩
abbrev S16x5632 : Shape := ⟨2, ![16, 5632]⟩
abbrev S248x5632 : Shape := ⟨2, ![248, 5632]⟩
abbrev S256 : Shape := ⟨1, ![256]⟩
abbrev S256x1 : Shape := ⟨2, ![256, 1]⟩
abbrev S1024 : Shape := ⟨1, ![1024]⟩

abbrev nBuf : Space → Nat
  | .hbm => 57
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S1x5632, .f32⟩
  | .hbm, ⟨23, _⟩ => ⟨S5632, .f32⟩
  | .hbm, ⟨24, _⟩ => ⟨S_, .f32⟩
  | .hbm, ⟨25, _⟩ => ⟨S2x5632, .f32⟩
  | .hbm, ⟨26, _⟩ => ⟨S4094x5632, .f32⟩
  | .hbm, ⟨27, _⟩ => ⟨S4096x5632, .f32⟩
  | .hbm, ⟨28, _⟩ => ⟨S1x5632, .f32⟩
  | .hbm, ⟨29, _⟩ => ⟨S4096x5632, .f32⟩
  | .hbm, ⟨30, _⟩ => ⟨S4096x5632, .f32⟩
  | .hbm, ⟨31, _⟩ => ⟨S1x5632, .f32⟩
  | .hbm, ⟨32, _⟩ => ⟨S5632, .f32⟩
  | .hbm, ⟨33, _⟩ => ⟨S_, .f32⟩
  | .hbm, ⟨34, _⟩ => ⟨S1x5632, .f32⟩
  | .hbm, ⟨35, _⟩ => ⟨S4095x5632, .f32⟩
  | .hbm, ⟨36, _⟩ => ⟨S4096x5632, .f32⟩
  | .hbm, ⟨37, _⟩ => ⟨S1x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S1x5632, .f32⟩
  | .hbm, ⟨42, _⟩ => ⟨S5632, .f32⟩
  | .hbm, ⟨43, _⟩ => ⟨S1x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S_, .i32⟩
  | .hbm, ⟨48, _⟩ => ⟨S_, .f32⟩
  | .hbm, ⟨49, _⟩ => ⟨S8x5632, .f32⟩
  | .hbm, ⟨50, _⟩ => ⟨S4096x5632, .bf16⟩
  | .hbm, ⟨51, _⟩ => ⟨S1024x5632, .bf16⟩
  | .hbm, ⟨52, _⟩ => ⟨S2816x1024, .bf16⟩
  | .hbm, ⟨53, _⟩ => ⟨S4096x5632, .bf16⟩
  | .hbm, ⟨54, _⟩ => ⟨S4096x1024, .f32⟩
  | .hbm, ⟨55, _⟩ => ⟨S3x5632, .f32⟩
  | .hbm, ⟨56, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x5632, .f32⟩
  | .local _ .vmem, ⟨5, _⟩ => ⟨S256x5632, .f32⟩
  | .local _ .vmem, ⟨6, _⟩ => ⟨S256x1024, .f32⟩
  | .local _ .vmem, ⟨7, _⟩ => ⟨S256x1024, .f32⟩
  | .local _ .vmem, ⟨8, _⟩ => ⟨S1024x5632, .bf16⟩
  | .local _ .vmem, ⟨9, _⟩ => ⟨S8x5632, .f32⟩
  | .local _ .vmem, ⟨10, _⟩ => ⟨S2816x1024, .bf16⟩
  | .local _ .vmem, ⟨11, _⟩ => ⟨S1x1024, .f32⟩
  | .local _ .vmem, ⟨12, _⟩ => ⟨S256x5632, .bf16⟩
  | .local _ .vmem, ⟨13, _⟩ => ⟨S256x5632, .bf16⟩
  | .local _ .vmem, ⟨14, _⟩ => ⟨S256x1024, .f32⟩
  | .local _ .vmem, ⟨15, _⟩ => ⟨S256x1024, .f32⟩
  | .local _ .vmem, ⟨16, _⟩ => ⟨S3x5632, .f32⟩
  | .local _ .vmem, ⟨17, _⟩ => ⟨S1x1024, .f32⟩
  | .local _ .vmem, ⟨18, _⟩ => ⟨S8x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_call0_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev main_v40_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4096x5632 : Shape := ⟨2, ![4096, 5632]⟩
abbrev S4096 : Shape := ⟨1, ![4096]⟩
abbrev S4096x1 : Shape := ⟨2, ![4096, 1]⟩
abbrev S1x5632 : Shape := ⟨2, ![1, 5632]⟩
abbrev S5632 : Shape := ⟨1, ![5632]⟩
abbrev S2x5632 : Shape := ⟨2, ![2, 5632]⟩
abbrev S4094x5632 : Shape := ⟨2, ![4094, 5632]⟩
abbrev S4095x5632 : Shape := ⟨2, ![4095, 5632]⟩
abbrev S4096x2816 : Shape := ⟨2, ![4096, 2816]⟩
abbrev S1024 : Shape := ⟨1, ![1024]⟩

abbrev nBuf : Space → Nat
  | .hbm => 156
  | .vmem => 0
  | .smem => 0
  | _ => 0

abbrev hbmTy0_0 (i : Nat) : BufTy := match i % 128 with
  | 0 => ⟨S4096x1024, .f32⟩
  | 1 => ⟨S1x1024, .f32⟩
  | 2 => ⟨S1024x5632, .f32⟩
  | 3 => ⟨S3x5632, .f32⟩
  | 4 => ⟨S2816x1024, .f32⟩
  | 5 => ⟨S4096x1024, .f32⟩
  | 6 => ⟨S_, .f32⟩
  | 7 => ⟨S4096x5632, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x5632, .f32⟩
  | 28 => ⟨S4096x5632, .f32⟩
  | 29 => ⟨S1x5632, .f32⟩
  | 30 => ⟨S5632, .f32⟩
  | 31 => ⟨S_, .f32⟩
  | 32 => ⟨S2x5632, .f32⟩
  | 33 => ⟨S4094x5632, .f32⟩
  | 34 => ⟨S4096x5632, .f32⟩
  | 35 => ⟨S_, .f32⟩
  | 36 => ⟨S2x5632, .f32⟩
  | 37 => ⟨S1x5632, .f32⟩
  | 38 => ⟨S4096x5632, .f32⟩
  | 39 => ⟨S4096x5632, .f32⟩
  | 40 => ⟨S1x5632, .f32⟩
  | 41 => ⟨S5632, .f32⟩
  | 42 => ⟨S_, .f32⟩
  | 43 => ⟨S1x5632, .f32⟩
  | 44 => ⟨S4095x5632, .f32⟩
  | 45 => ⟨S4096x5632, .f32⟩
  | 46 => ⟨S_, .f32⟩
  | 47 => ⟨S1x5632, .f32⟩
  | 48 => ⟨S1x5632, .f32⟩
  | 49 => ⟨S4096x5632, .f32⟩
  | 50 => ⟨S4096x5632, .f32⟩
  | 51 => ⟨S4096x5632, .f32⟩
  | 52 => ⟨S1x5632, .f32⟩
  | 53 => ⟨S5632, .f32⟩
  | 54 => ⟨S1x5632, .f32⟩
  | 55 => ⟨S4096x5632, .f32⟩
  | 56 => ⟨S4096x5632, .f32⟩
  | 57 => ⟨S4096x5632, .f32⟩
  | 58 => ⟨S4096x2816, .f32⟩
  | 59 => ⟨S4096x2816, .f32⟩
  | 60 => ⟨S4096x2816, .f32⟩
  | 61 => ⟨S4096x2816, .f32⟩
  | 62 => ⟨S_, .f32⟩
  | 63 => ⟨S4096x2816, .f32⟩
  | 64 => ⟨S4096x2816, .f32⟩
  | 65 => ⟨S_, .f32⟩
  | 66 => ⟨S4096x2816, .f32⟩
  | 67 => ⟨S4096x2816, .f32⟩
  | 68 => ⟨S_, .f32⟩
  | 69 => ⟨S4096x2816, .f32⟩
  | 70 => ⟨S4096x2816, .f32⟩
  | 71 => ⟨S4096x2816, .f32⟩
  | 72 => ⟨S4096x2816, .f32⟩
  | 73 => ⟨S4096x2816, .f32⟩
  | 74 => ⟨S4096x1024, .f32⟩
  | 75 => ⟨S4096x1024, .f32⟩
  | 76 => ⟨S4096x1024, .f32⟩
  | 77 => ⟨S4096x2816, .f32⟩
  | 78 => ⟨S4096x2816, .f32⟩
  | 79 => ⟨S4096x2816, .f32⟩
  | 80 => ⟨S4096x2816, .f32⟩
  | 81 => ⟨S4096x2816, .f32⟩
  | 82 => ⟨S4096x2816, .f32⟩
  | 83 => ⟨S4096x2816, .f32⟩
  | 84 => ⟨S4096x5632, .f32⟩
  | 85 => ⟨S4096x5632, .f32⟩
  | 86 => ⟨S4096x5632, .f32⟩
  | 87 => ⟨S4096x5632, .f32⟩
  | 88 => ⟨S_, .f32⟩
  | 89 => ⟨S5632, .f32⟩
  | 90 => ⟨S1x5632, .f32⟩
  | 91 => ⟨S_, .f32⟩
  | 92 => ⟨S5632, .f32⟩
  | 93 => ⟨S1x5632, .f32⟩
  | 94 => ⟨S_, .f32⟩
  | 95 => ⟨S3x5632, .f32⟩
  | 96 => ⟨S4096x5632, .f32⟩
  | 97 => ⟨S4096x5632, .f32⟩
  | 98 => ⟨S4096x5632, .f32⟩
  | 99 => ⟨S_, .f32⟩
  | 100 => ⟨S5632, .f32⟩
  | 101 => ⟨S1x5632, .f32⟩
  | 102 => ⟨S_, .f32⟩
  | 103 => ⟨S5632, .f32⟩
  | 104 => ⟨S1x5632, .f32⟩
  | 105 => ⟨S4095x5632, .f32⟩
  | 106 => ⟨S_, .f32⟩
  | 107 => ⟨S4096x5632, .f32⟩
  | 108 => ⟨S4096x5632, .f32⟩
  | 109 => ⟨S1x5632, .f32⟩
  | 110 => ⟨S_, .f32⟩
  | 111 => ⟨S3x5632, .f32⟩
  | 112 => ⟨S3x5632, .f32⟩
  | 113 => ⟨S4096x5632, .f32⟩
  | 114 => ⟨S4096x5632, .f32⟩
  | 115 => ⟨S4096x5632, .f32⟩
  | 116 => ⟨S_, .f32⟩
  | 117 => ⟨S5632, .f32⟩
  | 118 => ⟨S1x5632, .f32⟩
  | 119 => ⟨S_, .f32⟩
  | 120 => ⟨S5632, .f32⟩
  | 121 => ⟨S2x5632, .f32⟩
  | 122 => ⟨S4094x5632, .f32⟩
  | 123 => ⟨S_, .f32⟩
  | 124 => ⟨S4096x5632, .f32⟩
  | 125 => ⟨S4096x5632, .f32⟩
  | 126 => ⟨S1x5632, .f32⟩
  | 127 => ⟨S_, .f32⟩
  | _ => ⟨S4096x1024, .f32⟩

abbrev hbmTy0_1 (i : Nat) : BufTy := match i % 128 with
  | 0 => ⟨S3x5632, .f32⟩
  | 1 => ⟨S3x5632, .f32⟩
  | 2 => ⟨S4096x1024, .f32⟩
  | 3 => ⟨S4096x1024, .f32⟩
  | 4 => ⟨S_, .f32⟩
  | 5 => ⟨S1024, .f32⟩
  | 6 => ⟨S1x1024, .f32⟩
  | 7 => ⟨S4096x1024, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S4096x1024, .f32⟩
  | 14 => ⟨S4096x1024, .f32⟩
  | 15 => ⟨S4096x1024, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096, .f32⟩
  | 22 => ⟨S4096x1024, .f32⟩
  | 23 => ⟨S4096x1024, .f32⟩
  | 24 => ⟨S4096x1024, .f32⟩
  | 25 => ⟨S4096x1024, .f32⟩
  | 26 => ⟨S4096x1024, .f32⟩
  | 27 => ⟨S4096x5632, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_v45_2 : Ref sig .tc := ⟨.hbm, 67, rfl⟩
abbrev main_call0_cst_1 : Ref sig .tc := ⟨.hbm, 68, rfl⟩
abbrev main_call0_v6 : Ref sig .tc := ⟨.hbm, 69, rfl⟩
abbrev main_call0_v7 : Ref sig .tc := ⟨.hbm, 70, rfl⟩
abbrev main_v45_1 : Ref sig .tc := ⟨.hbm, 71, rfl⟩
abbrev main_v45_0 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_8 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_cst_12 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_15 : Ref sig .tc := ⟨.hbm, 116, rfl⟩
abbrev main_v79 : Ref sig .tc := ⟨.hbm, 117, rfl⟩
abbrev main_v80 : Ref sig .tc := ⟨.hbm, 118, rfl⟩
abbrev main_cst_16 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_17 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_18 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_19 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_21 : Ref sig .tc := ⟨.hbm, 145, rfl⟩
abbrev main_v102 : Ref sig .tc := ⟨.hbm, 146, rfl⟩
abbrev main_v103 : Ref sig .tc := ⟨.hbm, 147, rfl⟩
abbrev main_cst_22 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x5632 : Shape := ⟨2, ![8, 5632]⟩
abbrev S4096x5632 : Shape := ⟨2, ![4096, 5632]⟩
abbrev S4096x2816 : Shape := ⟨2, ![4096, 2816]⟩
abbrev S1x128 : Shape := ⟨2, ![1, 128]⟩
abbrev S256x1024 : Shape := ⟨2, ![256, 1024]⟩
abbrev S256x5632 : Shape := ⟨2, ![256, 5632]⟩
abbrev S256x2816 : Shape := ⟨2, ![256, 2816]⟩
abbrev S16x5632 : Shape := ⟨2, ![16, 5632]⟩
abbrev S1x5632 : Shape := ⟨2, ![1, 5632]⟩
abbrev S248x5632 : Shape := ⟨2, ![248, 5632]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 35
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S_, .i32⟩
  | .hbm, ⟨24, _⟩ => ⟨S_, .f32⟩
  | .hbm, ⟨25, _⟩ => ⟨S8x5632, .f32⟩
  | .hbm, ⟨26, _⟩ => ⟨S1024x5632, .bf16⟩
  | .hbm, ⟨27, _⟩ => ⟨S2816x1024, .bf16⟩
  | .hbm, ⟨28, _⟩ => ⟨S1x1024, .f32⟩
  | .hbm, ⟨29, _⟩ => ⟨S4096x5632, .bf16⟩
  | .hbm, ⟨30, _⟩ => ⟨S4096x5632, .f32⟩
  | .hbm, ⟨31, _⟩ => ⟨S4096x2816, .bf16⟩
  | .hbm, ⟨32, _⟩ => ⟨S4096x1024, .f32⟩
  | .hbm, ⟨33, _⟩ => ⟨S1x128, .f32⟩
  | .hbm, ⟨34, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x5632, .bf16⟩
  | .local _ .vmem, ⟨5, _⟩ => ⟨S8x5632, .f32⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x5632, .bf16⟩
  | .local _ .vmem, ⟨11, _⟩ => ⟨S256x5632, .bf16⟩
  | .local _ .vmem, ⟨12, _⟩ => ⟨S256x5632, .f32⟩
  | .local _ .vmem, ⟨13, _⟩ => ⟨S256x5632, .f32⟩
  | .local _ .vmem, ⟨14, _⟩ => ⟨S256x2816, .bf16⟩
  | .local _ .vmem, ⟨15, _⟩ => ⟨S256x2816, .bf16⟩
  | .local _ .vmem, ⟨16, _⟩ => ⟨S256x1024, .f32⟩
  | .local _ .vmem, ⟨17, _⟩ => ⟨S256x1024, .f32⟩
  | .local _ .vmem, ⟨18, _⟩ => ⟨S1x128, .f32⟩
  | .local _ .vmem, ⟨19, _⟩ => ⟨S1x1024, .f32⟩
  | .local _ .vmem, ⟨20, _⟩ => ⟨S8x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_v17_4 : Ref sig .tc := ⟨.hbm, 33, rfl⟩
abbrev main_v17_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S4096x1024 : Shape := ⟨2, ![4096, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1x5632 : Shape := ⟨2, ![1, 5632]⟩
abbrev S5632 : Shape := ⟨1, ![5632]⟩
abbrev S2x5632 : Shape := ⟨2, ![2, 5632]⟩
abbrev S4094x5632 : Shape := ⟨2, ![4094, 5632]⟩
abbrev S4095x5632 : Shape := ⟨2, ![4095, 5632]⟩
abbrev S4096x2816 : Shape := ⟨2, ![4096, 2816]⟩
abbrev S1x128 : Shape := ⟨2, ![1, 128]⟩

abbrev nBuf : Space → Nat
  | .hbm => 134
  | .vmem => 0
  | .smem => 0
  | _ => 0

abbrev hbmTy0_0 (i : Nat) : BufTy := match i % 128 with
  | 0 => ⟨S4096x1024, .f32⟩
  | 1 => ⟨S1x1024, .f32⟩
  | 2 => ⟨S1024x5632, .f32⟩
  | 3 => ⟨S3x5632, .f32⟩
  | 4 => ⟨S2816x1024, .f32⟩
  | 5 => ⟨S1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S4096x1024, .f32⟩
  | 22 => ⟨S4096x5632, .f32⟩
  | 23 => ⟨S1x5632, .f32⟩
  | 24 => ⟨S5632, .f32⟩
  | 25 => ⟨S_, .f32⟩
  | 26 => ⟨S2x5632, .f32⟩
  | 27 => ⟨S4094x5632, .f32⟩
  | 28 => ⟨S4096x5632, .f32⟩
  | 29 => ⟨S1x5632, .f32⟩
  | 30 => ⟨S4096x5632, .f32⟩
  | 31 => ⟨S4096x5632, .f32⟩
  | 32 => ⟨S1x5632, .f32⟩
  | 33 => ⟨S5632, .f32⟩
  | 34 => ⟨S_, .f32⟩
  | 35 => ⟨S1x5632, .f32⟩
  | 36 => ⟨S4095x5632, .f32⟩
  | 37 => ⟨S4096x5632, .f32⟩
  | 38 => ⟨S1x5632, .f32⟩
  | 39 => ⟨S4096x5632, .f32⟩
  | 40 => ⟨S4096x5632, .f32⟩
  | 41 => ⟨S4096x5632, .f32⟩
  | 42 => ⟨S1x5632, .f32⟩
  | 43 => ⟨S5632, .f32⟩
  | 44 => ⟨S1x5632, .f32⟩
  | 45 => ⟨S4096x5632, .f32⟩
  | 46 => ⟨S4096x5632, .f32⟩
  | 47 => ⟨S4096x5632, .f32⟩
  | 48 => ⟨S4096x2816, .f32⟩
  | 49 => ⟨S4096x2816, .f32⟩
  | 50 => ⟨S4096x2816, .f32⟩
  | 51 => ⟨S4096x2816, .f32⟩
  | 52 => ⟨S_, .f32⟩
  | 53 => ⟨S4096x2816, .f32⟩
  | 54 => ⟨S4096x2816, .f32⟩
  | 55 => ⟨S_, .f32⟩
  | 56 => ⟨S4096x2816, .f32⟩
  | 57 => ⟨S4096x2816, .f32⟩
  | 58 => ⟨S4096x2816, .f32⟩
  | 59 => ⟨S4096x2816, .f32⟩
  | 60 => ⟨S4096x1024, .f32⟩
  | 61 => ⟨S4096x1024, .f32⟩
  | 62 => ⟨S4096x1024, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1024, .f32⟩
  | 78 => ⟨S4096x1024, .f32⟩
  | 79 => ⟨S1x1024, .f32⟩
  | 80 => ⟨S4096x1024, .f32⟩
  | 81 => ⟨S4096x1024, .f32⟩
  | 82 => ⟨S4096x1024, .f32⟩
  | 83 => ⟨S4096x1024, .f32⟩
  | 84 => ⟨S_, .f32⟩
  | 85 => ⟨S4096x1024, .f32⟩
  | 86 => ⟨S4096x1024, .f32⟩
  | 87 => ⟨S_, .f32⟩
  | 88 => ⟨S4096, .f32⟩
  | 89 => ⟨S_, .f32⟩
  | 90 => ⟨S4096, .f32⟩
  | 91 => ⟨S4096, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S4096, .f32⟩
  | 100 => ⟨S_, .f32⟩
  | 101 => ⟨S4096, .f32⟩
  | 102 => ⟨S4096, .f32⟩
  | 103 => ⟨S4096x1024, .f32⟩
  | 104 => ⟨S4096x1024, .f32⟩
  | 105 => ⟨S4096x1024, .f32⟩
  | 106 => ⟨S_, .f32⟩
  | 107 => ⟨S1024, .f32⟩
  | 108 => ⟨S1x1024, .f32⟩
  | 109 => ⟨S4096x1024, .f32⟩
  | 110 => ⟨S4096x1024, .f32⟩
  | 111 => ⟨S_, .f32⟩
  | 112 => ⟨S1024, .f32⟩
  | 113 => ⟨S4096x1024, .f32⟩
  | 114 => ⟨S_, .f32⟩
  | 115 => ⟨S4096, .f32⟩
  | 116 => ⟨S4096x1, .f32⟩
  | 117 => ⟨S4096x1024, .f32⟩
  | 118 => ⟨S4096x1024, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x5632, .bf16⟩
  | 3 => ⟨S4096x2816, .bf16⟩
  | 4 => ⟨S1x128, .f32⟩
  | 5 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_cst_12 : Ref sig .tc := ⟨.hbm, 94, rfl⟩
abbrev main_v66 : Ref sig .tc := ⟨.hbm, 95, rfl⟩
abbrev main_cst_13 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_17 : Ref sig .tc := ⟨.hbm, 111, rfl⟩
abbrev main_v78 : Ref sig .tc := ⟨.hbm, 112, rfl⟩
abbrev main_v79 : Ref sig .tc := ⟨.hbm, 113, rfl⟩
abbrev main_cst_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_19 : Ref sig .tc := ⟨.hbm, 120, rfl⟩
abbrev main_v85 : Ref sig .tc := ⟨.hbm, 121, rfl⟩
abbrev main_v86 : Ref sig .tc := ⟨.hbm, 122, rfl⟩
abbrev main_cst_20 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x4352 : Shape := ⟨2, ![1024, 4352]⟩
abbrev S4096x512 : Shape := ⟨2, ![4096, 512]⟩
abbrev S4096x128 : Shape := ⟨2, ![4096, 128]⟩
abbrev S4096x1536 : Shape := ⟨2, ![4096, 1536]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S16x2x128x128 : Shape := ⟨4, ![16, 2, 128, 128]⟩
abbrev S16x1x128x128 : Shape := ⟨4, ![16, 1, 128, 128]⟩
abbrev S16x128x128 : Shape := ⟨3, ![16, 128, 128]⟩
abbrev S2048x128 : Shape := ⟨2, ![2048, 128]⟩
abbrev S4352x1024 : Shape := ⟨2, ![4352, 1024]⟩
abbrev S1x4352 : Shape := ⟨2, ![1, 4352]⟩
abbrev S256x512 : Shape := ⟨2, ![256, 512]⟩
abbrev S128x128 : Shape := ⟨2, ![128, 128]⟩
abbrev S256x1536 : Shape := ⟨2, ![256, 1536]⟩
abbrev S256x2048 : Shape := ⟨2, ![256, 2048]⟩
abbrev S256x1024 : Shape := ⟨2, ![256, 1024]⟩
abbrev S256x128 : Shape := ⟨2, ![256, 128]⟩
abbrev S256x4352 : Shape := ⟨2, ![256, 4352]⟩
abbrev S4352 : Shape := ⟨1, ![4352]⟩
abbrev S256 : Shape := ⟨1, ![256]⟩
abbrev S256x1 : Shape := ⟨2, ![256, 1]⟩
abbrev S1024 : Shape := ⟨1, ![1024]⟩

abbrev nBuf : Space → Nat
  | .hbm => 54
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4352, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S4096x1536, .f32⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | .hbm, ⟨25, _⟩ => ⟨S4096x512, .bf16⟩
  | .hbm, ⟨26, _⟩ => ⟨S4096x128, .bf16⟩
  | .hbm, ⟨27, _⟩ => ⟨S16x2x128x128, .bf16⟩
  | .hbm, ⟨28, _⟩ => ⟨S16x1x128x128, .bf16⟩
  | .hbm, ⟨29, _⟩ => ⟨S16x128x128, .bf16⟩
  | .hbm, ⟨30, _⟩ => ⟨S2048x128, .bf16⟩
  | .hbm, ⟨31, _⟩ => ⟨S4096x128, .bf16⟩
  | .hbm, ⟨32, _⟩ => ⟨S16x2x128x128, .bf16⟩
  | .hbm, ⟨33, _⟩ => ⟨S16x1x128x128, .bf16⟩
  | .hbm, ⟨34, _⟩ => ⟨S16x128x128, .bf16⟩
  | .hbm, ⟨35, _⟩ => ⟨S2048x128, .bf16⟩
  | .hbm, ⟨36, _⟩ => ⟨S4096x128, .bf16⟩
  | .hbm, ⟨37, _⟩ => ⟨S16x2x128x128, .bf16⟩
  | .hbm, ⟨38, _⟩ => ⟨S16x1x128x128, .bf16⟩
  | .hbm, ⟨39, _⟩ => ⟨S16x128x128, .bf16⟩
  | .hbm, ⟨40, _⟩ => ⟨S2048x128, .bf16⟩
  | .hbm, ⟨41, _⟩ => ⟨S4096x128, .bf16⟩
  | .hbm, ⟨42, _⟩ => ⟨S16x2x128x128, .bf16⟩
  | .hbm, ⟨43, _⟩ => ⟨S16x1x128x128, .bf16⟩
  | .hbm, ⟨44, _⟩ => ⟨S16x128x128, .bf16⟩
  | .hbm, ⟨45, _⟩ => ⟨S2048x128, .bf16⟩
  | .hbm, ⟨46, _⟩ => ⟨S4096x1536, .bf16⟩
  | .hbm, ⟨47, _⟩ => ⟨S4096x2048, .bf16⟩
  | .hbm, ⟨48, _⟩ => ⟨S4352x1024, .f32⟩
  | .hbm, ⟨49, _⟩ => ⟨S4352x1024, .bf16⟩
  | .hbm, ⟨50, _⟩ => ⟨S4096x1024, .f32⟩
  | .hbm, ⟨51, _⟩ => ⟨S4352x1024, .bf16⟩
  | .hbm, ⟨52, _⟩ => ⟨S1x4352, .f32⟩
  | .hbm, ⟨53, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S256x1536, .bf16⟩
  | .local _ .vmem, ⟨11, _⟩ => ⟨S256x1536, .bf16⟩
  | .local _ .vmem, ⟨12, _⟩ => ⟨S256x2048, .bf16⟩
  | .local _ .vmem, ⟨13, _⟩ => ⟨S256x2048, .bf16⟩
  | .local _ .vmem, ⟨14, _⟩ => ⟨S4352x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S4352x1024, .bf16⟩
  | .local _ .vmem, ⟨25, _⟩ => ⟨S1x4352, .f32⟩
  | .local _ .vmem, ⟨26, _⟩ => ⟨S1x1024, .f32⟩
  | .local _ .vmem, ⟨27, _⟩ => ⟨S4352x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38_0 : Ref sig .tc := ⟨.hbm, 50, rfl⟩
abbrev main_v38_1 : Ref sig .tc := ⟨.hbm, 51, rfl⟩
abbrev main_v38_2 : Ref sig .tc := ⟨.hbm, 52, rfl⟩
abbrev main_v38_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v72 : BitVec 1 := Scalar.cmpi .eq arg0 c15_i32
  let v73 : BitVec 32 := Scalar.extui v72
  let c0_i32_46 : BitVec 32 := 0#32
  let v74 : BitVec 1 := Scalar.cmpi .ne v73 c0_i32_46
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4352x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4352 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S4096x1024 : Shape := ⟨2, ![4096, 1024]⟩
abbrev S1x1024 : Shape := ⟨2, ![1, 1024]⟩
abbrev S1024x4352 : Shape := ⟨2, ![1024, 4352]⟩
abbrev S4096x512 : Shape := ⟨2, ![4096, 512]⟩
abbrev S4096x128 : Shape := ⟨2, ![4096, 128]⟩
abbrev S4096x1536 : Shape := ⟨2, ![4096, 1536]⟩
abbrev S4096x2048 : Shape := ⟨2, ![4096, 2048]⟩
abbrev S_ : Shape := ⟨0, ![]⟩
abbrev S1x4352 : Shape := ⟨2, ![1, 4352]⟩
abbrev S4096 : Shape := ⟨1, ![4096]⟩
abbrev S4096x1 : Shape := ⟨2, ![4096, 1]⟩
abbrev S4096x4352 : Shape := ⟨2, ![4096, 4352]⟩
abbrev S4352 : Shape := ⟨1, ![4352]⟩
abbrev S4352x1024 : Shape := ⟨2, ![4352, 1024]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4352, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S4096x1536, .f32⟩
  | .hbm, ⟨7, _⟩ => ⟨S4096x2048, .f32⟩
  | .hbm, ⟨8, _⟩ => ⟨S4096x1024, .f32⟩
  | .hbm, ⟨9, _⟩ => ⟨S_, .f32⟩
  | .hbm, ⟨10, _⟩ => ⟨S1x4352, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x4352, .f32⟩
  | .hbm, ⟨31, _⟩ => ⟨S4096x4352, .f32⟩
  | .hbm, ⟨32, _⟩ => ⟨S4096x4352, .f32⟩
  | .hbm, ⟨33, _⟩ => ⟨S4096x512, .f32⟩
  | .hbm, ⟨34, _⟩ => ⟨S4096x128, .f32⟩
  | .hbm, ⟨35, _⟩ => ⟨S4096x128, .f32⟩
  | .hbm, ⟨36, _⟩ => ⟨S4096x1536, .f32⟩
  | .hbm, ⟨37, _⟩ => ⟨S4096x2048, .f32⟩
  | .hbm, ⟨38, _⟩ => ⟨S4096x4352, .f32⟩
  | .hbm, ⟨39, _⟩ => ⟨S_, .f32⟩
  | .hbm, ⟨40, _⟩ => ⟨S4352, .f32⟩
  | .hbm, ⟨41, _⟩ => ⟨S1x4352, .f32⟩
  | .hbm, ⟨42, _⟩ => ⟨S4352x1024, .f32⟩
  | .hbm, ⟨43, _⟩ => ⟨S1024x4352, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4352x1024, .f32⟩
  | .hbm, ⟨70, _⟩ => ⟨S4352x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x4352 : Shape := ⟨2, ![1024, 4352]⟩
abbrev S1x4352 : Shape := ⟨2, ![1, 4352]⟩
abbrev S4352x1024 : Shape := ⟨2, ![4352, 1024]⟩
abbrev S4096x768 : Shape := ⟨2, ![4096, 768]⟩
abbrev S4096x1536 : Shape := ⟨2, ![4096, 1536]⟩
abbrev S4096x2048 : Shape := ⟨2, ![4096, 2048]⟩
abbrev S512x1024 : Shape := ⟨2, ![512, 1024]⟩
abbrev S512x768 : Shape := ⟨2, ![512, 768]⟩
abbrev S512x1536 : Shape := ⟨2, ![512, 1536]⟩
abbrev S512x2048 : Shape := ⟨2, ![512, 2048]⟩
abbrev S512 : Shape := ⟨1, ![512]⟩
abbrev S512x1 : Shape := ⟨2, ![512, 1]⟩
abbrev S512x4352 : Shape := ⟨2, ![512, 4352]⟩

abbrev nBuf : Space → Nat
  | .hbm => 10
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4352, .f32⟩
  | .hbm, ⟨3, _⟩ => ⟨S1x4352, .f32⟩
  | .hbm, ⟨4, _⟩ => ⟨S4352x1024, .f32⟩
  | .hbm, ⟨5, _⟩ => ⟨S4352x1024, .bf16⟩
  | .hbm, ⟨6, _⟩ => ⟨S4096x1024, .bf16⟩
  | .hbm, ⟨7, _⟩ => ⟨S4096x768, .bf16⟩
  | .hbm, ⟨8, _⟩ => ⟨S4096x1536, .bf16⟩
  | .hbm, ⟨9, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4352x1024, .bf16⟩
  | .local _ .vmem, ⟨4, _⟩ => ⟨S1x4352, .f32⟩
  | .local _ .vmem, ⟨5, _⟩ => ⟨S512x1024, .bf16⟩
  | .local _ .vmem, ⟨6, _⟩ => ⟨S512x1024, .bf16⟩
  | .local _ .vmem, ⟨7, _⟩ => ⟨S512x768, .bf16⟩
  | .local _ .vmem, ⟨8, _⟩ => ⟨S512x768, .bf16⟩
  | .local _ .vmem, ⟨9, _⟩ => ⟨S512x1536, .bf16⟩
  | .local _ .vmem, ⟨10, _⟩ => ⟨S512x1536, .bf16⟩
  | .local _ .vmem, ⟨11, _⟩ => ⟨S512x2048, .bf16⟩
  | .local _ .vmem, ⟨12, _⟩ => ⟨S512x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4096x1024 : Shape := ⟨2, ![4096, 1024]⟩
abbrev S1x1024 : Shape := ⟨2, ![1, 1024]⟩
abbrev S1024x4352 : Shape := ⟨2, ![1024, 4352]⟩
abbrev S1x4352 : Shape := ⟨2, ![1, 4352]⟩
abbrev S_ : Shape := ⟨0, ![]⟩
abbrev S4096 : Shape := ⟨1, ![4096]⟩
abbrev S4096x1 : Shape := ⟨2, ![4096, 1]⟩
abbrev S4096x4352 : Shape := ⟨2, ![4096, 4352]⟩
abbrev S4096x768 : Shape := ⟨2, ![4096, 768]⟩
abbrev S4096x1536 : Shape := ⟨2, ![4096, 1536]⟩
abbrev S4096x2048 : Shape := ⟨2, ![4096, 2048]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4352, .f32⟩
  | .hbm, ⟨3, _⟩ => ⟨S1x4352, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4352, .f32⟩
  | .hbm, ⟨20, _⟩ => ⟨S4096x4352, .f32⟩
  | .hbm, ⟨21, _⟩ => ⟨S4096x4352, .f32⟩
  | .hbm, ⟨22, _⟩ => ⟨S4096x768, .f32⟩
  | .hbm, ⟨23, _⟩ => ⟨S4096x1536, .f32⟩
  | .hbm, ⟨24, _⟩ => ⟨S4096x2048, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x768, .bf16⟩
  | .hbm, ⟨42, _⟩ => ⟨S4096x1536, .bf16⟩
  | .hbm, ⟨43, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S1024x1408 : Shape := ⟨2, ![1024, 1408]⟩
abbrev S704x1024 : Shape := ⟨2, ![704, 1024]⟩
abbrev S128x1408 : Shape := ⟨2, ![128, 1408]⟩
abbrev S8x128 : Shape := ⟨2, ![8, 128]⟩

abbrev nBuf : Space → Nat
  | .hbm => 9
  | .vmem => 17
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S704x1024, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S8x128, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | .local _ .vmem, ⟨16, _⟩ => ⟨S128x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S1024x1408 : Shape := ⟨2, ![1024, 1408]⟩
abbrev S704x1024 : Shape := ⟨2, ![704, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S704x1024, .f32⟩
  | .hbm, ⟨5, _⟩ => ⟨S_, .f32⟩
  | .hbm, ⟨6, _⟩ => ⟨S1024x1408, .f32⟩
  | .hbm, ⟨7, _⟩ => ⟨S1024x1408, .f32⟩
  | .hbm, ⟨8, _⟩ => ⟨S_, .f32⟩
  | .hbm, ⟨9, _⟩ => ⟨S1024x1408, .f32⟩
  | .hbm, ⟨10, _⟩ => ⟨S1024x1408, .f32⟩
  | .hbm, ⟨11, _⟩ => ⟨S1024x1408, .f32⟩
  | .hbm, ⟨12, _⟩ => ⟨S_, .f32⟩
  | .hbm, ⟨13, _⟩ => ⟨S1024x1408, .f32⟩
  | .hbm, ⟨14, _⟩ => ⟨S1024x1408, .f32⟩
  | .hbm, ⟨15, _⟩ => ⟨S1024x1408, .f32⟩
  | .hbm, ⟨16, _⟩ => ⟨S_, .f32⟩
  | .hbm, ⟨17, _⟩ => ⟨S1024x1408, .f32⟩
  | .hbm, ⟨18, _⟩ => ⟨S1024x1408, .f32⟩
  | .hbm, ⟨19, _⟩ => ⟨S1024x1408, .f32⟩
  | .hbm, ⟨20, _⟩ => ⟨S_, .f32⟩
  | .hbm, ⟨21, _⟩ => ⟨S1024x1408, .f32⟩
  | .hbm, ⟨22, _⟩ => ⟨S1024x1408, .f32⟩
  | .hbm, ⟨23, _⟩ => ⟨S_, .f32⟩
  | .hbm, ⟨24, _⟩ => ⟨S1024x1408, .f32⟩
  | .hbm, ⟨25, _⟩ => ⟨S1024x1408, .f32⟩
  | .hbm, ⟨26, _⟩ => ⟨S1024x1408, .f32⟩
  | .hbm, ⟨27, _⟩ => ⟨S_, .f32⟩
  | .hbm, ⟨28, _⟩ => ⟨S1024x1408, .f32⟩
  | .hbm, ⟨29, _⟩ => ⟨S1024x1408, .f32⟩
  | .hbm, ⟨30, _⟩ => ⟨S1024x1408, .f32⟩
  | .hbm, ⟨31, _⟩ => ⟨S_, .f32⟩
  | .hbm, ⟨32, _⟩ => ⟨S1024x1408, .f32⟩
  | .hbm, ⟨33, _⟩ => ⟨S1024x1408, .f32⟩
  | .hbm, ⟨34, _⟩ => ⟨S1024x1408, .f32⟩
  | .hbm, ⟨35, _⟩ => ⟨S_, .f32⟩
  | .hbm, ⟨36, _⟩ => ⟨S1024x1408, .f32⟩
  | .hbm, ⟨37, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel8.lean ====
abbrev S256x1024 : Shape := ⟨2, ![256, 1024]⟩
abbrev S1024x1408 : Shape := ⟨2, ![1024, 1408]⟩
abbrev S8x128 : Shape := ⟨2, ![8, 128]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S1024x1408, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x128, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference8Ideal.lean ====
abbrev S256x1024 : Shape := ⟨2, ![256, 1024]⟩
abbrev S1024x1408 : Shape := ⟨2, ![1024, 1408]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S1024x1408, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel9.lean ====
abbrev S1024x1088 : Shape := ⟨2, ![1024, 1088]⟩
abbrev S1088x1024 : Shape := ⟨2, ![1088, 1024]⟩
abbrev S272x1024 : Shape := ⟨2, ![272, 1024]⟩

abbrev nBuf : Space → Nat
  | .hbm => 12
  | .vmem => 16
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S1088x1024, .f32⟩
  | .hbm, ⟨5, _⟩ => ⟨S1088x1024, .f32⟩
  | .hbm, ⟨6, _⟩ => ⟨S1088x1024, .f32⟩
  | .hbm, ⟨7, _⟩ => ⟨S1088x1024, .f32⟩
  | .hbm, ⟨8, _⟩ => ⟨S1088x1024, .f32⟩
  | .hbm, ⟨9, _⟩ => ⟨S1088x1024, .f32⟩
  | .hbm, ⟨10, _⟩ => ⟨S1088x1024, .f32⟩
  | .hbm, ⟨11, _⟩ => ⟨S1088x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .f32⟩
  | .local _ .vmem, ⟨11, _⟩ => ⟨S272x1024, .f32⟩
  | .local _ .vmem, ⟨12, _⟩ => ⟨S272x1024, .f32⟩
  | .local _ .vmem, ⟨13, _⟩ => ⟨S272x1024, .f32⟩
  | .local _ .vmem, ⟨14, _⟩ => ⟨S272x1024, .f32⟩
  | .local _ .vmem, ⟨15, _⟩ => ⟨S272x1024, .f32⟩
  | _, _ => ⟨S1024x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S1024x1088 : Shape := ⟨2, ![1024, 1088]⟩
abbrev S_ : Shape := ⟨0, ![]⟩
abbrev S1088x1024 : Shape := ⟨2, ![1088, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024x1088, .f32⟩
  | .hbm, ⟨1, _⟩ => ⟨S1024x1088, .f32⟩
  | .hbm, ⟨2, _⟩ => ⟨S1024x1088, .f32⟩
  | .hbm, ⟨3, _⟩ => ⟨S1024x1088, .f32⟩
  | .hbm, ⟨4, _⟩ => ⟨S_, .f32⟩
  | .hbm, ⟨5, _⟩ => ⟨S1024x1088, .f32⟩
  | .hbm, ⟨6, _⟩ => ⟨S1024x1088, .f32⟩
  | .hbm, ⟨7, _⟩ => ⟨S_, .f32⟩
  | .hbm, ⟨8, _⟩ => ⟨S1024x1088, .f32⟩
  | .hbm, ⟨9, _⟩ => ⟨S1024x1088, .f32⟩
  | .hbm, ⟨10, _⟩ => ⟨S1024x1088, .f32⟩
  | .hbm, ⟨11, _⟩ => ⟨S_, .f32⟩
  | .hbm, ⟨12, _⟩ => ⟨S1024x1088, .f32⟩
  | .hbm, ⟨13, _⟩ => ⟨S1024x1088, .f32⟩
  | .hbm, ⟨14, _⟩ => ⟨S1024x1088, .f32⟩
  | .hbm, ⟨15, _⟩ => ⟨S_, .f32⟩
  | .hbm, ⟨16, _⟩ => ⟨S1024x1088, .f32⟩
  | .hbm, ⟨17, _⟩ => ⟨S1024x1088, .f32⟩
  | .hbm, ⟨18, _⟩ => ⟨S1024x1088, .f32⟩
  | .hbm, ⟨19, _⟩ => ⟨S_, .f32⟩
  | .hbm, ⟨20, _⟩ => ⟨S1024x1088, .f32⟩
  | .hbm, ⟨21, _⟩ => ⟨S1024x1088, .f32⟩
  | .hbm, ⟨22, _⟩ => ⟨S_, .f32⟩
  | .hbm, ⟨23, _⟩ => ⟨S1024x1088, .f32⟩
  | .hbm, ⟨24, _⟩ => ⟨S1024x1088, .f32⟩
  | .hbm, ⟨25, _⟩ => ⟨S1024x1088, .f32⟩
  | .hbm, ⟨26, _⟩ => ⟨S_, .f32⟩
  | .hbm, ⟨27, _⟩ => ⟨S1024x1088, .f32⟩
  | .hbm, ⟨28, _⟩ => ⟨S1024x1088, .f32⟩
  | .hbm, ⟨29, _⟩ => ⟨S1024x1088, .f32⟩
  | .hbm, ⟨30, _⟩ => ⟨S_, .f32⟩
  | .hbm, ⟨31, _⟩ => ⟨S1024x1088, .f32⟩
  | .hbm, ⟨32, _⟩ => ⟨S1024x1088, .f32⟩
  | .hbm, ⟨33, _⟩ => ⟨S1024x1088, .f32⟩
  | .hbm, ⟨34, _⟩ => ⟨S_, .f32⟩
  | .hbm, ⟨35, _⟩ => ⟨S1024x1088, .f32⟩
  | .hbm, ⟨36, _⟩ => ⟨S1024x1088, .f32⟩
  | .hbm, ⟨37, _⟩ => ⟨S1088x1024, .f32⟩
  | .hbm, ⟨38, _⟩ => ⟨S1088x1024, .f32⟩
  | .hbm, ⟨39, _⟩ => ⟨S1088x1024, .f32⟩
  | .hbm, ⟨40, _⟩ => ⟨S1088x1024, .f32⟩
  | _, _ => ⟨S1024x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel10.lean ====
abbrev S512x256 : Shape := ⟨2, ![512, 256]⟩
abbrev S256x1024 : Shape := ⟨2, ![256, 1024]⟩
abbrev S1024x256 : Shape := ⟨2, ![1024, 256]⟩

abbrev nBuf : Space → Nat
  | .hbm => 18
  | .vmem => 15
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S256x1024, .f32⟩
  | .hbm, ⟨9, _⟩ => ⟨S1024x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S512x256, .f32⟩
  | .hbm, ⟨17, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1024x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Reference10Ideal.lean ====
abbrev S512x256 : Shape := ⟨2, ![512, 256]⟩
abbrev S256x1024 : Shape := ⟨2, ![256, 1024]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .hbm, ⟨8, _⟩ => ⟨S256x1024, .f32⟩
  | .hbm, ⟨9, _⟩ => ⟨S_, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S_, .f32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S_, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512x256, .f32⟩
  | .hbm, ⟨33, _⟩ => ⟨S512x256, .f32⟩
  | .hbm, ⟨34, _⟩ => ⟨S512x256, .f32⟩
  | .hbm, ⟨35, _⟩ => ⟨S_, .f32⟩
  | .hbm, ⟨36, _⟩ => ⟨S512x256, .f32⟩
  | .hbm, ⟨37, _⟩ => ⟨S512x256, .f32⟩
  | .hbm, ⟨38, _⟩ => ⟨S512x256, .f32⟩
  | .hbm, ⟨39, _⟩ => ⟨S_, .f32⟩
  | .hbm, ⟨40, _⟩ => ⟨S512x256, .f32⟩
  | .hbm, ⟨41, _⟩ => ⟨S512x256, .f32⟩
  | .hbm, ⟨42, _⟩ => ⟨S_, .f32⟩
  | .hbm, ⟨43, _⟩ => ⟨S512x256, .f32⟩
  | .hbm, ⟨44, _⟩ => ⟨S512x256, .f32⟩
  | .hbm, ⟨45, _⟩ => ⟨S_, .f32⟩
  | .hbm, ⟨46, _⟩ => ⟨S512x256, .f32⟩
  | .hbm, ⟨47, _⟩ => ⟨S512x256, .f32⟩
  | .hbm, ⟨48, _⟩ => ⟨S512x256, .f32⟩
  | .hbm, ⟨49, _⟩ => ⟨S_, .f32⟩
  | .hbm, ⟨50, _⟩ => ⟨S512x256, .f32⟩
  | .hbm, ⟨51, _⟩ => ⟨S512x256, .f32⟩
  | .hbm, ⟨52, _⟩ => ⟨S512x256, .f32⟩
  | .hbm, ⟨53, _⟩ => ⟨S_, .f32⟩
  | .hbm, ⟨54, _⟩ => ⟨S512x256, .f32⟩
  | .hbm, ⟨55, _⟩ => ⟨S512x256, .f32⟩
  | .hbm, ⟨56, _⟩ => ⟨S512x256, .f32⟩
  | .hbm, ⟨57, _⟩ => ⟨S_, .f32⟩
  | .hbm, ⟨58, _⟩ => ⟨S512x256, .f32⟩
  | .hbm, ⟨59, _⟩ => ⟨S512x256, .f32⟩
  | .hbm, ⟨60, _⟩ => ⟨S_, .f32⟩
  | .hbm, ⟨61, _⟩ => ⟨S512x256, .f32⟩
  | .hbm, ⟨62, _⟩ => ⟨S512x256, .f32⟩
  | .hbm, ⟨63, _⟩ => ⟨S512x256, .f32⟩
  | .hbm, ⟨64, _⟩ => ⟨S_, .f32⟩
  | .hbm, ⟨65, _⟩ => ⟨S512x256, .f32⟩
  | .hbm, ⟨66, _⟩ => ⟨S512x256, .f32⟩
  | .hbm, ⟨67, _⟩ => ⟨S512x256, .f32⟩
  | .hbm, ⟨68, _⟩ => ⟨S_, .f32⟩
  | .hbm, ⟨69, _⟩ => ⟨S512x256, .f32⟩
  | .hbm, ⟨70, _⟩ => ⟨S512x256, .f32⟩
  | .hbm, ⟨71, _⟩ => ⟨S512x256, .f32⟩
  | .hbm, ⟨72, _⟩ => ⟨S_, .f32⟩
  | .hbm, ⟨73, _⟩ => ⟨S512x256, .f32⟩
  | .hbm, ⟨74, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_12 : Ref sig .tc := ⟨.hbm, 57, rfl⟩
abbrev main_v35 : Ref sig .tc := ⟨.hbm, 58, rfl⟩
abbrev main_v36 : Ref sig .tc := ⟨.hbm, 59, rfl⟩
abbrev main_cst_13 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_14 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_15 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_16 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]
-- ==== Proof.Maths.lean ====
/-
  The mathematics of the backward pass of the feed-forward sublayer, over the real numbers: the forward values that the
  backward pass reads (the up-projection's output, the causal convolution of it) and the four gradients. Nothing here
  mentions a program. A row is a natural number; the arrays have 4096 rows, and the output's gradient is zero outside
  them, so every gradient row outside them is zero too: that is how the rows "after the last" are read.
-/
module

public import Mathlib.Analysis.SpecialFunctions.Trigonometric.Basic
public import Mathlib.Analysis.SpecialFunctions.Pow.Real
public import Mathlib.Algebra.BigOperators.Intervals
public import Mathlib.Tactic.Ring
public import Mathlib.Tactic.Linarith
public import Mathlib.Tactic.FieldSimp

@[expose] public section

noncomputable section

namespace Cert.Maths

open scoped BigOperators

/-- The logistic function. -/
def sg (x : ℝ) : ℝ := (1 + Real.exp (-x))⁻¹

/-- The logistic function through the hyperbolic tangent of half the argument. -/
theorem half_tanh (x : ℝ) : (1 / 2 : ℝ) * Real.tanh ((1 / 2 : ℝ) * x) + (1 / 2 : ℝ) = sg x := by
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  have hp : 0 < Real.exp (1 / 2 * x) := Real.exp_pos _
  have hn : 0 < Real.exp (-(1 / 2 * x)) := Real.exp_pos _
  rw [sg, h1, Real.tanh_eq_sinh_div_cosh, Real.sinh_eq, Real.cosh_eq]
  generalize Real.exp (1 / 2 * x) = a at *
  generalize Real.exp (-(1 / 2 * x)) = b at *
  have hs : a + b ≠ 0 := by positivity
  have ht : 1 + b * b ≠ 0 := by positivity
  field_simp
  linear_combination (2 * b) * h2

/-- A sum over the 256 rows of tile `q`, by the row's place in the tile. -/
theorem sum_tile (q : ℕ) (f : ℕ → ℝ) :
    (∑ r ∈ Finset.Ico (256 * q) (256 * (q + 1)), f r) = ∑ i : Fin 256, f (256 * q + i.val) := by
  rw [Finset.sum_Ico_eq_sum_range, show 256 * (q + 1) - 256 * q = 256 by omega,
    ← Fin.sum_univ_eq_sum_range (fun i => f (256 * q + i)) 256]

/-- The arrays the sublayer is computed from: the residual stream `h`, the norm's gain `g`, the up-projection `wup`,
    the three taps `cw` of the convolution, the down-projection `wdn`, the gradient `dy` of the sublayer's output
    (zero outside the 4096 rows), and the norm's positive `eps`. -/
structure Arrays where
  h : ℕ → Fin 1024 → ℝ
  g : Fin 1024 → ℝ
  wup : Fin 1024 → Fin 5632 → ℝ
  cw : Fin 3 → Fin 5632 → ℝ
  wdn : Fin 2816 → Fin 1024 → ℝ
  dy : ℕ → Fin 1024 → ℝ
  eps : ℝ
  eps_pos : 0 < eps
  dy_out : ∀ r, 4096 ≤ r → dy r = 0

/-- Column `f` of the gate half. -/
def lo (f : Fin 2816) : Fin 5632 := ⟨f.val, by omega⟩

/-- Column `f` of the value half. -/
def hi (f : Fin 2816) : Fin 5632 := ⟨2816 + f.val, by omega⟩

namespace Arrays

variable (x : Arrays)

/-- The mean square of row `r`, plus `eps`. -/
def ms (r : ℕ) : ℝ := (∑ d, x.h r d * x.h r d) * (1 / 1024) + x.eps

theorem ms_pos (r : ℕ) : 0 < x.ms r :=
  add_pos_of_nonneg_of_pos (mul_nonneg (Finset.sum_nonneg fun d _ => mul_self_nonneg _) (by norm_num)) x.eps_pos

/-- The reciprocal root mean square of row `r`. -/
def rs (r : ℕ) : ℝ := (Real.sqrt (x.ms r))⁻¹

/-- `rs / ms` is `rs` cubed. -/
theorem rs_div_ms (r : ℕ) : x.rs r * (1 / x.ms r) = x.rs r * x.rs r * x.rs r := by
  have h : x.rs r * x.rs r = 1 / x.ms r := by
    rw [rs, ← mul_inv, Real.mul_self_sqrt (x.ms_pos r).le, one_div]
  rw [← h]; ring

/-- The normalised row. -/
def vh (r : ℕ) (d : Fin 1024) : ℝ := x.h r d * x.rs r

/-- The up-projection's output. -/
def u (r : ℕ) (c : Fin 5632) : ℝ := ∑ d, x.vh r d * x.g d * x.wup d c

/-- The up-projection's output `k` rows back: zero before the first row. -/
def uBack (k r : ℕ) (c : Fin 5632) : ℝ := if k ≤ r then x.u (r - k) c else 0

/-- The causal convolution of it. -/
def up (r : ℕ) (c : Fin 5632) : ℝ := x.cw 0 c * x.uBack 2 r c + x.cw 1 c * x.uBack 1 r c + x.cw 2 c * x.u r c

/-- The gradient of the gated product. -/
def dact (r : ℕ) (f : Fin 2816) : ℝ := ∑ e, x.dy r e * x.wdn f e

theorem dact_out (r : ℕ) (hr : 4096 ≤ r) (f : Fin 2816) : x.dact r f = 0 := by simp [dact, x.dy_out r hr]

/-- The gradient of the gate. -/
def dgate (r : ℕ) (f : Fin 2816) : ℝ :=
  x.dact r f * x.up r (hi f) * (sg (x.up r (lo f)) * (1 + x.up r (lo f) * (1 - sg (x.up r (lo f)))))

/-- The gradient of the value. -/
def dval (r : ℕ) (f : Fin 2816) : ℝ := x.dact r f * (x.up r (lo f) * sg (x.up r (lo f)))

/-- The gradient of the convolution's output: the gate's columns, then the value's. -/
def dup (r : ℕ) (c : Fin 5632) : ℝ :=
  if hc : c.val < 2816 then x.dgate r ⟨c.val, hc⟩ else x.dval r ⟨c.val - 2816, by omega⟩

theorem dup_out (r : ℕ) (hr : 4096 ≤ r) (c : Fin 5632) : x.dup r c = 0 := by
  unfold dup dgate dval; split <;> simp [x.dact_out r hr]

/-- The gradient of the up-projection's output: the taps applied in the other direction. -/
def du (r : ℕ) (c : Fin 5632) : ℝ := x.cw 2 c * x.dup r c + x.cw 1 c * x.dup (r + 1) c + x.cw 0 c * x.dup (r + 2) c

/-- The gradient of the normalised, scaled row. -/
def dn (r : ℕ) (d : Fin 1024) : ℝ := ∑ c, x.du r c * x.wup d c

/-- The gradient of the residual stream. -/
def dh (r : ℕ) (d : Fin 1024) : ℝ :=
  x.dy r d + x.rs r * (x.dn r d * x.g d - x.vh r d * ((∑ e, x.dn r e * x.g e * x.vh r e) * (1 / 1024)))

/-- The tap gradient's sum over the rows from `n` on: the tap that reads `k` rows back. -/
def dcw (n k : ℕ) (c : Fin 5632) : ℝ := ∑ r ∈ Finset.Ico n 4096, x.dup (r + k) c * x.u r c

/-- The gain gradient's sum over the rows from `n` on. -/
def dg (n : ℕ) (d : Fin 1024) : ℝ := ∑ r ∈ Finset.Ico n 4096, x.dn r d * x.vh r d

/-- The same gradient of the residual stream as the two products with the row separately, each with the factor
    `Σ h·t · (−½ rs/ms) / 1024`. -/
theorem dh_eq (r : ℕ) (d : Fin 1024) :
    x.dy r d + x.dn r d * x.g d * x.rs r
        + x.h r d * ((∑ e, x.h r e * (x.dn r e * x.g e)) * (-(1 / 2) * (x.rs r * (1 / x.ms r))) * (1 / 1024))
        + ((∑ e, x.h r e * (x.dn r e * x.g e)) * (-(1 / 2) * (x.rs r * (1 / x.ms r))) * (1 / 1024)) * x.h r d
      = x.dh r d := by
  have h : (∑ e, x.dn r e * x.g e * x.vh r e) = (∑ e, x.h r e * (x.dn r e * x.g e)) * x.rs r := by
    rw [Finset.sum_mul]; exact Finset.sum_congr rfl fun e _ => by unfold vh; ring
  rw [dh, h, rs_div_ms]
  unfold vh
  ring

/-- A tap's gradient with the row's own gradient against the up-projection's output `k` rows back is the sum with the
    gradient `k` rows ahead against the row's own output: the rows are renumbered. -/
theorem dcw_back (k : ℕ) (c : Fin 5632) :
    (∑ r ∈ Finset.range 4096, x.dup r c * x.uBack k r c) = x.dcw 0 k c := by
  have e : (∑ r ∈ Finset.range (k + 4096), x.dup r c * x.uBack k r c)
      = ∑ r ∈ Finset.range 4096, x.dup r c * x.uBack k r c := by
    rw [Nat.add_comm, Finset.sum_range_add]
    refine (congrArg (_ + ·) (Finset.sum_eq_zero fun r _ => ?_)).trans (add_zero _)
    rw [x.dup_out (4096 + r) (Nat.le_add_right _ _), zero_mul]
  rw [← e, Finset.sum_range_add, dcw, ← Finset.range_eq_Ico]
  refine (congrArg (· + _) (Finset.sum_eq_zero fun r hr => ?_)).trans ((zero_add _).trans
    (Finset.sum_congr rfl fun r _ => ?_))
  · rw [uBack, if_neg (by have := Finset.mem_range.mp hr; omega), mul_zero]
  · rw [uBack, if_pos (Nat.le_add_right _ _), Nat.add_sub_cancel_left, Nat.add_comm k r]

/-- The rows of one tile are added to the tap gradient's sum over the rows after it. -/
theorem dcw_tile (q k : ℕ) (hq : q < 16) (c : Fin 5632) :
    x.dcw (256 * q) k c
      = x.dcw (256 * (q + 1)) k c + ∑ i : Fin 256, x.dup (256 * q + i.val + k) c * x.u (256 * q + i.val) c := by
  rw [dcw, ← Finset.sum_Ico_consecutive _ (show 256 * q ≤ 256 * (q + 1) by omega) (show 256 * (q + 1) ≤ 4096 by omega),
    add_comm, dcw, sum_tile]

/-- The rows of one tile are added to the gain gradient's sum over the rows after it. -/
theorem dg_tile (q : ℕ) (hq : q < 16) (d : Fin 1024) :
    x.dg (256 * q) d
      = x.dg (256 * (q + 1)) d + ∑ i : Fin 256, x.dn (256 * q + i.val) d * x.vh (256 * q + i.val) d := by
  rw [dg, ← Finset.sum_Ico_consecutive _ (show 256 * q ≤ 256 * (q + 1) by omega) (show 256 * (q + 1) ≤ 4096 by omega),
    add_comm, dg, sum_tile]

theorem dcw_end (k : ℕ) (c : Fin 5632) : x.dcw 4096 k c = 0 := by simp [dcw]

theorem dg_end (d : Fin 1024) : x.dg 4096 d = 0 := by simp [dg]

end Arrays

end Cert.Maths

end
-- ==== Proof.Coe.lean ====
module

public import Idealize.ShloMosaic.Lib.Pointwise
public import Idealize.ShloMosaic.Lib.IdealHost
public import proofs.«01_k».proof.Proof.Maths

/-!
Real numbers inside the extended reals: finite sums, the operations the programs use, and the literals' values.
-/

@[expose] public section

noncomputable section
namespace Cert.Coe
open Idealize.ShloMosaic

/-- A finite sum of real numbers is the real number that their sum is. -/
theorem sum_coe {ι : Type*} (s : Finset ι) (f : ι → ℝ) : ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- A product of two real numbers, in the extended reals. -/
theorem mul_coe (a b : ℝ) : (a : EReal) * (b : EReal) = ((a * b : ℝ) : EReal) := (EReal.coe_mul a b).symm
/-- A sum of two real numbers, in the extended reals. -/
theorem add_coe (a b : ℝ) : (a : EReal) + (b : EReal) = ((a + b : ℝ) : EReal) := (EReal.coe_add a b).symm
/-- A difference of two real numbers, in the extended reals. -/
theorem sub_coe (a b : ℝ) : (a : EReal) - (b : EReal) = ((a - b : ℝ) : EReal) := (EReal.coe_sub a b).symm
/-- The opposite of a real number, in the extended reals. -/
theorem neg_coe (a : ℝ) : -(a : EReal) = ((-a : ℝ) : EReal) := (EReal.coe_neg a).symm
/-- A quotient of real numbers, the divisor not zero. -/
theorem div_coe (a : ℝ) {b : ℝ} (h : b ≠ 0) : Ideal.div (a : EReal) (b : EReal) = ((a * (1 / b) : ℝ) : EReal) := by
  rw [Ideal.div_coe h, mul_coe]
/-- The inverse square root of a positive number. -/
theorem rsqrt_coe {a : ℝ} (h : 0 < a) : Ideal.rsqrt (a : EReal) = (((Real.sqrt a)⁻¹ : ℝ) : EReal) := by
  rw [Ideal.rsqrt_coe, if_neg (not_lt.mpr h.le), if_neg h.ne']
/-- The literal zero. -/
theorem zero_coe : (0 : EReal) = ((0 : ℝ) : EReal) := rfl
/-- The literal one. -/
theorem one_coe : (1 : EReal) = ((1 : ℝ) : EReal) := rfl

/-- The literal one half. -/
theorem lit_half : Ideal.ofBits .f32 0x3F000000#32 = ((1 / 2 : ℝ) : EReal) := by
  simp [Ideal.ofBits, Ideal.ieee]; norm_num [mul_coe]
/-- The literal minus one half. -/
theorem lit_neg_half : Ideal.ofBits .f32 0xBF000000#32 = ((-(1 / 2) : ℝ) : EReal) := by
  simp [Ideal.ofBits, Ideal.ieee]; norm_num [mul_coe]
/-- The literal one. -/
theorem lit_one : Ideal.ofBits .f32 0x3F800000#32 = ((1 : ℝ) : EReal) := by
  simp [Ideal.ofBits, Ideal.ieee]; norm_num [mul_coe]
/-- The literal 1024. -/
theorem lit_1024 : Ideal.ofBits .f32 0x44800000#32 = ((1024 : ℝ) : EReal) := by
  simp [Ideal.ofBits, Ideal.ieee]; norm_num [mul_coe]

/-- The literal added to the mean square before the square root. -/
def eps : ℝ := 10995116 / 2 ^ 40

/-- It is positive. -/
theorem eps_pos : 0 < eps := by unfold eps; norm_num

/-- The literal's value. -/
theorem lit_eps : Ideal.ofBits .f32 0x3727C5AC#32 = ((eps : ℝ) : EReal) := by
  unfold eps
  simp [Ideal.ofBits, Ideal.ieee]; norm_num [mul_coe]

end Cert.Coe
end
-- ==== Proof.Inputs.lean ====
module

public import proofs.«01_k».proof.Proof.Gen.Pre_finite
public import proofs.«01_k».proof.Defs
public import proofs.«01_k».proof.Proof.Coe

/-!
The six argument arrays as arrays of real numbers: the precondition says that every entry is finite, hence a real number.
-/

@[expose] public section

noncomputable section
namespace Cert.Inputs
open Cert.Pre_finite Cert.Maths Cert.Coe Idealize.ShloMosaic

/-- The argument arrays hold the real arrays `x`. -/
structure Reads (x : Arrays) (a0 : FVec Ideal S4096x1024 .f32) (a1 : FVec Ideal S1x1024 .f32)
    (a2 : FVec Ideal S1024x5632 .f32) (a3 : FVec Ideal S3x5632 .f32) (a4 : FVec Ideal S2816x1024 .f32)
    (a5 : FVec Ideal S4096x1024 .f32) : Prop where
  h : ∀ (r : Fin 4096) (d : Fin 1024), a0 (ix2 r d) = ((x.h r d : ℝ) : EReal)
  g : ∀ d : Fin 1024, a1 (ix2 0 d) = ((x.g d : ℝ) : EReal)
  wup : ∀ (d : Fin 1024) (c : Fin 5632), a2 (ix2 d c) = ((x.wup d c : ℝ) : EReal)
  cw : ∀ (j : Fin 3) (c : Fin 5632), a3 (ix2 j c) = ((x.cw j c : ℝ) : EReal)
  wdn : ∀ (f : Fin 2816) (e : Fin 1024), a4 (ix2 f e) = ((x.wdn f e : ℝ) : EReal)
  dy : ∀ (r : Fin 4096) (e : Fin 1024), a5 (ix2 r e) = ((x.dy r e : ℝ) : EReal)
  eps : x.eps = Coe.eps

/-- An extended real whose absolute value is below infinity is a real number. -/
theorem real_of_abs_lt {y : EReal} (h : Ideal.cmp .olt (max y (-y)) ⊤ = 1) : y = ((y.toReal : ℝ) : EReal) := by
  have h' : max y (-y) < ⊤ := by
    by_contra hn
    simp [Ideal.cmp, hn] at h
  refine (EReal.coe_toReal ?_ ?_).symm
  · rintro rfl; simp at h'
  · rintro rfl; simp at h'

/-- The six comparisons of the precondition give six arrays of real numbers. -/
theorem reads (a0 : FVec Ideal S4096x1024 .f32) (a1 : FVec Ideal S1x1024 .f32) (a2 : FVec Ideal S1024x5632 .f32)
    (a3 : FVec Ideal S3x5632 .f32) (a4 : FVec Ideal S2816x1024 .f32) (a5 : FVec Ideal S4096x1024 .f32)
    (h0 : ∀ i, a0 i = (((a0 i).toReal : ℝ) : EReal)) (h1 : ∀ i, a1 i = (((a1 i).toReal : ℝ) : EReal))
    (h2 : ∀ i, a2 i = (((a2 i).toReal : ℝ) : EReal)) (h3 : ∀ i, a3 i = (((a3 i).toReal : ℝ) : EReal))
    (h4 : ∀ i, a4 i = (((a4 i).toReal : ℝ) : EReal)) (h5 : ∀ i, a5 i = (((a5 i).toReal : ℝ) : EReal)) :
    ∃ x : Arrays, Reads x a0 a1 a2 a3 a4 a5 :=
  ⟨{ h := fun r d => if hr : r < 4096 then (a0 (ix2 ⟨r, hr⟩ d)).toReal else 0
     g := fun d => (a1 (ix2 0 d)).toReal
     wup := fun d c => (a2 (ix2 d c)).toReal
     cw := fun j c => (a3 (ix2 j c)).toReal
     wdn := fun f e => (a4 (ix2 f e)).toReal
     dy := fun r e => if hr : r < 4096 then (a5 (ix2 ⟨r, hr⟩ e)).toReal else 0
     eps := Coe.eps
     eps_pos := Coe.eps_pos
     dy_out := fun r hr => funext fun e => dif_neg (not_lt.mpr hr) },
   { h := fun r d => (h0 _).trans (by simp only [dif_pos r.isLt])
     g := fun d => h1 _
     wup := fun d c => h2 _
     cw := fun j c => h3 _
     wdn := fun f e => h4 _
     dy := fun r e => (h5 _).trans (by simp only [dif_pos r.isLt])
     eps := rfl }⟩

/-- Under the precondition the arguments on each device hold real arrays. -/
theorem reads_of_pre (m : (ℓ : Loc Cert.KernelIdeal.nD Cert.KernelIdeal.τ Cert.KernelIdeal.sig) → Buf (Elt Ideal) ℓ)
    (h : Pre_KernelIdeal_finite m) (c : Dev Cert.KernelIdeal.nD) :
    ∃ x : Arrays, Reads x (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) := by
  have hinf : Ideal.ofBits .f32 0x7F800000#32 = ⊤ := by simp [Ideal.ofBits, Ideal.ieee]
  obtain ⟨p0, p1, p2, p3, p4, p5⟩ := h c
  refine reads _ _ _ _ _ _ (fun i => ?_) (fun i => ?_) (fun i => ?_) (fun i => ?_) (fun i => ?_) (fun i => ?_)
  · exact real_of_abs_lt (by rw [← hinf]; exact congrFun p0 i)
  · exact real_of_abs_lt (by rw [← hinf]; exact congrFun p1 i)
  · exact real_of_abs_lt (by rw [← hinf]; exact congrFun p2 i)
  · exact real_of_abs_lt (by rw [← hinf]; exact congrFun p3 i)
  · exact real_of_abs_lt (by rw [← hinf]; exact congrFun p4 i)
  · exact real_of_abs_lt (by rw [← hinf]; exact congrFun p5 i)

end Cert.Inputs
end
-- ==== Proof.Host.lean ====
module

public import proofs.«01_k».proof.Proof.Gen.KernelIdeal.Value
public import proofs.«01_k».proof.Proof.Inputs
public import Idealize.ShloMosaic.Lib.StableHlo.RunRead

/-!
The arrays the host prepares before the launch: the up-projection's output, the causal convolution of it, the taps padded
to eight rows and the two weights. First each as an expression of the arguments, then its entries as real numbers.
-/

@[expose] public section

set_option maxRecDepth 16384

noncomputable section
namespace Cert.KernelIdeal.Host
open Cert.KernelIdeal Cert.KernelIdeal.Gen Cert.Maths Cert.Coe Cert.Inputs Idealize.ShloMosaic Idealize.ShloMosaic.TcCoe
  Idealize.ShloMosaic.StableHlo

section
variable {F : FTy → Type} [FloatOps F]

/-- The reciprocal root mean square of the rows. -/
def rsF (a0 : Vec F S4096x1024 .f32) : Vec F S4096x1 .f32 :=
  Host.rsqrt (addf (Host.divf (broadcastInDim S4096x1 ![0] bcast_S4096_S4096x1_0
    (Host.reduceAdd (mulf a0 a0) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x3727C5AC#32)))

/-- The up-projection's output. -/
def uF (a0 : Vec F S4096x1024 .f32) (a1 : Vec F S1x1024 .f32) (a2 : Vec F S1024x5632 .f32) : Vec F S4096x5632 .f32 :=
  Host.dotGeneral dot_S4096x1024_S1024x5632_S4096x5632_1_0_0_1_n_n none
    (mulf (mulf a0 (broadcastInDim S4096x1024 ![0, 1] bcast_S4096x1_S4096x1024_0_1 (rsF a0)))
      (broadcastInDim S4096x1024 ![0, 1] bcast_S1x1024_S4096x1024_0_1 a1)) a2

/-- An array two rows back, zero before the first row. -/
def back2F (u : Vec F S4096x5632 .f32) : Vec F S4096x5632 .f32 :=
  concatenate S4096x5632 0 [⟨S2x5632, broadcastInDim S2x5632 ![] bcast_S_S2x5632 (constant S_ .f32 0x00000000#32)⟩,
    ⟨S4094x5632, extractStridedSlice S4094x5632 ![0, 0] u slices_S4096x5632_S4094x5632_0_0⟩]
    concatenates_S2x5632_S4094x5632_S4096x5632_d0

/-- An array one row back, zero before the first row. -/
def back1F (u : Vec F S4096x5632 .f32) : Vec F S4096x5632 .f32 :=
  concatenate S4096x5632 0 [⟨S1x5632, broadcastInDim S1x5632 ![] bcast_S_S1x5632 (constant S_ .f32 0x00000000#32)⟩,
    ⟨S4095x5632, extractStridedSlice S4095x5632 ![0, 0] u slices_S4096x5632_S4095x5632_0_0⟩]
    concatenates_S1x5632_S4095x5632_S4096x5632_d0

/-- The first tap's row on every row. -/
def tap0F (a3 : Vec F S3x5632 .f32) : Vec F S4096x5632 .f32 :=
  broadcastInDim S4096x5632 ![0, 1] bcast_S1x5632_S4096x5632_0_1 (broadcastInDim S1x5632 ![1] bcast_S5632_S1x5632_1
    (shapeCast S5632 (extractStridedSlice S1x5632 ![0, 0] a3 slices_S3x5632_S1x5632_0_0) shapeCasts_S1x5632_S5632))

/-- The second tap's row on every row. -/
def tap1F (a3 : Vec F S3x5632 .f32) : Vec F S4096x5632 .f32 :=
  broadcastInDim S4096x5632 ![0, 1] bcast_S1x5632_S4096x5632_0_1 (broadcastInDim S1x5632 ![1] bcast_S5632_S1x5632_1
    (shapeCast S5632 (extractStridedSlice S1x5632 ![1, 0] a3 slices_S3x5632_S1x5632_1_0) shapeCasts_S1x5632_S5632))

/-- The third tap's row on every row. -/
def tap2F (a3 : Vec F S3x5632 .f32) : Vec F S4096x5632 .f32 :=
  broadcastInDim S4096x5632 ![0, 1] bcast_S1x5632_S4096x5632_0_1 (broadcastInDim S1x5632 ![1] bcast_S5632_S1x5632_1
    (shapeCast S5632 (extractStridedSlice S1x5632 ![2, 0] a3 slices_S3x5632_S1x5632_2_0) shapeCasts_S1x5632_S5632))

/-- The causal convolution of the up-projection's output `u`. -/
def upF (a3 : Vec F S3x5632 .f32) (u : Vec F S4096x5632 .f32) : Vec F S4096x5632 .f32 :=
  addf (addf (mulf (tap0F a3) (back2F u)) (mulf (tap1F a3) (back1F u))) (mulf (tap2F a3) u)

/-- The taps, padded to eight rows. -/
def cwF (a3 : Vec F S3x5632 .f32) : Vec F S8x5632 .f32 :=
  pad S8x5632 ![0, 0] ![5, 0] ![0, 0] a3 (sitofp .f32 (constantI S_ 32 0#32)) pads_S3x5632_S8x5632_050_000 h_S_

variable (m : (ℓ : Loc nD τ sig) → Buf (Elt F) ℓ) (c : Dev nD)

/-- The kernel's second operand. -/
theorem V_v37 : V m c main_v37
    = truncf .bf16 (uF (m (c.tc.loc main_arg0)) (m (c.tc.loc main_arg1)) (m (c.tc.loc main_arg2))) bitsLt_bf16_f32 := by
  after_reads_simp
  rfl

/-- The kernel's third operand. -/
theorem V_v35 : V m c main_v35 = upF (m (c.tc.loc main_arg3))
    (uF (m (c.tc.loc main_arg0)) (m (c.tc.loc main_arg1)) (m (c.tc.loc main_arg2))) := by
  after_reads_simp; rfl

/-- The kernel's sixth operand. -/
theorem V_v36 : V m c main_v36 = cwF (m (c.tc.loc main_arg3)) := by
  after_reads_simp; rfl

/-- The kernel's fifth operand. -/
theorem V_v38 : V m c main_v38 = truncf .bf16 (m (c.tc.loc main_arg2) : Vec F S1024x5632 .f32) bitsLt_bf16_f32 := by
  after_reads_simp

/-- The kernel's seventh operand. -/
theorem V_v39 : V m c main_v39 = truncf .bf16 (m (c.tc.loc main_arg4) : Vec F S2816x1024 .f32) bitsLt_bf16_f32 := by
  after_reads_simp
end

variable {x : Arrays} {a0 : Vec Ideal S4096x1024 .f32} {a1 : Vec Ideal S1x1024 .f32} {a2 : Vec Ideal S1024x5632 .f32}
  {a3 : Vec Ideal S3x5632 .f32} {a4 : Vec Ideal S2816x1024 .f32} {a5 : Vec Ideal S4096x1024 .f32}
section
variable (R : Reads x a0 a1 a2 a3 a4 a5)
include R

/-- The reciprocal root mean square. -/
theorem rs_val (r : Fin 4096) : rsF a0 (ix2 r 0) = ((x.rs r : ℝ) : EReal) := by
  pointwise [rsF]
  simp only [R.h, lit_1024, lit_eps, mul_coe, sum_coe, add_coe, zero_add]
  rw [div_coe _ (by norm_num), add_coe, ← R.eps]
  exact rsqrt_coe (x.ms_pos r)

/-- The up-projection's output. -/
theorem u_val (r : Fin 4096) (c : Fin 5632) : uF a0 a1 a2 (ix2 r c) = ((x.u r c : ℝ) : EReal) := by
  have hr := rs_val R
  pointwise [uF]
  simp only [R.h, R.g, R.wup, hr, mul_coe, sum_coe]
  rfl

/-- Two rows back. -/
theorem back2_val (r : Fin 4096) (c : Fin 5632) :
    back2F (uF a0 a1 a2) (ix2 r c) = ((x.uBack 2 r c : ℝ) : EReal) := by
  have hu := u_val R
  pointwise [back2F]
  split
  · rename_i h
    exact congrArg ((↑) : ℝ → EReal) (show (0 : ℝ) = x.uBack 2 r c from (if_neg (by omega)).symm)
  · rename_i h
    exact (hu _ c).trans (congrArg ((↑) : ℝ → EReal) (show x.u (r.val - 2) c = x.uBack 2 r c from (if_pos (by omega)).symm))

/-- One row back. -/
theorem back1_val (r : Fin 4096) (c : Fin 5632) :
    back1F (uF a0 a1 a2) (ix2 r c) = ((x.uBack 1 r c : ℝ) : EReal) := by
  have hu := u_val R
  pointwise [back1F]
  split
  · rename_i h
    exact congrArg ((↑) : ℝ → EReal) (show (0 : ℝ) = x.uBack 1 r c from (if_neg (by omega)).symm)
  · rename_i h
    exact (hu _ c).trans (congrArg ((↑) : ℝ → EReal) (show x.u (r.val - 1) c = x.uBack 1 r c from (if_pos (by omega)).symm))

/-- The causal convolution. -/
theorem up_val (r : Fin 4096) (c : Fin 5632) : upF a3 (uF a0 a1 a2) (ix2 r c) = ((x.up r c : ℝ) : EReal) := by
  have h2 := back2_val R
  have h1 := back1_val R
  have hu := u_val R
  pointwise [upF, tap0F, tap1F, tap2F]
  simp only [R.cw, h2, h1, hu, mul_coe, add_coe]
  rfl

/-- The padded taps. -/
theorem cw_val (j : Fin 3) (k : Fin 8) (hk : k.val = j.val) (c : Fin 5632) :
    cwF a3 (ix2 k c) = ((x.cw j c : ℝ) : EReal) := by
  pointwise [cwF]
  rw [dif_pos (by omega)]
  exact (congrArg (fun i => a3 (ix2 i c)) (Fin.ext hk)).trans (R.cw j c)
end
end Cert.KernelIdeal.Host
end
-- ==== Proof.Points.lean ====
module

public import proofs.«01_k».proof.Proof.Gen.KernelIdeal.Value
public import Idealize.ShloMosaic.Lib.Pipeline.ValueKit.Acc
public import Idealize.ShloMosaic.Lib.Pipeline.ReadBack
public import Idealize.ShloMosaic.Lib.Pointwise

/-!
What one grid point of the kernel leaves in its four output blocks and in the carried rows, written with the
generated payloads: a point either starts from zero (the first one) or from what the point before it left.
-/

@[expose] public section

set_option maxRecDepth 16384

noncomputable section
namespace Cert.KernelIdeal.Points
open Cert.KernelIdeal Cert.KernelIdeal.Gen Idealize.ShloMosaic Idealize.ShloMosaic.TcCoe Idealize.SL.Sem

variable {F : FTy → Type} [FloatOps F]

/-! ## The body's values over its blocks

`x0` is the incoming gradient's tile, `x2` the pre-activations, `x6` the down-projection, `s` the carried rows. -/

/-- The gradient of the tile's pre-activations. -/
abbrev dupT (x0 : Vec F S256x1024 .f32) (x6 : Vec F S2816x1024 .bf16) (x2 : Vec F S256x5632 .f32) : FVec F S256x5632 .f32 :=
  k0_pay5 x0 x6 x2

/-- The same, one row later: the last row comes from the carried rows. -/
abbrev dupT1 (x0 : Vec F S256x1024 .f32) (x6 : Vec F S2816x1024 .bf16) (x2 : Vec F S256x5632 .f32) (s : Vec F S8x5632 .f32) :
    FVec F S256x5632 .f32 := k0_pay7 x0 x6 x2 s

/-- The same, two rows later. -/
abbrev dupT2 (x0 : Vec F S256x1024 .f32) (x6 : Vec F S2816x1024 .bf16) (x2 : Vec F S256x5632 .f32) (s : Vec F S8x5632 .f32) :
    FVec F S256x5632 .f32 := k0_pay9 (k0_pay6 x0 x6 x2 s) (k0_pay8 x0 x6 x2)

/-- The gradient of the up-projection's tile. -/
abbrev duT (x0 : Vec F S256x1024 .f32) (x2 : Vec F S256x5632 .f32) (x5 : Vec F S8x5632 .f32) (x6 : Vec F S2816x1024 .bf16)
    (s : Vec F S8x5632 .f32) : FVec F S256x5632 .bf16 :=
  k0_pay16 (dupT x0 x6 x2) (dupT1 x0 x6 x2 s) (dupT2 x0 x6 x2 s) (k0_pay15 x5)

/-- The gradient of the residual stream's tile. -/
abbrev dhT (x0 : Vec F S256x1024 .f32) (x2 : Vec F S256x5632 .f32) (x3 : Vec F S256x1024 .f32) (x4 : Vec F S1024x5632 .bf16)
    (x5 : Vec F S8x5632 .f32) (x6 : Vec F S2816x1024 .bf16) (x7 : Vec F S1x1024 .f32) (s : Vec F S8x5632 .f32) :
    FVec F S256x1024 .f32 :=
  k0_pay21 x0 (dupT x0 x6 x2) (dupT1 x0 x6 x2 s) (dupT2 x0 x6 x2 s) (k0_pay15 x5) x4 x3 x7

/-- The gradient of the norm's scale, with this tile added to `g`. -/
abbrev ggT (x0 : Vec F S256x1024 .f32) (x2 : Vec F S256x5632 .f32) (x3 : Vec F S256x1024 .f32) (x4 : Vec F S1024x5632 .bf16)
    (x5 : Vec F S8x5632 .f32) (x6 : Vec F S2816x1024 .bf16) (s : Vec F S8x5632 .f32) (g : Vec F S1x1024 .f32) :
    FVec F S1x1024 .f32 :=
  k0_pay1 (k0_pay20 (dupT x0 x6 x2) (dupT1 x0 x6 x2 s) (dupT2 x0 x6 x2 s) (k0_pay15 x5) x4 x3) g

/-- Row `k` of the taps' three-row accumulator. -/
abbrev tapRow (k : Fin 3) (a : Vec F S3x5632 .f32) : Vec F S1x5632 .f32 := fun j => a (ix2 k (j 1))

/-- Rows 0, 1, 2 of the gradient of the taps, with this tile added to `a`. -/
abbrev tap0T (x0 : Vec F S256x1024 .f32) (x1 : Vec F S256x5632 .bf16) (x2 : Vec F S256x5632 .f32) (x6 : Vec F S2816x1024 .bf16)
    (s : Vec F S8x5632 .f32) (a : Vec F S3x5632 .f32) : FVec F S1x5632 .f32 :=
  k0_pay14 (k0_pay6 x0 x6 x2 s) (k0_pay8 x0 x6 x2) x1 (tapRow 0 a)
/-- Row 1. -/
abbrev tap1T (x0 : Vec F S256x1024 .f32) (x1 : Vec F S256x5632 .bf16) (x2 : Vec F S256x5632 .f32) (x6 : Vec F S2816x1024 .bf16)
    (s : Vec F S8x5632 .f32) (a : Vec F S3x5632 .f32) : FVec F S1x5632 .f32 :=
  k0_pay13 (dupT1 x0 x6 x2 s) x1 (tapRow 1 a)
/-- Row 2. -/
abbrev tap2T (x0 : Vec F S256x1024 .f32) (x1 : Vec F S256x5632 .bf16) (x2 : Vec F S256x5632 .f32) (x6 : Vec F S2816x1024 .bf16)
    (a : Vec F S3x5632 .f32) : FVec F S1x5632 .f32 :=
  k0_pay12 (dupT x0 x6 x2) x1 (tapRow 2 a)

/-! ## Rows of the three-row block -/

/-- Loading one row of the block is reading that row. -/
theorem ld_row (k : Fin 3) (inb : ∀ x, (![k.val, 0] : Fin 2 → Nat) x + S1x5632.size x ≤ S3x5632.size x) (a : Vec F S3x5632 .f32) :
    View.ld a (Rect.unit (s := S3x5632) ![k.val, 0] S1x5632.size inb) = tapRow k a := by
  funext j
  show a _ = a _
  congr 1
  funext x
  apply Fin.ext
  have h0 : (j 0).val = 0 := by have : (j 0).val < 1 := (j 0).isLt; omega
  match x with
  | ⟨0, _⟩ => show k.val + 1 * (j 0).val = k.val; omega
  | ⟨1, _⟩ => show 0 + 1 * (j 1).val = (j 1).val; omega

/-- A row just stored is read back; -/
theorem canon_row (k : Fin 3) (inb : ∀ x, (![k.val, 0] : Fin 2 → Nat) x + S1x5632.size x ≤ S3x5632.size x)
    (w : Vec F S1x5632 .f32) (L : List (View.Piece (Elt F) S3x5632 .f32)) (l : Fin 5632) :
    View.canon ((⟨Rect.unit (s := S3x5632) ![k.val, 0] S1x5632.size inb, w⟩ : View.Piece (Elt F) S3x5632 .f32) :: L) (ix2 k l) = w (ix2 0 l) := by
  have he : (Rect.unit (s := S3x5632) ![k.val, 0] S1x5632.size inb).emb (ix2 (0 : Fin 1) l) = ix2 k l := by
    funext x
    apply Fin.ext
    match x with
    | ⟨0, _⟩ => show k.val + 1 * 0 = k.val; omega
    | ⟨1, _⟩ => show 0 + 1 * l.val = l.val; omega
  rw [← he]
  exact View.canon_cons_emb (Rect.unit (s := S3x5632) ![k.val, 0] S1x5632.size inb) w L (ix2 (0 : Fin 1) l)

/-- another row is what the earlier stores left. -/
theorem canon_row_of_ne (k k' : Fin 3) (hne : k'.val ≠ k.val) (inb : ∀ x, (![k'.val, 0] : Fin 2 → Nat) x + S1x5632.size x ≤ S3x5632.size x)
    (w : Vec F S1x5632 .f32) (L : List (View.Piece (Elt F) S3x5632 .f32)) (l : Fin 5632) :
    View.canon ((⟨Rect.unit (s := S3x5632) ![k'.val, 0] S1x5632.size inb, w⟩ : View.Piece (Elt F) S3x5632 .f32) :: L) (ix2 k l)
      = View.canon L (ix2 k l) := by
  refine View.canon_cons_of_not_mem _ L ?_
  intro hm
  rw [Rect.mem_set_unit] at hm
  have h := hm 0
  have h1 : k'.val ≤ k.val := h.1
  have h2 : k.val < k'.val + 1 := h.2
  omega

variable (m : (ℓ : Loc nD τ sig) → Buf (Elt F) ℓ) (c : Dev nD)

/-! ## The first point -/

theorem first_du (t : Fin cfg0.N) (h : t.val % 16 = 0) : (outsAt0 m c t.val t.isLt).1
    = duT (iblk m c 0 t) (iblk m c 2 t) (iblk m c 5 t) (iblk m c 6 t) k0_pay2 := by
  rw [outsAt0_A m c t h]; frame_out

theorem first_dh (t : Fin cfg0.N) (h : t.val % 16 = 0) : (outsAt0 m c t.val t.isLt).2.1
    = dhT (iblk m c 0 t) (iblk m c 2 t) (iblk m c 3 t) (iblk m c 4 t) (iblk m c 5 t) (iblk m c 6 t) (iblk m c 7 t) k0_pay2 := by
  rw [outsAt0_A m c t h]; frame_out

theorem first_gg (t : Fin cfg0.N) (h : t.val % 16 = 0) : (outsAt0 m c t.val t.isLt).2.2.2.1
    = ggT (iblk m c 0 t) (iblk m c 2 t) (iblk m c 3 t) (iblk m c 4 t) (iblk m c 5 t) (iblk m c 6 t) k0_pay2 k0_pay4 := by
  rw [outsAt0_A m c t h]; frame_out

theorem first_carry (t : Fin cfg0.N) (h : t.val % 16 = 0) : (outsAt0 m c t.val t.isLt).2.2.2.2
    = k0_pay10 (dupT (iblk m c 0 t) (iblk m c 6 t) (iblk m c 2 t)) := by
  rw [outsAt0_A m c t h]; frame_out

/-- Every load of a row at the first point finds the zeros stored over the whole block. -/
theorem first_taps (t : Fin cfg0.N) (h : t.val % 16 = 0) (l : Fin 5632) :
    (outsAt0 m c t.val t.isLt).2.2.1 (ix2 0 l)
        = tap0T (iblk m c 0 t) (iblk m c 1 t) (iblk m c 2 t) (iblk m c 6 t) k0_pay2 k0_pay3 (ix2 0 l)
    ∧ (outsAt0 m c t.val t.isLt).2.2.1 (ix2 1 l)
        = tap1T (iblk m c 0 t) (iblk m c 1 t) (iblk m c 2 t) (iblk m c 6 t) k0_pay2 k0_pay3 (ix2 0 l)
    ∧ (outsAt0 m c t.val t.isLt).2.2.1 (ix2 2 l)
        = tap2T (iblk m c 0 t) (iblk m c 1 t) (iblk m c 2 t) (iblk m c 6 t) k0_pay3 (ix2 0 l) := by
  have e : ∀ X : Vec F S3x5632 .f32, X = (outsAt0 m c t.val t.isLt).2.2.1 → _ := fun X hX => by
    rw [outsAt0_A m c t h] at hX
    frame_out at hX
    simp (disch := decide) only [↓View.readCov_skip, View.readCov_fill] at hX
    exact hX
  rw [← (e _ rfl).symm]
  refine ⟨?_, ?_, ?_⟩
  · refine (canon_row 0 _ _ _ l).trans ?_
    exact congrArg (fun w => k0_pay14 _ _ _ w (ix2 0 l)) (ld_row 0 _ _)
  · refine (canon_row_of_ne 1 0 (by decide) _ _ _ l).trans ((canon_row 1 _ _ _ l).trans ?_)
    exact congrArg (fun w => k0_pay13 _ _ w (ix2 0 l)) (ld_row 1 _ _)
  · refine (canon_row_of_ne 2 0 (by decide) _ _ _ l).trans ((canon_row_of_ne 2 1 (by decide) _ _ _ l).trans ((canon_row 2 _ _ _ l).trans ?_))
    exact congrArg (fun w => k0_pay12 _ _ w (ix2 0 l)) (ld_row 2 _ _)

/-! ## A later point -/

theorem next_du (t : Fin cfg0.N) (h : ¬t.val % 16 = 0) (h' : t.val - 1 < cfg0.N) : (outsAt0 m c t.val t.isLt).1
    = duT (iblk m c 0 t) (iblk m c 2 t) (iblk m c 5 t) (iblk m c 6 t) (outsAt0 m c (t.val - 1) h').2.2.2.2 := by
  rw [outsAt0_B m c t h]; frame_out [read_unread_whole]

theorem next_dh (t : Fin cfg0.N) (h : ¬t.val % 16 = 0) (h' : t.val - 1 < cfg0.N) : (outsAt0 m c t.val t.isLt).2.1
    = dhT (iblk m c 0 t) (iblk m c 2 t) (iblk m c 3 t) (iblk m c 4 t) (iblk m c 5 t) (iblk m c 6 t) (iblk m c 7 t)
        (outsAt0 m c (t.val - 1) h').2.2.2.2 := by
  rw [outsAt0_B m c t h]; frame_out [read_unread_whole]

theorem next_gg (t : Fin cfg0.N) (h : ¬t.val % 16 = 0) (h' : t.val - 1 < cfg0.N) : (outsAt0 m c t.val t.isLt).2.2.2.1
    = ggT (iblk m c 0 t) (iblk m c 2 t) (iblk m c 3 t) (iblk m c 4 t) (iblk m c 5 t) (iblk m c 6 t)
        (outsAt0 m c (t.val - 1) h').2.2.2.2 (outsAt0 m c (t.val - 1) h').2.2.2.1 := by
  rw [outsAt0_B m c t h]; frame_out [read_unread_whole]

theorem next_carry (t : Fin cfg0.N) (h : ¬t.val % 16 = 0) : (outsAt0 m c t.val t.isLt).2.2.2.2
    = k0_pay10 (dupT (iblk m c 0 t) (iblk m c 6 t) (iblk m c 2 t)) := by
  rw [outsAt0_B m c t h]; frame_out

theorem next_taps (t : Fin cfg0.N) (h : ¬t.val % 16 = 0) (h' : t.val - 1 < cfg0.N) (l : Fin 5632) :
    (outsAt0 m c t.val t.isLt).2.2.1 (ix2 0 l)
        = tap0T (iblk m c 0 t) (iblk m c 1 t) (iblk m c 2 t) (iblk m c 6 t) (outsAt0 m c (t.val - 1) h').2.2.2.2
            (outsAt0 m c (t.val - 1) h').2.2.1 (ix2 0 l)
    ∧ (outsAt0 m c t.val t.isLt).2.2.1 (ix2 1 l)
        = tap1T (iblk m c 0 t) (iblk m c 1 t) (iblk m c 2 t) (iblk m c 6 t) (outsAt0 m c (t.val - 1) h').2.2.2.2
            (outsAt0 m c (t.val - 1) h').2.2.1 (ix2 0 l)
    ∧ (outsAt0 m c t.val t.isLt).2.2.1 (ix2 2 l)
        = tap2T (iblk m c 0 t) (iblk m c 1 t) (iblk m c 2 t) (iblk m c 6 t) (outsAt0 m c (t.val - 1) h').2.2.1 (ix2 0 l) := by
  have e : ∀ X : Vec F S3x5632 .f32, X = (outsAt0 m c t.val t.isLt).2.2.1 → _ := fun X hX => by
    rw [outsAt0_B m c t h] at hX
    frame_out [read_unread_whole] at hX
    exact hX
  rw [← (e _ rfl).symm]
  refine ⟨?_, ?_, ?_⟩
  · refine (canon_row 0 _ _ _ l).trans ?_
    exact congrArg (fun w => k0_pay14 _ _ _ w (ix2 0 l)) (ld_row 0 _ _)
  · refine (canon_row_of_ne 1 0 (by decide) _ _ _ l).trans ((canon_row 1 _ _ _ l).trans ?_)
    exact congrArg (fun w => k0_pay13 _ _ w (ix2 0 l)) (ld_row 1 _ _)
  · refine (canon_row_of_ne 2 0 (by decide) _ _ _ l).trans ((canon_row_of_ne 2 1 (by decide) _ _ _ l).trans ((canon_row 2 _ _ _ l).trans ?_))
    exact congrArg (fun w => k0_pay12 _ _ w (ix2 0 l)) (ld_row 2 _ _)

end Cert.KernelIdeal.Points
end
-- ==== Proof.Tile.lean ====
module

public import proofs.«01_k».proof.Proof.Points
public import proofs.«01_k».proof.Proof.Coe

/-!
One row tile of the kernel in real numbers: when the blocks of a point hold rows `n … n + 255` of the arrays and the
carried rows hold what follows them, every payload of the body holds the real numbers of `Maths`.
-/

@[expose] public section

set_option maxRecDepth 16384

noncomputable section
namespace Cert.KernelIdeal.Tile
open Cert.KernelIdeal Cert.KernelIdeal.Gen Cert.KernelIdeal.Points Cert.Maths Cert.Coe Idealize.ShloMosaic

/-- The blocks of a point hold rows `n … n + 255` of the arrays, and `s` the gradient of the pre-activations at the
    rows that follow. -/
structure Holds (x : Arrays) (n : ℕ) (x0 : Vec Ideal S256x1024 .f32) (x1 : Vec Ideal S256x5632 .bf16)
    (x2 : Vec Ideal S256x5632 .f32) (x3 : Vec Ideal S256x1024 .f32) (x4 : Vec Ideal S1024x5632 .bf16)
    (x5 : Vec Ideal S8x5632 .f32) (x6 : Vec Ideal S2816x1024 .bf16) (x7 : Vec Ideal S1x1024 .f32)
    (s : Vec Ideal S8x5632 .f32) : Prop where
  dy : ∀ (r : Fin 256) (e : Fin 1024), x0 (ix2 r e) = ((x.dy (n + r) e : ℝ) : EReal)
  u : ∀ (r : Fin 256) (c : Fin 5632), x1 (ix2 r c) = ((x.u (n + r) c : ℝ) : EReal)
  up : ∀ (r : Fin 256) (c : Fin 5632), x2 (ix2 r c) = ((x.up (n + r) c : ℝ) : EReal)
  h : ∀ (r : Fin 256) (d : Fin 1024), x3 (ix2 r d) = ((x.h (n + r) d : ℝ) : EReal)
  wup : ∀ (d : Fin 1024) (c : Fin 5632), x4 (ix2 d c) = ((x.wup d c : ℝ) : EReal)
  cw0 : ∀ c : Fin 5632, x5 (ix2 0 c) = ((x.cw 0 c : ℝ) : EReal)
  cw1 : ∀ c : Fin 5632, x5 (ix2 1 c) = ((x.cw 1 c : ℝ) : EReal)
  cw2 : ∀ c : Fin 5632, x5 (ix2 2 c) = ((x.cw 2 c : ℝ) : EReal)
  wdn : ∀ (f : Fin 2816) (e : Fin 1024), x6 (ix2 f e) = ((x.wdn f e : ℝ) : EReal)
  g : ∀ d : Fin 1024, x7 (ix2 0 d) = ((x.g d : ℝ) : EReal)
  next : ∀ (k : Fin 8) (c : Fin 5632), s (ix2 k c) = ((x.dup (n + 256 + k) c : ℝ) : EReal)
  eps : x.eps = Coe.eps

variable {x : Arrays} {n : ℕ}
variable {x0 : Vec Ideal S256x1024 .f32} {x1 : Vec Ideal S256x5632 .bf16} {x2 : Vec Ideal S256x5632 .f32}
  {x3 : Vec Ideal S256x1024 .f32} {x4 : Vec Ideal S1024x5632 .bf16} {x5 : Vec Ideal S8x5632 .f32}
  {x6 : Vec Ideal S2816x1024 .bf16} {x7 : Vec Ideal S1x1024 .f32} {s : Vec Ideal S8x5632 .f32}

section
variable (H : Holds x n x0 x1 x2 x3 x4 x5 x6 x7 s)
include H

/-- The gradient of the pre-activations. -/
theorem dup_val (r : Fin 256) (c : Fin 5632) : dupT x0 x6 x2 (ix2 r c) = ((x.dup (n + r) c : ℝ) : EReal) := by
  pointwise [dupT, k0_pay5]
  simp only [H.dy, H.wdn, H.up, lit_half, one_coe, mul_coe, add_coe, sub_coe, sum_coe, Ideal.tanh_coe, half_tanh]
  unfold Arrays.dup
  split
  · rename_i hc
    have e1 : lo ⟨c.val, hc⟩ = c := rfl
    rw [Arrays.dgate, e1]
    rfl
  · rename_i hc
    have hlt : c.val - 2816 < 2816 := by omega
    have e1 : hi ⟨c.val - 2816, hlt⟩ = c := Fin.ext (by show 2816 + (c.val - 2816) = c.val; omega)
    rfl

/-- The gradient one row later. -/
theorem dup1_val (r : Fin 256) (c : Fin 5632) : dupT1 x0 x6 x2 s (ix2 r c) = ((x.dup (n + r + 1) c : ℝ) : EReal) := by
  have hd := dup_val H
  pointwise [dupT1, k0_pay7, k0_pay6]
  have hr := r.isLt
  split
  · exact (hd _ c).trans (congrArg (fun k => ((x.dup k c : ℝ) : EReal)) (by dsimp only; omega))
  · split
    · exact (hd _ c).trans (congrArg (fun k => ((x.dup k c : ℝ) : EReal)) (by dsimp only; omega))
    · exact (H.next _ c).trans (congrArg (fun k => ((x.dup k c : ℝ) : EReal)) (by dsimp only; omega))

/-- The gradient two rows later. -/
theorem dup2_val (r : Fin 256) (c : Fin 5632) : dupT2 x0 x6 x2 s (ix2 r c) = ((x.dup (n + r + 2) c : ℝ) : EReal) := by
  have hd := dup_val H
  pointwise [dupT2, k0_pay9, k0_pay8, k0_pay6]
  have hr := r.isLt
  split
  · exact (hd _ c).trans (congrArg (fun k => ((x.dup k c : ℝ) : EReal)) (by dsimp only; omega))
  · split
    · exact (hd _ c).trans (congrArg (fun k => ((x.dup k c : ℝ) : EReal)) (by dsimp only; omega))
    · exact (H.next _ c).trans (congrArg (fun k => ((x.dup k c : ℝ) : EReal)) (by dsimp only; omega))

/-- The gradient of the up-projection. -/
theorem du_val (r : Fin 256) (c : Fin 5632) : duT x0 x2 x5 x6 s (ix2 r c) = ((x.du (n + r) c : ℝ) : EReal) := by
  have hd := dup_val H
  have hd1 := dup1_val H
  have hd2 := dup2_val H
  pointwise [duT, k0_pay16, k0_pay15]
  simp only [H.cw0, H.cw1, H.cw2, hd, hd1, hd2, mul_coe, add_coe]
  rfl

/-- The inverse root mean square. -/
theorem rs_val (r : Fin 256) : k0_pay18 x3 (ix2 r 0) = ((x.rs (n + r) : ℝ) : EReal) := by
  pointwise [k0_pay18]
  simp only [H.h, lit_1024, lit_eps, mul_coe, sum_coe, div_coe _ (show (1024 : ℝ) ≠ 0 by norm_num), add_coe, ← H.eps]
  exact rsqrt_coe (x.ms_pos (n + r))

/-- The normalised row. -/
theorem vh_val (r : Fin 256) (d : Fin 1024) : k0_pay19 x3 (ix2 r d) = ((x.vh (n + r) d : ℝ) : EReal) := by
  have hr := rs_val H
  pointwise [k0_pay19]
  rw [hr, H.h, mul_coe]
  rfl

/-- The gradient of the normalised, scaled row. -/
theorem dn_val (r : Fin 256) (d : Fin 1024) :
    k0_pay17 (dupT x0 x6 x2) (dupT1 x0 x6 x2 s) (dupT2 x0 x6 x2 s) (k0_pay15 x5) x4 (ix2 r d) = ((x.dn (n + r) d : ℝ) : EReal) := by
  have hd := du_val H
  pointwise [k0_pay17]
  simp only [hd, H.wup, mul_coe, sum_coe]
  rfl

/-- The gradient of the residual stream. -/
theorem dh_val (r : Fin 256) (d : Fin 1024) : dhT x0 x2 x3 x4 x5 x6 x7 s (ix2 r d) = ((x.dh (n + r) d : ℝ) : EReal) := by
  have hn := dn_val H
  have hv := vh_val H
  have hr := rs_val H
  pointwise [dhT, k0_pay21]
  simp only [hn, hv, hr, H.dy, H.g, lit_1024, mul_coe, sum_coe, div_coe _ (show (1024 : ℝ) ≠ 0 by norm_num), sub_coe, add_coe]
  rfl

/-- The tile's part of the gradient of the norm's scale. -/
theorem gg_val (g : Vec Ideal S1x1024 .f32) (d : Fin 1024) : ggT x0 x2 x3 x4 x5 x6 s g (ix2 0 d)
    = g (ix2 0 d) + ((∑ i : Fin 256, x.dn (n + i) d * x.vh (n + i) d : ℝ) : EReal) := by
  have hn := dn_val H
  have hv := vh_val H
  pointwise [ggT, k0_pay1, k0_pay20]
  simp only [hn, hv, mul_coe, sum_coe]

/-- The tile's part of the gradient of the taps. -/
theorem tap2_val (a : Vec Ideal S3x5632 .f32) (c : Fin 5632) : tap2T x0 x1 x2 x6 a (ix2 0 c)
    = a (ix2 2 c) + ((∑ i : Fin 256, x.dup (n + i) c * x.u (n + i) c : ℝ) : EReal) := by
  have hd := dup_val H
  pointwise [tap2T, k0_pay12, k0_pay11]
  simp only [hd, H.u, mul_coe, sum_coe]
  rfl

/-- One row back. -/
theorem tap1_val (a : Vec Ideal S3x5632 .f32) (c : Fin 5632) : tap1T x0 x1 x2 x6 s a (ix2 0 c)
    = a (ix2 1 c) + ((∑ i : Fin 256, x.dup (n + i + 1) c * x.u (n + i) c : ℝ) : EReal) := by
  have hd := dup1_val H
  pointwise [tap1T, k0_pay13, k0_pay11]
  simp only [hd, H.u, mul_coe, sum_coe]
  rfl

/-- Two rows back. -/
theorem tap0_val (a : Vec Ideal S3x5632 .f32) (c : Fin 5632) : tap0T x0 x1 x2 x6 s a (ix2 0 c)
    = a (ix2 0 c) + ((∑ i : Fin 256, x.dup (n + i + 2) c * x.u (n + i) c : ℝ) : EReal) := by
  have hd := dup2_val H
  pointwise [tap0T, k0_pay14, k0_pay11]
  simp only [hd, H.u, mul_coe, sum_coe]
  rfl

/-- The rows carried to the next point. -/
theorem carry_val (k : Fin 8) (c : Fin 5632) : k0_pay10 (dupT x0 x6 x2) (ix2 k c) = ((x.dup (n + k) c : ℝ) : EReal) := by
  have hd := dup_val H
  pointwise [k0_pay10]
  exact hd _ c

end

/-- The zeros stored at the first point. -/
theorem zero8 (k : Fin 8) (c : Fin 5632) : (k0_pay2 (F := Ideal)) (ix2 k c) = ((0 : ℝ) : EReal) := by
  pointwise [k0_pay2]
  rfl
/-- The zeros stored at the first point. -/
theorem zero3 (k : Fin 3) (c : Fin 5632) : (k0_pay3 (F := Ideal)) (ix2 k c) = ((0 : ℝ) : EReal) := by
  pointwise [k0_pay3]
  rfl
/-- The zeros stored at the first point. -/
theorem zero1 (d : Fin 1024) : (k0_pay4 (F := Ideal)) (ix2 0 d) = ((0 : ℝ) : EReal) := by
  pointwise [k0_pay4]
  rfl

end Cert.KernelIdeal.Tile
end
-- ==== Proof.Walk.lean ====
module

public import proofs.«01_k».proof.Proof.Host
public import proofs.«01_k».proof.Proof.Tile

/-!
The walk over the row tiles, last tile first: after the point that handles rows `n … n + 255` the output blocks hold these
rows' gradients, the accumulators hold the sums over the rows from `n` on, and the carried rows hold rows `n … n + 7`.
-/

@[expose] public section

set_option maxRecDepth 16384

noncomputable section
namespace Cert.KernelIdeal.Walk
open Cert.KernelIdeal Cert.KernelIdeal.Gen Cert.KernelIdeal.Host Cert.KernelIdeal.Tile Cert.KernelIdeal.Points Cert.Maths
  Cert.Coe Cert.Inputs Idealize.ShloMosaic Idealize.ShloMosaic.TcCoe

/-! ## The blocks' places -/

theorem idx0 : ∀ t : Fin cfg0.N, win0_0.index t 0 = 15 - t.val ∧ win0_0.index t 1 = 0 :=
  (by decide +kernel : ∀ t : Fin grid0.N, win0_0.index t 0 = 15 - t.val ∧ win0_0.index t 1 = 0)
theorem idx1 : ∀ t : Fin cfg0.N, win0_1.index t 0 = 15 - t.val ∧ win0_1.index t 1 = 0 :=
  (by decide +kernel : ∀ t : Fin grid0.N, win0_1.index t 0 = 15 - t.val ∧ win0_1.index t 1 = 0)
theorem idx2 : ∀ t : Fin cfg0.N, win0_2.index t 0 = 15 - t.val ∧ win0_2.index t 1 = 0 :=
  (by decide +kernel : ∀ t : Fin grid0.N, win0_2.index t 0 = 15 - t.val ∧ win0_2.index t 1 = 0)
theorem idx3 : ∀ t : Fin cfg0.N, win0_3.index t 0 = 15 - t.val ∧ win0_3.index t 1 = 0 :=
  (by decide +kernel : ∀ t : Fin grid0.N, win0_3.index t 0 = 15 - t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

/-- Row `r` of the tile that point `t` handles. -/
def row (t : Fin cfg0.N) (r : Fin 256) : Fin 4096 :=
  ⟨256 * (15 - t.val) + r.val, by have := r.isLt; omega⟩

section
variable {F : FTy → Type} [FloatOps F]
variable (m : (ℓ : Loc nD τ sig) → Buf (Elt F) ℓ) (c : Dev nD) (t : Fin cfg0.N)

theorem blk0 (r : Fin 256) (d : Fin 1024) : iblk m c 0 t (ix2 r d) = V m c main_arg5 (ix2 (row t r) d) := by
  unfold iblk
  rw [View.read_apply]
  show V m c main_arg5 _ = V m c main_arg5 _
  congr 1
  funext a
  apply Fin.ext
  match a with
  | ⟨0, _⟩ => show win0_0.index t 0 * 256 + 1 * r.val = 256 * (15 - t.val) + r.val; rw [(idx0 t).1]; omega
  | ⟨1, _⟩ => show win0_0.index t 1 * 1024 + 1 * d.val = d.val; rw [(idx0 t).2]; omega

theorem blk1 (r : Fin 256) (d : Fin 5632) : iblk m c 1 t (ix2 r d) = V m c main_v37 (ix2 (row t r) d) := by
  unfold iblk
  rw [View.read_apply]
  show V m c main_v37 _ = V m c main_v37 _
  congr 1
  funext a
  apply Fin.ext
  match a with
  | ⟨0, _⟩ => show win0_1.index t 0 * 256 + 1 * r.val = 256 * (15 - t.val) + r.val; rw [(idx1 t).1]; omega
  | ⟨1, _⟩ => show win0_1.index t 1 * 5632 + 1 * d.val = d.val; rw [(idx1 t).2]; omega

theorem blk2 (r : Fin 256) (d : Fin 5632) : iblk m c 2 t (ix2 r d) = V m c main_v35 (ix2 (row t r) d) := by
  unfold iblk
  rw [View.read_apply]
  show V m c main_v35 _ = V m c main_v35 _
  congr 1
  funext a
  apply Fin.ext
  match a with
  | ⟨0, _⟩ => show win0_2.index t 0 * 256 + 1 * r.val = 256 * (15 - t.val) + r.val; rw [(idx2 t).1]; omega
  | ⟨1, _⟩ => show win0_2.index t 1 * 5632 + 1 * d.val = d.val; rw [(idx2 t).2]; omega

theorem blk3 (r : Fin 256) (d : Fin 1024) : iblk m c 3 t (ix2 r d) = V m c main_arg0 (ix2 (row t r) d) := by
  unfold iblk
  rw [View.read_apply]
  show V m c main_arg0 _ = V m c main_arg0 _
  congr 1
  funext a
  apply Fin.ext
  match a with
  | ⟨0, _⟩ => show win0_3.index t 0 * 256 + 1 * r.val = 256 * (15 - t.val) + r.val; rw [(idx3 t).1]; omega
  | ⟨1, _⟩ => show win0_3.index t 1 * 1024 + 1 * d.val = d.val; rw [(idx3 t).2]; omega

theorem blk4 (r : Fin 1024) (d : Fin 5632) : iblk m c 4 t (ix2 r d) = V m c main_v38 (ix2 r d) := by
  unfold iblk
  rw [View.read_apply]
  show V m c main_v38 _ = V m c main_v38 _
  congr 1
  funext a
  apply Fin.ext
  match a with
  | ⟨0, _⟩ => show win0_4.index t 0 * 1024 + 1 * r.val = r.val; rw [(idx4 t).1]; omega
  | ⟨1, _⟩ => show win0_4.index t 1 * 5632 + 1 * d.val = d.val; rw [(idx4 t).2]; omega

theorem blk5 (r : Fin 8) (d : Fin 5632) : iblk m c 5 t (ix2 r d) = V m c main_v36 (ix2 r d) := by
  unfold iblk
  rw [View.read_apply]
  show V m c main_v36 _ = V m c main_v36 _
  congr 1
  funext a
  apply Fin.ext
  match a with
  | ⟨0, _⟩ => show win0_5.index t 0 * 8 + 1 * r.val = r.val; rw [(idx5 t).1]; omega
  | ⟨1, _⟩ => show win0_5.index t 1 * 5632 + 1 * d.val = d.val; rw [(idx5 t).2]; omega

theorem blk6 (r : Fin 2816) (d : Fin 1024) : iblk m c 6 t (ix2 r d) = V m c main_v39 (ix2 r d) := by
  unfold iblk
  rw [View.read_apply]
  show V m c main_v39 _ = V m c main_v39 _
  congr 1
  funext a
  apply Fin.ext
  match a with
  | ⟨0, _⟩ => show win0_6.index t 0 * 2816 + 1 * r.val = r.val; rw [(idx6 t).1]; omega
  | ⟨1, _⟩ => show win0_6.index t 1 * 1024 + 1 * d.val = d.val; rw [(idx6 t).2]; omega

theorem blk7 (r : Fin 1) (d : Fin 1024) : iblk m c 7 t (ix2 r d) = V m c main_arg1 (ix2 r d) := by
  unfold iblk
  rw [View.read_apply]
  show V m c main_arg1 _ = V m c main_arg1 _
  congr 1
  funext a
  apply Fin.ext
  match a with
  | ⟨0, _⟩ => show win0_7.index t 0 * 1 + 1 * r.val = r.val; rw [(idx7 t).1]; omega
  | ⟨1, _⟩ => show win0_7.index t 1 * 1024 + 1 * d.val = d.val; rw [(idx7 t).2]; omega
end

/-! ## One point -/

variable {x : Arrays}
variable (m : (ℓ : Loc nD τ sig) → Buf (Elt Ideal) ℓ) (c : Dev nD)

/-- The launch's arguments on device `c` hold the arrays `x`. -/
abbrev Args (x : Arrays) : Prop :=
  Reads x (m (c.tc.loc main_arg0)) (m (c.tc.loc main_arg1)) (m (c.tc.loc main_arg2)) (m (c.tc.loc main_arg3))
    (m (c.tc.loc main_arg4)) (m (c.tc.loc main_arg5))

/-- The blocks of point `t` hold rows `256 (15 − t) …` of the arrays. -/
theorem holds (R : Args m c x) (t : Fin cfg0.N) (s : Vec Ideal S8x5632 .f32)
    (hs : ∀ (k : Fin 8) (l : Fin 5632), s (ix2 k l) = ((x.dup (256 * (15 - t.val) + 256 + k) l : ℝ) : EReal)) :
    Holds x (256 * (15 - t.val)) (iblk m c 0 t) (iblk m c 1 t) (iblk m c 2 t) (iblk m c 3 t) (iblk m c 4 t)
      (iblk m c 5 t) (iblk m c 6 t) (iblk m c 7 t) s where
  dy r e := by rw [blk0, V_main_arg5]; exact R.dy _ _
  u r l := by rw [blk1, V_v37]; exact u_val R (row t r) l
  up r l := by rw [blk2, V_v35]; exact up_val R (row t r) l
  h r d := by rw [blk3, V_main_arg0]; exact R.h _ _
  wup d l := by rw [blk4, V_v38]; exact R.wup d l
  cw0 l := by rw [blk5, V_v36]; exact cw_val R 0 0 rfl l
  cw1 l := by rw [blk5, V_v36]; exact cw_val R 1 1 rfl l
  cw2 l := by rw [blk5, V_v36]; exact cw_val R 2 2 rfl l
  wdn f e := by rw [blk6, V_v39]; exact R.wdn f e
  g d := by rw [blk7, V_main_arg1]; exact R.g d
  next := hs
  eps := R.eps

/-- What the buffers hold once the rows from `n` on are done. -/
structure Done (x : Arrays) (n : ℕ) (du : Vec Ideal S256x5632 .bf16) (dh : Vec Ideal S256x1024 .f32)
    (cw : Vec Ideal S3x5632 .f32) (g : Vec Ideal S1x1024 .f32) (s : Vec Ideal S8x5632 .f32) : Prop where
  du : ∀ (r : Fin 256) (l : Fin 5632), du (ix2 r l) = ((x.du (n + r) l : ℝ) : EReal)
  dh : ∀ (r : Fin 256) (d : Fin 1024), dh (ix2 r d) = ((x.dh (n + r) d : ℝ) : EReal)
  cw0 : ∀ l : Fin 5632, cw (ix2 0 l) = ((x.dcw n 2 l : ℝ) : EReal)
  cw1 : ∀ l : Fin 5632, cw (ix2 1 l) = ((x.dcw n 1 l : ℝ) : EReal)
  cw2 : ∀ l : Fin 5632, cw (ix2 2 l) = ((x.dcw n 0 l : ℝ) : EReal)
  g : ∀ d : Fin 1024, g (ix2 0 d) = ((x.dg n d : ℝ) : EReal)
  s : ∀ (k : Fin 8) (l : Fin 5632), s (ix2 k l) = ((x.dup (n + k) l : ℝ) : EReal)

/-- After point `t` the rows from `256 (15 − t)` on are done. -/
theorem done (R : Args m c x) : ∀ (n : ℕ) (hn : n < cfg0.N), Done x (256 * (15 - n)) (outsAt0 m c n hn).1 (outsAt0 m c n hn).2.1
    (outsAt0 m c n hn).2.2.1 (outsAt0 m c n hn).2.2.2.1 (outsAt0 m c n hn).2.2.2.2
  | 0, hn => by
    have h : (⟨0, hn⟩ : Fin cfg0.N).val % 16 = 0 := rfl
    have H := holds m c R ⟨0, hn⟩ (k0_pay2 (F := Ideal)) fun k l => by
      rw [x.dup_out _ (by dsimp only; omega)]; exact zero8 k l
    have hd := first_du m c ⟨0, hn⟩ h
    have hh := first_dh m c ⟨0, hn⟩ h
    have hg := first_gg m c ⟨0, hn⟩ h
    have hs := first_carry m c ⟨0, hn⟩ h
    have ht := first_taps m c ⟨0, hn⟩ h
    refine ⟨fun r l => (congrFun hd _).trans (du_val H r l), fun r d => (congrFun hh _).trans (dh_val H r d),
      fun l => ?_, fun l => ?_, fun l => ?_, fun d => ?_, fun k l => (congrFun hs _).trans (carry_val H k l)⟩
    · refine (ht l).1.trans ((tap0_val H _ l).trans ?_)
      rw [zero3, add_coe, x.dcw_tile 15 2 (by omega) l, x.dcw_end]
      rfl
    · refine (ht l).2.1.trans ((tap1_val H _ l).trans ?_)
      rw [zero3, add_coe, x.dcw_tile 15 1 (by omega) l, x.dcw_end]
      rfl
    · refine (ht l).2.2.trans ((tap2_val H _ l).trans ?_)
      rw [zero3, add_coe, x.dcw_tile 15 0 (by omega) l, x.dcw_end]
      rfl
    · refine (congrFun hg _).trans ((gg_val H _ d).trans ?_)
      rw [zero1, add_coe, x.dg_tile 15 (by omega) d, x.dg_end]
      rfl
  | n + 1, hn => by
    have hN : cfg0.N = 16 := Gen.N_0
    have h : ¬(⟨n + 1, hn⟩ : Fin cfg0.N).val % 16 = 0 := by dsimp only; omega
    have hn' : n < cfg0.N := by omega
    have ih := done R n hn'
    have hq : 15 - n = 15 - (n + 1) + 1 := by omega
    have H := holds m c R ⟨n + 1, hn⟩ (outsAt0 m c n hn').2.2.2.2 fun k l => by
      rw [ih.s k l, hq]; rfl
    have hd := next_du m c ⟨n + 1, hn⟩ h hn'
    have hh := next_dh m c ⟨n + 1, hn⟩ h hn'
    have hg := next_gg m c ⟨n + 1, hn⟩ h hn'
    have hs := next_carry m c ⟨n + 1, hn⟩ h
    have ht := next_taps m c ⟨n + 1, hn⟩ h hn'
    refine ⟨fun r l => (congrFun hd _).trans (du_val H r l), fun r d => (congrFun hh _).trans (dh_val H r d),
      fun l => ?_, fun l => ?_, fun l => ?_, fun d => ?_, fun k l => (congrFun hs _).trans (carry_val H k l)⟩
    · refine (ht l).1.trans ((tap0_val H _ l).trans ?_)
      refine (congrArg (· + _) (ih.cw0 l)).trans ?_
      rw [add_coe, x.dcw_tile (15 - (n + 1)) 2 (by omega) l, hq]
    · refine (ht l).2.1.trans ((tap1_val H _ l).trans ?_)
      refine (congrArg (· + _) (ih.cw1 l)).trans ?_
      rw [add_coe, x.dcw_tile (15 - (n + 1)) 1 (by omega) l, hq]
    · refine (ht l).2.2.trans ((tap2_val H _ l).trans ?_)
      refine (congrArg (· + _) (ih.cw2 l)).trans ?_
      rw [add_coe, x.dcw_tile (15 - (n + 1)) 0 (by omega) l, hq]
      rfl
    · refine (congrFun hg _).trans ((gg_val H _ d).trans ?_)
      refine (congrArg (· + _) (ih.g d)).trans ?_
      rw [add_coe, x.dg_tile (15 - (n + 1)) (by omega) d, hq]

end Cert.KernelIdeal.Walk
end
-- ==== Proof.Results.lean ====
module

public import proofs.«01_k».proof.Proof.Walk

/-!
The kernel's four result arrays in real numbers: the tiles put together, and the accumulators after the last point.
-/

@[expose] public section

set_option maxRecDepth 16384

noncomputable section
namespace Cert.KernelIdeal.Results
open Cert.KernelIdeal Cert.KernelIdeal.Gen Cert.KernelIdeal.Walk Cert.Maths Cert.Coe Cert.Inputs
  Idealize.ShloMosaic Idealize.ShloMosaic.TcCoe

theorem idx8 : ∀ t : Fin cfg0.N, win0_8.index t 0 = 15 - t.val ∧ win0_8.index t 1 = 0 :=
  (by decide +kernel : ∀ t : Fin grid0.N, win0_8.index t 0 = 15 - t.val ∧ win0_8.index t 1 = 0)
theorem idx9 : ∀ t : Fin cfg0.N, win0_9.index t 0 = 15 - t.val ∧ win0_9.index t 1 = 0 :=
  (by decide +kernel : ∀ t : Fin grid0.N, win0_9.index t 0 = 15 - t.val ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)

variable {x : Arrays}
variable (m : (ℓ : Loc nD τ sig) → Buf (Elt Ideal) ℓ) (c : Dev nD)

/-- The up-projection's gradient, as an array. -/
def duA (x : Arrays) : Vec Ideal S4096x5632 .bf16 := fun i => ((x.du (i 0).val (i 1) : ℝ) : EReal)
/-- The residual stream's gradient, as an array. -/
def dhA (x : Arrays) : Vec Ideal S4096x1024 .f32 := fun i => ((x.dh (i 0).val (i 1) : ℝ) : EReal)
/-- The taps' gradient, as an array. -/
def cwA (x : Arrays) : Vec Ideal S3x5632 .f32 := fun i => ((x.dcw 0 (2 - (i 0).val) (i 1) : ℝ) : EReal)
/-- The gain's gradient, as an array. -/
def gA (x : Arrays) : Vec Ideal S1x1024 .f32 := fun i => ((x.dg 0 (i 1) : ℝ) : EReal)

/-- The first result array. -/
theorem final8 (R : Args m c x) : (dats m 0 c).arrAt 8 cfg0.N = duA x :=
  (dats m 0 c).arrAt_eq_of_cover 8 (duA x)
    (fun t hf => by
      have hD := done m c R t.val t.isLt
      rw [Value.flushed8]
      funext j
      rw [View.read_apply]
      have e : (win0_8.blk t).view.emb j = ix2 (row t (j 0)) (j 1) := by
        funext a
        apply Fin.ext
        match a with
        | ⟨0, _⟩ => show win0_8.index t 0 * 256 + 1 * (j 0).val = 256 * (15 - t.val) + (j 0).val; rw [(idx8 t).1]; omega
        | ⟨1, _⟩ => show win0_8.index t 1 * 5632 + 1 * (j 1).val = (j 1).val; rw [(idx8 t).2]; omega
      have hj : j = ix2 (j 0) (j 1) := by
        funext a
        match a with
        | ⟨0, _⟩ => rfl
        | ⟨1, _⟩ => rfl
      show (outsAt0 m c t.val t.isLt).1 j = duA x ((win0_8.blk t).view.emb j)
      rw [e, hj]
      exact hD.du (j 0) (j 1))
    fun i => by
      have hN : cfg0.N = 16 := N_0
      have h0 : (i 0 : Nat) < 4096 := (i 0).isLt
      have h1 : (i 1 : Nat) < 5632 := (i 1).isLt
      have hlt : 15 - (i 0).val / 256 < cfg0.N := by omega
      let t : Fin cfg0.N := ⟨15 - (i 0).val / 256, hlt⟩
      have ht : t.val = 15 - (i 0).val / 256 := rfl
      refine ⟨t, flush0_8 _, ?_⟩
      show i ∈ ((View.whole main_v40_0).slice (win0_8.rect t)).set
      rw [View.set_slice_whole, Rect.mem_set_unit]
      intro a
      match a with
      | ⟨0, _⟩ =>
        show win0_8.index t 0 * 256 ≤ (i 0 : Nat)
          ∧ (i 0 : Nat) < win0_8.index t 0 * 256 + 256
        rw [(idx8 t).1, ht]; omega
      | ⟨1, _⟩ =>
        show win0_8.index t 1 * 5632 ≤ (i 1 : Nat)
          ∧ (i 1 : Nat) < win0_8.index t 1 * 5632 + 5632
        rw [(idx8 t).2]; omega

/-- The second result array. -/
theorem final9 (R : Args m c x) : (dats m 0 c).arrAt 9 cfg0.N = dhA x :=
  (dats m 0 c).arrAt_eq_of_cover 9 (dhA x)
    (fun t hf => by
      have hD := done m c R t.val t.isLt
      rw [Value.flushed9]
      funext j
      rw [View.read_apply]
      have e : (win0_9.blk t).view.emb j = ix2 (row t (j 0)) (j 1) := by
        funext a
        apply Fin.ext
        match a with
        | ⟨0, _⟩ => show win0_9.index t 0 * 256 + 1 * (j 0).val = 256 * (15 - t.val) + (j 0).val; rw [(idx9 t).1]; omega
        | ⟨1, _⟩ => show win0_9.index t 1 * 1024 + 1 * (j 1).val = (j 1).val; rw [(idx9 t).2]; omega
      have hj : j = ix2 (j 0) (j 1) := by
        funext a
        match a with
        | ⟨0, _⟩ => rfl
        | ⟨1, _⟩ => rfl
      show (outsAt0 m c t.val t.isLt).2.1 j = dhA x ((win0_9.blk t).view.emb j)
      rw [e, hj]
      exact hD.dh (j 0) (j 1))
    fun i => by
      have hN : cfg0.N = 16 := N_0
      have h0 : (i 0 : Nat) < 4096 := (i 0).isLt
      have h1 : (i 1 : Nat) < 1024 := (i 1).isLt
      have hlt : 15 - (i 0).val / 256 < cfg0.N := by omega
      let t : Fin cfg0.N := ⟨15 - (i 0).val / 256, hlt⟩
      have ht : t.val = 15 - (i 0).val / 256 := rfl
      refine ⟨t, flush0_9 _, ?_⟩
      show i ∈ ((View.whole main_v40_1).slice (win0_9.rect t)).set
      rw [View.set_slice_whole, Rect.mem_set_unit]
      intro a
      match a with
      | ⟨0, _⟩ =>
        show win0_9.index t 0 * 256 ≤ (i 0 : Nat)
          ∧ (i 0 : Nat) < win0_9.index t 0 * 256 + 256
        rw [(idx9 t).1, ht]; omega
      | ⟨1, _⟩ =>
        show win0_9.index t 1 * 1024 ≤ (i 1 : Nat)
          ∧ (i 1 : Nat) < win0_9.index t 1 * 1024 + 1024
        rw [(idx9 t).2]; omega

/-- The third result array. -/
theorem final10 (R : Args m c x) : (dats m 0 c).arrAt 10 cfg0.N = cwA x :=
  (dats m 0 c).arrAt_eq_of_cover 10 (cwA x)
    (fun t hf => by
      have hN : cfg0.N = 16 := N_0
      have ht : t.val = 15 := by have := (flush0_10 t).mp hf; have := t.isLt; omega
      have hD := done m c R t.val t.isLt
      have h0 : 256 * (15 - t.val) = 0 := by omega
      rw [h0] at hD
      rw [Value.flushed10]
      funext j
      rw [View.read_apply]
      have e : (win0_10.blk t).view.emb j = j := by
        funext a
        apply Fin.ext
        match a with
        | ⟨0, _⟩ => show win0_10.index t 0 * 3 + 1 * (j 0).val = (j 0).val; rw [(idx10 t).1]; omega
        | ⟨1, _⟩ => show win0_10.index t 1 * 5632 + 1 * (j 1).val = (j 1).val; rw [(idx10 t).2]; omega
      show (outsAt0 m c t.val t.isLt).2.2.1 j = cwA x ((win0_10.blk t).view.emb j)
      rw [e]
      have hj : j = ix2 (j 0) (j 1) := by
        funext a
        match a with
        | ⟨0, _⟩ => rfl
        | ⟨1, _⟩ => rfl
      have hk : ∀ (k : Fin 3) (l : Fin 5632), (outsAt0 m c t.val t.isLt).2.2.1 (ix2 k l) = cwA x (ix2 k l) := fun k l =>
        match k with
        | 0 => hD.cw0 l
        | 1 => hD.cw1 l
        | 2 => hD.cw2 l
      rw [hj]
      exact hk (j 0) (j 1))
    fun i => by
      have hN : cfg0.N = 16 := N_0
      have h0 : (i 0 : Nat) < 3 := (i 0).isLt
      have h1 : (i 1 : Nat) < 5632 := (i 1).isLt
      have hlt : 15 < cfg0.N := by omega
      let t : Fin cfg0.N := ⟨15, hlt⟩
      refine ⟨t, (flush0_10 _).mpr rfl, ?_⟩
      show i ∈ ((View.whole main_v40_2).slice (win0_10.rect t)).set
      rw [View.set_slice_whole, Rect.mem_set_unit]
      intro a
      match a with
      | ⟨0, _⟩ =>
        show win0_10.index t 0 * 3 ≤ (i 0 : Nat)
          ∧ (i 0 : Nat) < win0_10.index t 0 * 3 + 3
        rw [(idx10 t).1]; omega
      | ⟨1, _⟩ =>
        show win0_10.index t 1 * 5632 ≤ (i 1 : Nat)
          ∧ (i 1 : Nat) < win0_10.index t 1 * 5632 + 5632
        rw [(idx10 t).2]; omega

/-- The fourth result array. -/
theorem final11 (R : Args m c x) : (dats m 0 c).arrAt 11 cfg0.N = gA x :=
  (dats m 0 c).arrAt_eq_of_cover 11 (gA x)
    (fun t hf => by
      have hN : cfg0.N = 16 := N_0
      have ht : t.val = 15 := by have := (flush0_11 t).mp hf; have := t.isLt; omega
      have hD := done m c R t.val t.isLt
      have h0 : 256 * (15 - t.val) = 0 := by omega
      rw [h0] at hD
      rw [Value.flushed11]
      funext j
      rw [View.read_apply]
      have e : (win0_11.blk t).view.emb j = j := by
        funext a
        apply Fin.ext
        match a with
        | ⟨0, _⟩ => show win0_11.index t 0 * 1 + 1 * (j 0).val = (j 0).val; rw [(idx11 t).1]; omega
        | ⟨1, _⟩ => show win0_11.index t 1 * 1024 + 1 * (j 1).val = (j 1).val; rw [(idx11 t).2]; omega
      show (outsAt0 m c t.val t.isLt).2.2.2.1 j = gA x ((win0_11.blk t).view.emb j)
      rw [e]
      have hj : j = ix2 0 (j 1) := by
        funext a
        match a with
        | ⟨0, _⟩ => exact Fin.ext (by have : (j 0).val < 1 := (j 0).isLt; show (j 0).val = 0; omega)
        | ⟨1, _⟩ => rfl
      rw [hj]
      exact hD.g (j 1))
    fun i => by
      have hN : cfg0.N = 16 := N_0
      have h0 : (i 0 : Nat) < 1 := (i 0).isLt
      have h1 : (i 1 : Nat) < 1024 := (i 1).isLt
      have hlt : 15 < cfg0.N := by omega
      let t : Fin cfg0.N := ⟨15, hlt⟩
      refine ⟨t, (flush0_11 _).mpr rfl, ?_⟩
      show i ∈ ((View.whole main_v40_3).slice (win0_11.rect t)).set
      rw [View.set_slice_whole, Rect.mem_set_unit]
      intro a
      match a with
      | ⟨0, _⟩ =>
        show win0_11.index t 0 * 1 ≤ (i 0 : Nat)
          ∧ (i 0 : Nat) < win0_11.index t 0 * 1 + 1
        rw [(idx11 t).1]; omega
      | ⟨1, _⟩ =>
        show win0_11.index t 1 * 1024 ≤ (i 1 : Nat)
          ∧ (i 1 : Nat) < win0_11.index t 1 * 1024 + 1024
        rw [(idx11 t).2]; omega

end Cert.KernelIdeal.Results
end
-- ==== Proof.RefValues.lean ====
module

public import proofs.«01_k».proof.Proof.Gen.ReferenceIdeal.Read
public import proofs.«01_k».proof.Proof.Inputs

/-!
The reference's values in real numbers, operation by operation up to its four results.
-/

@[expose] public section

set_option maxRecDepth 16384

noncomputable section
namespace Cert.ReferenceIdeal.RefValues
open Cert.ReferenceIdeal Cert.ReferenceIdeal.Gen Cert.ReferenceIdeal.Read Cert.Maths Cert.Coe Cert.Inputs Idealize.ShloMosaic

variable {x : Arrays} {a0 : FVec Ideal S4096x1024 .f32} {a1 : FVec Ideal S1x1024 .f32} {a2 : FVec Ideal S1024x5632 .f32}
  {a3 : FVec Ideal S3x5632 .f32} {a4 : FVec Ideal S2816x1024 .f32} {a5 : FVec Ideal S4096x1024 .f32}
variable (R : Reads x a0 a1 a2 a3 a4 a5)
include R

/-- The mean square, plus `eps`. -/
theorem v7 (r : Fin 4096) : val_main_v7 (F := Ideal) a0 (ix2 r 0) = ((x.ms r : ℝ) : EReal) := by
  pointwise [val_main_v7, val_main_v6, val_main_v5, val_main_v4, val_main_v3, val_main_v2, val_main_v1, val_main_cst_0,
    val_main_cst_1, val_main_cst_2]
  simp only [R.h, lit_1024, lit_eps, mul_coe, sum_coe]
  rw [div_coe _ (by norm_num), add_coe, ← R.eps]
  rfl

/-- The reciprocal root mean square. -/
theorem v8 (r : Fin 4096) : val_main_v8 (F := Ideal) a0 (ix2 r 0) = ((x.rs r : ℝ) : EReal) := by
  have h := v7 R r
  pointwise [val_main_v8]
  rw [h]
  exact rsqrt_coe (x.ms_pos r)

/-- Minus half of its quotient by the mean square. -/
theorem v11 (r : Fin 4096) : val_main_v11 (F := Ideal) a0 (ix2 r 0)
    = ((-(1 / 2) * (x.rs r * (1 / x.ms r)) : ℝ) : EReal) := by
  have h := v7 R r
  have h' := v8 R r
  pointwise [val_main_v11, val_main_v10, val_main_v9, val_main_cst_3]
  rw [h, h', lit_neg_half, div_coe _ (x.ms_pos r).ne', mul_coe]

/-- The normalised row. -/
theorem v13 (r : Fin 4096) (d : Fin 1024) : val_main_v13 (F := Ideal) a0 (ix2 r d) = ((x.vh r d : ℝ) : EReal) := by
  have h := v8 R
  pointwise [val_main_v13, val_main_v12]
  rw [h, R.h, mul_coe]
  rfl

/-- The up-projection's output. -/
theorem v17 (r : Fin 4096) (c : Fin 5632) : val_main_v17 (F := Ideal) a0 a1 a2 (ix2 r c) = ((x.u r c : ℝ) : EReal) := by
  have h := v13 R
  pointwise [val_main_v17, val_main_v16, val_main_v15, val_main_v14, val_main_v0, val_main_cst]
  simp only [h, R.g, R.wup, mul_coe, sum_coe, add_zero]
  rfl

/-- The up-projection's output two rows back. -/
theorem v22 (r : Fin 4096) (c : Fin 5632) :
    val_main_v22 (F := Ideal) a0 a1 a2 (ix2 r c) = ((x.uBack 2 r c : ℝ) : EReal) := by
  have h := v17 R
  pointwise [val_main_v22, val_main_v21, val_main_v20, val_main_cst_4]
  split
  · rename_i hr
    exact congrArg ((↑) : ℝ → EReal) (show (0 : ℝ) = x.uBack 2 r c from (if_neg (by omega)).symm)
  · rename_i hr
    exact (h _ c).trans (congrArg ((↑) : ℝ → EReal) (show x.u (r.val - 2) c = x.uBack 2 r c from (if_pos (by omega)).symm))

/-- One row back. -/
theorem v31 (r : Fin 4096) (c : Fin 5632) :
    val_main_v31 (F := Ideal) a0 a1 a2 (ix2 r c) = ((x.uBack 1 r c : ℝ) : EReal) := by
  have h := v17 R
  pointwise [val_main_v31, val_main_v30, val_main_v29, val_main_cst_6]
  split
  · rename_i hr
    exact congrArg ((↑) : ℝ → EReal) (show (0 : ℝ) = x.uBack 1 r c from (if_neg (by omega)).symm)
  · rename_i hr
    exact (h _ c).trans (congrArg ((↑) : ℝ → EReal) (show x.u (r.val - 1) c = x.uBack 1 r c from (if_pos (by omega)).symm))

/-- The taps' rows. -/
theorem v24 (c : Fin 5632) : val_main_v24 (F := Ideal) a3 (ix2 0 c) = ((x.cw 0 c : ℝ) : EReal) := by
  pointwise [val_main_v24, val_main_v19, val_main_v18]
  exact R.cw 0 c
/-- The second. -/
theorem v33 (c : Fin 5632) : val_main_v33 (F := Ideal) a3 (ix2 0 c) = ((x.cw 1 c : ℝ) : EReal) := by
  pointwise [val_main_v33, val_main_v28, val_main_v27]
  exact R.cw 1 c
/-- The third. -/
theorem v39 (c : Fin 5632) : val_main_v39 (F := Ideal) a3 (ix2 0 c) = ((x.cw 2 c : ℝ) : EReal) := by
  pointwise [val_main_v39, val_main_v38, val_main_v37]
  exact R.cw 2 c

/-- The causal convolution. -/
theorem v42 (r : Fin 4096) (c : Fin 5632) : val_main_v42 (F := Ideal) a0 a1 a2 a3 (ix2 r c) = ((x.up r c : ℝ) : EReal) := by
  have h2 := v22 R
  have h1 := v31 R
  have h0 := v17 R
  have t0 := v24 R
  have t1 := v33 R
  have t2 := v39 R
  pointwise [val_main_v42, val_main_v41, val_main_v40, val_main_v36, val_main_v35, val_main_v34, val_main_v26, val_main_v25]
  simp only [h2, h1, h0, t0, t1, t2, mul_coe, add_coe]
  rfl

/-- The gate half. -/
theorem v43 (r : Fin 4096) (f : Fin 2816) :
    val_main_v43 (F := Ideal) a0 a1 a2 a3 (ix2 r f) = ((x.up r (lo f) : ℝ) : EReal) := by
  have h := v42 R
  pointwise [val_main_v43]
  exact h r (lo f)

/-- The value half. -/
theorem v44 (r : Fin 4096) (f : Fin 2816) :
    val_main_v44 (F := Ideal) a0 a1 a2 a3 (ix2 r f) = ((x.up r (hi f) : ℝ) : EReal) := by
  have h := v42 R
  pointwise [val_main_v44]
  exact h r (hi f)

/-- The logistic function of the gate. -/
theorem v45_2 (r : Fin 4096) (f : Fin 2816) :
    val_main_v45_2 (F := Ideal) a0 a1 a2 a3 (ix2 r f) = ((sg (x.up r (lo f)) : ℝ) : EReal) := by
  have h := v43 R
  have hp : (1 : ℝ) + Real.exp (-x.up r (lo f)) ≠ 0 := (add_pos one_pos (Real.exp_pos _)).ne'
  pointwise [val_main_v45_2, val_main_call0_v4, val_main_call0_v3, val_main_call0_v2, val_main_call0_v1,
    val_main_call0_v0, val_main_call0_cst, val_main_call0_cst_0]
  simp only [h, one_coe, lit_one, neg_coe, Ideal.exp_coe, add_coe]
  rw [div_coe _ hp]
  unfold sg
  rw [one_mul, one_div]

/-- The gradient of the gated product. -/
theorem v50 (r : Fin 4096) (f : Fin 2816) : val_main_v50 (F := Ideal) a4 a5 (ix2 r f) = ((x.dact r f : ℝ) : EReal) := by
  pointwise [val_main_v50, val_main_v49]
  simp only [R.dy, R.wdn, mul_coe, sum_coe]
  rfl

/-- The gradient of the value. -/
theorem v51 (r : Fin 4096) (f : Fin 2816) :
    val_main_v51 (F := Ideal) a0 a1 a2 a3 a4 a5 (ix2 r f) = ((x.dval r f : ℝ) : EReal) := by
  have h0 := v43 R
  have h1 := v45_2 R
  have h2 := v50 R
  pointwise [val_main_v51, val_main_v45_0]
  rw [h0, h1, h2, mul_coe, mul_coe, mul_comm]
  rfl

/-- The gradient of the gate. -/
theorem v53 (r : Fin 4096) (f : Fin 2816) :
    val_main_v53 (F := Ideal) a0 a1 a2 a3 a4 a5 (ix2 r f) = ((x.dgate r f : ℝ) : EReal) := by
  have h0 := v43 R
  have h1 := v45_2 R
  have h2 := v50 R
  have h3 := v44 R
  pointwise [val_main_v53, val_main_call1_v2, val_main_call1_v1, val_main_call1_v0, val_main_v52, val_main_v45_1,
    val_main_call0_v7, val_main_call0_v6, val_main_call0_cst_1]
  simp only [h0, h1, h2, h3, one_coe, lit_one, mul_coe, sub_coe, add_coe]
  refine congrArg ((↑) : ℝ → EReal) ?_
  unfold Arrays.dgate
  ring

/-- The gradient of the convolution's output. -/
theorem v54 (r : Fin 4096) (c : Fin 5632) :
    val_main_v54 (F := Ideal) a0 a1 a2 a3 a4 a5 (ix2 r c) = ((x.dup r c : ℝ) : EReal) := by
  have h0 := v53 R
  have h1 := v51 R
  pointwise [val_main_v54]
  split
  · rename_i hc
    exact (h0 r _).trans (congrArg ((↑) : ℝ → EReal) (show x.dgate r ⟨c.val, hc⟩ = x.dup r c by
      unfold Arrays.dup; rw [dif_pos hc]))
  · rename_i hc
    exact (h1 r _).trans (congrArg ((↑) : ℝ → EReal)
      (show x.dval r ⟨c.val - 2816, by omega⟩ = x.dup r c by
        unfold Arrays.dup; rw [dif_neg hc]))

/-- The part of the up-projection's gradient that comes from one row later. -/
theorem v71 (r : Fin 4096) (c : Fin 5632) :
    val_main_v71 (F := Ideal) a0 a1 a2 a3 a4 a5 (ix2 r c) = ((x.cw 1 c * x.dup (r + 1) c : ℝ) : EReal) := by
  have h := v54 R
  have t := v33 R
  pointwise [val_main_v71, val_main_v70, val_main_v64, val_main_v63, val_main_cst_13]
  split
  · refine (congrArg₂ (· * ·) (t c) (h _ c)).trans ?_
    rw [mul_coe]
    exact congrArg (fun k => ((x.cw 1 c * x.dup k c : ℝ) : EReal)) (by dsimp only; omega)
  · rw [x.dup_out _ (by omega), mul_zero]; rfl

/-- The part that comes from two rows later. -/
theorem v84 (r : Fin 4096) (c : Fin 5632) :
    val_main_v84 (F := Ideal) a0 a1 a2 a3 a4 a5 (ix2 r c) = ((x.cw 0 c * x.dup (r + 2) c : ℝ) : EReal) := by
  have h := v54 R
  have t := v24 R
  pointwise [val_main_v84, val_main_v83, val_main_v77, val_main_v76, val_main_cst_17]
  split
  · refine (congrArg₂ (· * ·) (t c) (h _ c)).trans ?_
    rw [mul_coe]
    exact congrArg (fun k => ((x.cw 0 c * x.dup k c : ℝ) : EReal)) (by dsimp only; omega)
  · rw [x.dup_out _ (by omega), mul_zero]; rfl

/-- The gradient of the up-projection's output. -/
theorem v85 (r : Fin 4096) (c : Fin 5632) :
    val_main_v85 (F := Ideal) a0 a1 a2 a3 a4 a5 (ix2 r c) = ((x.du r c : ℝ) : EReal) := by
  have h := v54 R
  have h1 := v71 R
  have h2 := v84 R
  have t := v39 R
  pointwise [val_main_v85, val_main_v72, val_main_v56, val_main_v55]
  simp only [h, h1, h2, t, mul_coe, add_coe]
  rfl

/-- The first result. -/
theorem v110 (r : Fin 4096) (c : Fin 5632) :
    val_main_v110 (F := Ideal) a0 a1 a2 a3 a4 a5 (ix2 r c) = ((x.du r c : ℝ) : EReal) := v85 R r c

omit R in
/-- A sum over the rows, by the row's number. -/
theorem sum_rows (f : ℕ → ℝ) : (∑ i : Fin 4096, f i.val) = ∑ r ∈ Finset.range 4096, f r := Fin.sum_univ_eq_sum_range f 4096

/-- The third tap's gradient. -/
theorem v60 (c : Fin 5632) : val_main_v60 (F := Ideal) a0 a1 a2 a3 a4 a5 (ix1 c) = ((x.dcw 0 0 c : ℝ) : EReal) := by
  have h := v54 R
  have h' := v17 R
  pointwise [val_main_v60, val_main_v59, val_main_v58, val_main_v57, val_main_cst_8, val_main_cst_9]
  refine (Fin.sum_univ_one _).trans ?_
  simp only [h, h', mul_coe, sum_coe]
  rw [sum_rows fun r => x.dup r c * x.u r c, Finset.range_eq_Ico]
  rfl

/-- The second tap's gradient. -/
theorem v68 (c : Fin 5632) : val_main_v68 (F := Ideal) a0 a1 a2 a3 a4 a5 (ix1 c) = ((x.dcw 0 1 c : ℝ) : EReal) := by
  have h := v54 R
  have h' := v31 R
  pointwise [val_main_v68, val_main_v67, val_main_v66, val_main_v65, val_main_cst_11, val_main_cst_12]
  refine (Fin.sum_univ_one _).trans ?_
  simp only [h, h', mul_coe, sum_coe]
  rw [sum_rows fun r => x.dup r c * x.uBack 1 r c, x.dcw_back]

/-- The first tap's gradient. -/
theorem v81 (c : Fin 5632) : val_main_v81 (F := Ideal) a0 a1 a2 a3 a4 a5 (ix1 c) = ((x.dcw 0 2 c : ℝ) : EReal) := by
  have h := v54 R
  have h' := v22 R
  pointwise [val_main_v81, val_main_v80, val_main_v79, val_main_v78, val_main_cst_15, val_main_cst_16]
  refine (Fin.sum_univ_one _).trans ?_
  simp only [h, h', mul_coe, sum_coe]
  rw [sum_rows fun r => x.dup r c * x.uBack 2 r c, x.dcw_back]

/-- The third result: row `j` is the gradient of tap `j`, which reads `2 − j` rows back. -/
theorem v88 (j : Fin 3) (c : Fin 5632) :
    val_main_v88 (F := Ideal) a0 a1 a2 a3 a4 a5 (ix2 j c) = ((x.dcw 0 (2 - j.val) c : ℝ) : EReal) := by
  have h0 := v60 R
  have h1 := v68 R
  have h2 := v81 R
  pointwise [val_main_v88, val_main_v87, val_main_v86, val_main_v75, val_main_v74, val_main_v73, val_main_v62,
    val_main_v61, val_main_cst_10, val_main_cst_14, val_main_cst_18]
  fin_cases j
  · simp [h0, h1, h2]
  · simp [h0, h1, h2]
  · simp [h0, h1, h2]

/-- The gradient of the normalised, scaled row. -/
theorem v89 (r : Fin 4096) (d : Fin 1024) :
    val_main_v89 (F := Ideal) a0 a1 a2 a3 a4 a5 (ix2 r d) = ((x.dn r d : ℝ) : EReal) := by
  have h := v85 R
  pointwise [val_main_v89]
  simp only [h, R.wup, mul_coe, sum_coe]
  rfl

/-- The fourth result. -/
theorem v92 (d : Fin 1024) : val_main_v92 (F := Ideal) a0 a1 a2 a3 a4 a5 (ix2 0 d) = ((x.dg 0 d : ℝ) : EReal) := by
  have h := v89 R
  have h' := v13 R
  pointwise [val_main_v92, val_main_v91, val_main_v90, val_main_cst_19]
  simp only [h, h', mul_coe, sum_coe]
  rw [sum_rows fun r => x.vh r d * x.dn r d, Finset.range_eq_Ico]
  refine congrArg ((↑) : ℝ → EReal) (Finset.sum_congr rfl fun r _ => mul_comm _ _)

/-- The row's factor of the normalisation's gradient. -/
theorem v104 (r : Fin 4096) : val_main_v104 (F := Ideal) a0 a1 a2 a3 a4 a5 (ix1 r)
    = (((∑ e, x.h r e * (x.dn r e * x.g e)) * (-(1 / 2) * (x.rs r * (1 / x.ms r))) * (1 / 1024) : ℝ) : EReal) := by
  have h := v89 R
  have h' := v11 R
  pointwise [val_main_v104, val_main_v103, val_main_v102, val_main_v101, val_main_v97, val_main_v96, val_main_v95,
    val_main_v94, val_main_v93, val_main_cst_20, val_main_cst_21, val_main_cst_22]
  refine (Fin.sum_univ_one _).trans ?_
  simp only [h, h', R.h, R.g, lit_1024, mul_coe, sum_coe]
  rw [div_coe _ (by norm_num)]

/-- The second result. -/
theorem v109 (r : Fin 4096) (d : Fin 1024) :
    val_main_v109 (F := Ideal) a0 a1 a2 a3 a4 a5 (ix2 r d) = ((x.dh r d : ℝ) : EReal) := by
  have h := v89 R
  have h8 := v8 R
  have h' := v104 R
  pointwise [val_main_v109, val_main_v108, val_main_v107, val_main_v106, val_main_v105, val_main_v100, val_main_v99,
    val_main_v98, val_main_v94, val_main_v93]
  simp only [h, h', h8, R.h, R.g, R.dy, mul_coe, add_coe]
  rw [x.dh_eq]

end Cert.ReferenceIdeal.RefValues
end
-- ==== Proof.Pairing.lean ====
module

public import proofs.«01_k».proof.Proof.Results
public import proofs.«01_k».proof.Proof.RefValues
public import proofs.«01_k».proof.Defs
public import Idealize.ShloMosaic.Lib.Claim

/-!
The kernel's call and the reference, side by side: both end with the arrays of `Results`.
-/

@[expose] public section

set_option maxRecDepth 16384

noncomputable section
namespace Cert.Pairing
open Cert.Maths Cert.Coe Cert.Inputs Cert.KernelIdeal.Results Idealize.ShloMosaic Idealize.ShloMosaic.TcCoe Idealize.SL.Sem

/-! ## The reference's results as the same arrays -/

section
open Cert.ReferenceIdeal Cert.ReferenceIdeal.Read Cert.ReferenceIdeal.RefValues
variable {x : Arrays} {a0 : FVec Ideal S4096x1024 .f32} {a1 : FVec Ideal S1x1024 .f32} {a2 : FVec Ideal S1024x5632 .f32}
  {a3 : FVec Ideal S3x5632 .f32} {a4 : FVec Ideal S2816x1024 .f32} {a5 : FVec Ideal S4096x1024 .f32}

/-- A two-axis index by its coordinates. -/
theorem eta2 {a b : Nat} (i : (⟨2, ![a, b]⟩ : Shape).Idx) : i = ix2 (i 0) (i 1) := by
  funext k
  match k with
  | ⟨0, _⟩ => rfl
  | ⟨1, _⟩ => rfl

theorem ref0 (R : Reads x a0 a1 a2 a3 a4 a5) : duA x = val_main_v110 (F := Ideal) a0 a1 a2 a3 a4 a5 := by
  funext i
  rw [eta2 i]
  exact (v110 R (i 0) (i 1)).symm

theorem ref1 (R : Reads x a0 a1 a2 a3 a4 a5) : dhA x = val_main_v109 (F := Ideal) a0 a1 a2 a3 a4 a5 := by
  funext i
  rw [eta2 i]
  exact (v109 R (i 0) (i 1)).symm

theorem ref2 (R : Reads x a0 a1 a2 a3 a4 a5) : cwA x = val_main_v88 (F := Ideal) a0 a1 a2 a3 a4 a5 := by
  funext i
  rw [eta2 i]
  exact (v88 R (i 0) (i 1)).symm

theorem ref3 (R : Reads x a0 a1 a2 a3 a4 a5) : gA x = val_main_v92 (F := Ideal) a0 a1 a2 a3 a4 a5 := by
  funext i
  have h0 : i 0 = (0 : Fin 1) := Fin.ext (by have : (i 0).val < 1 := (i 0).isLt; show (i 0).val = 0; omega)
  rw [eta2 i, h0]
  exact (v92 R (i 1)).symm
end

/-- The kernel's call and the reference end with the same four arrays of extended reals. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hx := fun c => reads_of_pre m hpre c
  choose x R using hx
  refine ⟨fun c => duA (x c), fun c => dhA (x c), fun c => cwA (x c), fun c => gA (x c), ?_, ?_⟩
  · refine (θ_run Cert.KernelIdeal.defs _ _).mono (fun r h c => ?_) (Cert.KernelIdeal.Value.run_blocks m g)
    obtain ⟨h0, h1, h2, h3, hk⟩ := h c
    exact ⟨h0.trans (final8 m c (R c)), h1.trans (final9 m c (R c)), h2.trans (final10 m c (R c)),
      h3.trans (final11 m c (R c)), hk⟩
  · refine (θ_run Cert.ReferenceIdeal.defs _ _).mono (fun r h c => ?_) (Cert.ReferenceIdeal.Value.run m' g')
    obtain ⟨h0, h1, h2, h3, hk⟩ := h c
    have R' : Reads (x c) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) := by
      obtain ⟨e0, e1, e2, e3, e4, e5⟩ := hagree c
      rw [e0, e1, e2, e3, e4, e5]
      exact R c
    exact ⟨(h0.trans (Cert.ReferenceIdeal.Read.val_main_v110_eq _)).trans (ref0 R').symm,
      (h1.trans (Cert.ReferenceIdeal.Read.val_main_v109_eq _)).trans (ref1 R').symm,
      (h2.trans (Cert.ReferenceIdeal.Read.val_main_v88_eq _)).trans (ref2 R').symm,
      (h3.trans (Cert.ReferenceIdeal.Read.val_main_v92_eq _)).trans (ref3 R').symm, hk⟩

end Cert.Pairing
end
-- ==== Proof.Ext.lean ====
module

public import proofs.«01_k».proof.Proof.Coe
public import proofs.«01_k».proof.Proof.Maths

/-!
Sums of extended reals by row tiles, and indices by their coordinates.
-/

@[expose] public section

noncomputable section
namespace Cert.Ext
open Idealize.ShloMosaic

/-- A two-axis index by its coordinates. -/
theorem eta2 {a b : Nat} (i : (⟨2, ![a, b]⟩ : Shape).Idx) : i = ix2 (i 0) (i 1) := by
  funext k
  match k with
  | ⟨0, _⟩ => rfl
  | ⟨1, _⟩ => rfl

/-- The first `n` terms of a finite family, added up. -/
def part {N : ℕ} (f : Fin N → EReal) (n : ℕ) : EReal :=
  ∑ i ∈ Finset.range n, if h : i < N then f ⟨i, h⟩ else 0

theorem part_zero {N : ℕ} (f : Fin N → EReal) : part f 0 = 0 := rfl

/-- All terms. -/
theorem part_all {N : ℕ} (f : Fin N → EReal) : part f N = ∑ i, f i := by
  unfold part
  rw [Finset.sum_range]
  exact Finset.sum_congr rfl fun i _ => dif_pos i.isLt

/-- One tile of `b` more terms. -/
theorem part_add {N : ℕ} (f : Fin N → EReal) (n b : ℕ) (h : n + b ≤ N) :
    part f (n + b) = part f n + ∑ r : Fin b, f ⟨n + r.val, by omega⟩ := by
  unfold part
  rw [Finset.sum_range_add]
  congr 1
  rw [Finset.sum_range]
  exact Finset.sum_congr rfl fun i _ => dif_pos _

/-- The inverse root mean square of a row. -/
def rsq (v : Fin 1024 → EReal) : EReal :=
  Ideal.rsqrt (Ideal.div (∑ e, v e * v e) ((1024 : ℝ) : EReal) + ((Coe.eps : ℝ) : EReal))

/-- The normalised row, scaled by `g`. -/
def nrm (v g : Fin 1024 → EReal) (d : Fin 1024) : EReal := v d * rsq v * g d

/-- The mean square of a row, kept off zero. -/
def msq (v : Fin 1024 → EReal) : EReal := Ideal.div (∑ e, v e * v e) ((1024 : ℝ) : EReal) + ((Coe.eps : ℝ) : EReal)

theorem rsq_eq (v : Fin 1024 → EReal) : rsq v = Ideal.rsqrt (msq v) := rfl

/-- A square is not negative. -/
theorem mul_self_nonneg (x : EReal) : 0 ≤ x * x := by
  induction x with
  | bot => simp
  | top => simp
  | coe x => rw [Coe.mul_coe]; exact_mod_cast _root_.mul_self_nonneg x

theorem mul_self_top {x : EReal} (h : x = ⊤ ∨ x = ⊥) : x * x = ⊤ := by
  rcases h with h | h <;> simp [h]

/-- A common finite factor that is not negative leaves a sum. -/
theorem sum_mul_right {n : ℕ} (f : Fin n → EReal) {r : ℝ} (hr : 0 ≤ r) : ∑ e, f e * (r : EReal) = (∑ e, f e) * (r : EReal) := by
  induction n with
  | zero => simp
  | succ n ih =>
    rw [Fin.sum_univ_castSucc, Fin.sum_univ_castSucc, ih,
      EReal.right_distrib_of_nonneg_of_ne_top (by exact_mod_cast hr) (EReal.coe_ne_top r)]

/-- Twice a number. -/
theorem add_self (x : EReal) (z : ℝ) : x * (z : EReal) + x * (z : EReal) = x * ((2 * z : ℝ) : EReal) := by
  have h : ∀ y : EReal, y + y = ((2 : ℝ) : EReal) * y := by
    intro y
    induction y with
    | bot => rw [EReal.coe_mul_bot_of_pos (by norm_num)]; rfl
    | top => rw [EReal.coe_mul_top_of_pos (by norm_num)]; rfl
    | coe y => rw [Coe.mul_coe, Coe.add_coe]; congr 1; ring
  rw [h, ← Coe.mul_coe, mul_left_comm]

/-- A row with an infinite entry has an infinite mean square. -/
theorem msq_top {v : Fin 1024 → EReal} {e : Fin 1024} (h : v e = ⊤ ∨ v e = ⊥) : msq v = ⊤ := by
  have hs : ∑ e, v e * v e = ⊤ := top_unique
    ((mul_self_top h).symm.le.trans (Finset.single_le_sum (f := fun e => v e * v e) (fun i _ => mul_self_nonneg (v i)) (Finset.mem_univ e)))
  unfold msq
  rw [hs, Ideal.div_coe (by norm_num), EReal.top_mul_coe_of_pos (by norm_num)]
  exact EReal.top_add_coe _

/-- A finite row. -/
theorem msq_coe (u : Fin 1024 → ℝ) : ∃ a : ℝ, 0 < a ∧ msq (fun e => (u e : EReal)) = (a : EReal) := by
  refine ⟨(∑ e, u e * u e) * (1 / 1024) + Coe.eps, ?_, ?_⟩
  · exact add_pos_of_nonneg_of_pos (mul_nonneg (Finset.sum_nonneg fun e _ => _root_.mul_self_nonneg (u e)) (by norm_num)) Coe.eps_pos
  · unfold msq
    simp only [Coe.mul_coe, Coe.sum_coe]
    rw [Coe.div_coe _ (by norm_num), Coe.add_coe]

/-- What the mean square adds to each entry's gradient, before that entry multiplies it. -/
def back (v t : Fin 1024 → EReal) : EReal :=
  Ideal.div ((∑ e, v e * t e) * (((-(1 / 2) : ℝ) : EReal) * Ideal.div (rsq v) (msq v))) ((1024 : ℝ) : EReal)

/-- The normalisation's gradient: the kernel's form is the one that differentiating the lines gives. -/
theorem rms_back (v t : Fin 1024 → EReal) (y : EReal) (d : Fin 1024) :
    y + rsq v * (t d - v d * rsq v * Ideal.div (∑ e, t e * (v e * rsq v)) ((1024 : ℝ) : EReal))
      = y + t d * rsq v + v d * back v t + back v t * v d := by
  by_cases h : ∃ e, v e = ⊤ ∨ v e = ⊥
  · obtain ⟨e, he⟩ := h
    have hm := msq_top he
    have hr : rsq v = 0 := by rw [rsq_eq, hm]; rfl
    have hd : Ideal.div 0 ⊤ = 0 := by simp [Ideal.div]
    have hb : back v t = 0 := by
      unfold back
      rw [hr, hm, hd, mul_zero, mul_zero, Ideal.div_coe (by norm_num), zero_mul]
    rw [hb, hr, zero_mul, mul_zero, mul_zero, zero_mul, add_zero, add_zero, add_zero]
  · have hv : ∀ e, v e ≠ ⊤ ∧ v e ≠ ⊥ := fun e => ⟨fun h' => h ⟨e, .inl h'⟩, fun h' => h ⟨e, .inr h'⟩⟩
    obtain ⟨u, rfl⟩ : ∃ u : Fin 1024 → ℝ, v = fun e => (u e : EReal) :=
      ⟨fun e => (v e).toReal, funext fun e => (EReal.coe_toReal (hv e).1 (hv e).2).symm⟩
    obtain ⟨a, ha, hm⟩ := msq_coe u
    have hr : rsq (fun e => (u e : EReal)) = (((Real.sqrt a)⁻¹ : ℝ) : EReal) := by rw [rsq_eq, hm, Coe.rsqrt_coe ha]
    have hp : (0 : ℝ) ≤ (Real.sqrt a)⁻¹ := inv_nonneg.mpr (Real.sqrt_nonneg a)
    have hsq : (Real.sqrt a)⁻¹ * (Real.sqrt a)⁻¹ = 1 / a := by
      rw [← mul_inv, Real.mul_self_sqrt ha.le, one_div]
    generalize (Real.sqrt a)⁻¹ = r at hr hp hsq
    have hb : back (fun e => (u e : EReal)) t = (∑ e, (u e : EReal) * t e) * ((-(1 / 2) * (r * (1 / a)) * (1 / 1024) : ℝ) : EReal) := by
      unfold back
      rw [hr, hm, Coe.div_coe _ ha.ne', Coe.mul_coe, Ideal.div_coe (by norm_num), mul_assoc, Coe.mul_coe]
    have hs : ∑ e, t e * ((u e : EReal) * (r : EReal)) = (∑ e, (u e : EReal) * t e) * (r : EReal) := by
      rw [← sum_mul_right _ hp]
      exact Finset.sum_congr rfl fun e _ => by rw [← mul_assoc, mul_comm (t e)]
    rw [hb, hr, hs]
    generalize ∑ e, (u e : EReal) * t e = S
    rw [Ideal.div_coe (by norm_num), mul_assoc S, Coe.mul_coe, Coe.mul_coe, mul_left_comm, Coe.mul_coe, sub_eq_add_neg,
      EReal.left_distrib_of_nonneg_of_ne_top (by exact_mod_cast hp) (EReal.coe_ne_top r), ← mul_neg, Coe.neg_coe, mul_left_comm _ S, Coe.mul_coe,
      mul_left_comm _ S, mul_assoc S, Coe.mul_coe, Coe.mul_coe, mul_comm (r : EReal), add_assoc (y + _)]
    have e1 : r * -(u d * r * (r * (1 / 1024))) = 2 * (u d * (-(1 / 2) * (r * (1 / a)) * (1 / 1024))) := by rw [← hsq]; ring
    rw [e1, mul_comm (-(1 / 2) * (r * (1 / a)) * (1 / 1024)) (u d), add_self, ← add_assoc]

/-- The logistic function by the hyperbolic tangent. -/
theorem half_tanh (x : EReal) : ((1 / 2 : ℝ) : EReal) * Ideal.tanh (((1 / 2 : ℝ) : EReal) * x) + ((1 / 2 : ℝ) : EReal)
    = Ideal.div ((1 : ℝ) : EReal) (((1 : ℝ) : EReal) + Ideal.exp (-x)) := by
  induction x with
  | bot =>
    rw [EReal.coe_mul_bot_of_pos (by norm_num), Ideal.tanh_bot, EReal.neg_bot, Ideal.exp_top, EReal.coe_add_top]
    have h1 : (-1 : EReal) = ((-1 : ℝ) : EReal) := rfl
    rw [h1, Coe.mul_coe, Coe.add_coe]
    norm_num [Ideal.div]
  | top =>
    rw [EReal.coe_mul_top_of_pos (by norm_num), Ideal.tanh_top, EReal.neg_top, Ideal.exp_bot, Coe.one_coe, Coe.zero_coe, Coe.mul_coe,
      Coe.add_coe, Coe.add_coe, Coe.div_coe _ (by norm_num)]
    congr 1; norm_num
  | coe x =>
    have h := Maths.half_tanh x
    have hp := Real.exp_pos (-x)
    rw [Coe.mul_coe, Ideal.tanh_coe, Coe.mul_coe, Coe.add_coe, Coe.neg_coe, Ideal.exp_coe, Coe.add_coe, Coe.div_coe _ (by positivity), h, Maths.sg, one_mul, one_div]

end Cert.Ext
end
-- ==== Proof.LossPoints.lean ====
module

public import proofs.«01_k».proof.Proof.Gen.Kernel2Ideal.Value
public import proofs.«01_k».proof.Proof.Gen.Reference2Ideal.Run
public import proofs.«01_k».proof.Proof.Gen.Reference2Ideal.Read
public import proofs.«01_k».proof.Defs
public import proofs.«01_k».proof.Proof.Ext
public import Idealize.ShloMosaic.Lib.Pipeline.ValueKit.Acc
public import Idealize.ShloMosaic.Lib.Pipeline.ReadBack
public import Idealize.ShloMosaic.Lib.StableHlo.RunRead
public import Idealize.ShloMosaic.Lib.Claim

/-!
The forward ConvFFN with the loss: what its sixteen points read and leave.
-/

@[expose] public section

set_option maxRecDepth 16384

noncomputable section
namespace Cert.Kernel2Ideal.Loss
open Cert.Kernel2Ideal Cert.Kernel2Ideal.Gen Cert.Ext Cert.Coe Idealize.ShloMosaic Idealize.ShloMosaic.TcCoe Idealize.SL.Sem

section
variable {F : FTy → Type} [FloatOps F] (m : (ℓ : Loc nD τ sig) → Buf (Elt F) ℓ) (c : Dev nD)

/-! ## The blocks' places -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)

/-- Row `r` of the tile that point `t` handles. -/
def row (t : Fin cfg0.N) (r : Fin 256) : Fin 4096 :=
  ⟨256 * t.val + r.val, by have := r.isLt; have := t.isLt; have hN : cfg0.N = 16 := N_0; omega⟩

variable (t : Fin cfg0.N)

theorem blk0 (r : Fin 256) (d : Fin 1024) : iblk m c 0 t (ix2 r d) = V m c main_v12 (ix2 (row t r) d) := by
  unfold iblk
  rw [View.read_apply]
  show V m c main_v12 _ = V m c main_v12 _
  congr 1
  funext a
  apply Fin.ext
  match a with
  | ⟨0, _⟩ => show win0_0.index t 0 * 256 + 1 * r.val = 256 * t.val + r.val; rw [(idx0 t).1]; omega
  | ⟨1, _⟩ => show win0_0.index t 1 * 1024 + 1 * d.val = d.val; rw [(idx0 t).2]; omega

theorem blk1 (r : Fin 256) (d : Fin 1024) : iblk m c 1 t (ix2 r d) = V m c main_arg0 (ix2 (row t r) d) := by
  unfold iblk
  rw [View.read_apply]
  show V m c main_arg0 _ = V m c main_arg0 _
  congr 1
  funext a
  apply Fin.ext
  match a with
  | ⟨0, _⟩ => show win0_1.index t 0 * 256 + 1 * r.val = 256 * t.val + r.val; rw [(idx1 t).1]; omega
  | ⟨1, _⟩ => show win0_1.index t 1 * 1024 + 1 * d.val = d.val; rw [(idx1 t).2]; omega

theorem blk2 (r : Fin 1024) (d : Fin 5632) : iblk m c 2 t (ix2 r d) = V m c main_v14 (ix2 r d) := by
  unfold iblk
  rw [View.read_apply]
  show V m c main_v14 _ = V m c main_v14 _
  congr 1
  funext a
  apply Fin.ext
  match a with
  | ⟨0, _⟩ => show win0_2.index t 0 * 1024 + 1 * r.val = r.val; rw [(idx2 t).1]; omega
  | ⟨1, _⟩ => show win0_2.index t 1 * 5632 + 1 * d.val = d.val; rw [(idx2 t).2]; omega

theorem blk3 (r : Fin 8) (d : Fin 5632) : iblk m c 3 t (ix2 r d) = V m c main_v13 (ix2 r d) := by
  unfold iblk
  rw [View.read_apply]
  show V m c main_v13 _ = V m c main_v13 _
  congr 1
  funext a
  apply Fin.ext
  match a with
  | ⟨0, _⟩ => show win0_3.index t 0 * 8 + 1 * r.val = r.val; rw [(idx3 t).1]; omega
  | ⟨1, _⟩ => show win0_3.index t 1 * 5632 + 1 * d.val = d.val; rw [(idx3 t).2]; omega

theorem blk4 (r : Fin 2816) (d : Fin 1024) : iblk m c 4 t (ix2 r d) = V m c main_v15 (ix2 r d) := by
  unfold iblk
  rw [View.read_apply]
  show V m c main_v15 _ = V m c main_v15 _
  congr 1
  funext a
  apply Fin.ext
  match a with
  | ⟨0, _⟩ => show win0_4.index t 0 * 2816 + 1 * r.val = r.val; rw [(idx4 t).1]; omega
  | ⟨1, _⟩ => show win0_4.index t 1 * 1024 + 1 * d.val = d.val; rw [(idx4 t).2]; omega

theorem blk5 (r : Fin 1) (d : Fin 1024) : iblk m c 5 t (ix2 r d) = V m c main_v16 (ix2 r d) := by
  unfold iblk
  rw [View.read_apply]
  show V m c main_v16 _ = V m c main_v16 _
  congr 1
  funext a
  apply Fin.ext
  match a with
  | ⟨0, _⟩ => show win0_5.index t 0 * 1 + 1 * r.val = r.val; rw [(idx5 t).1]; omega
  | ⟨1, _⟩ => show win0_5.index t 1 * 1024 + 1 * d.val = d.val; rw [(idx5 t).2]; omega

theorem blk6 (r : Fin 256) (d : Fin 1024) : iblk m c 6 t (ix2 r d) = V m c main_arg6 (ix2 (row t r) d) := by
  unfold iblk
  rw [View.read_apply]
  show V m c main_arg6 _ = V m c main_arg6 _
  congr 1
  funext a
  apply Fin.ext
  match a with
  | ⟨0, _⟩ => show win0_6.index t 0 * 256 + 1 * r.val = 256 * t.val + r.val; rw [(idx6 t).1]; omega
  | ⟨1, _⟩ => show win0_6.index t 1 * 1024 + 1 * d.val = d.val; rw [(idx6 t).2]; omega

/-- The convolution's taps, as the host pads them. -/
def hostCw (w : FVec F S3x5632 .f32) : FVec F S8x5632 .f32 :=
  pad S8x5632 ![0, 0] ![5, 0] ![0, 0] w (sitofp .f32 (constantI S_ 32 0#32)) pads_S3x5632_S8x5632_050_000 h_S_
/-- The normalised rows as the host computes them. -/
def hostXn (x : FVec F S4096x1024 .f32) (g : FVec F S1x1024 .f32) : FVec F S4096x1024 .bf16 :=
  truncf .bf16
    (mulf
      (mulf x
        (broadcastInDim S4096x1024 ![0, 1] bcast_S4096x1_S4096x1024_0_1
          (Host.rsqrt
            (addf
              (Host.divf
                (broadcastInDim S4096x1 ![0] bcast_S4096_S4096x1_0
                  (Host.reduceAdd (mulf x x) (constant S_ .f32 0x00000000#32) reducesTo_S4096x1024_S4096_d1 h_S_))
                (broadcastInDim S4096x1 ![] bcast_S_S4096x1 (constant S_ .f32 0x44800000#32)))
              (broadcastInDim S4096x1 ![] bcast_S_S4096x1 (constant S_ .f32 0x3727C5AC#32))))))
      (broadcastInDim S4096x1024 ![0, 1] bcast_S1x1024_S4096x1024_0_1 g))
    bitsLt_bf16_f32

theorem V_v14 : V m c main_v14 = truncf .bf16 (m (c.tc.loc main_arg2)) bitsLt_bf16_f32 := by after_reads_simp
theorem V_v15 : V m c main_v15 = truncf .bf16 (m (c.tc.loc main_arg4)) bitsLt_bf16_f32 := by after_reads_simp
theorem V_v16 : V m c main_v16 = broadcastInDim S1x1024 ![1] bcast_S1024_S1x1024_1 (m (c.tc.loc main_arg5)) := by after_reads_simp
theorem V_v13 : V m c main_v13 = hostCw (m (c.tc.loc main_arg3)) := by after_reads_simp; rfl
theorem V_v12 : V m c main_v12 = hostXn (m (c.tc.loc main_arg0)) (m (c.tc.loc main_arg1)) := by after_reads_simp; rfl

/-! ## What the points leave -/

/-- The convolved tile, the carried rows in `s`. -/
abbrev upT (s : Vec F S8x5632 .f32) : FVec F S256x5632 .f32 :=
  k0_pay11 (k0_pay7 (iblk m c 0 t) (iblk m c 2 t) s (iblk m c 3 t)) (k0_pay8 (iblk m c 0 t) (iblk m c 2 t) (iblk m c 3 t))
    (k0_pay9 (iblk m c 0 t) (iblk m c 2 t)) (k0_pay10 (iblk m c 3 t))
/-- The activation. -/
abbrev actT (s : Vec F S8x5632 .f32) : FVec F S256x2816 .bf16 :=
  k0_pay13 (k0_pay7 (iblk m c 0 t) (iblk m c 2 t) s (iblk m c 3 t)) (k0_pay8 (iblk m c 0 t) (iblk m c 2 t) (iblk m c 3 t))
    (k0_pay9 (iblk m c 0 t) (iblk m c 2 t)) (k0_pay10 (iblk m c 3 t))
/-- The row after the sublayer. -/
abbrev h2T (s : Vec F S8x5632 .f32) : FVec F S256x1024 .f32 :=
  k0_pay14 (k0_pay7 (iblk m c 0 t) (iblk m c 2 t) s (iblk m c 3 t)) (k0_pay8 (iblk m c 0 t) (iblk m c 2 t) (iblk m c 3 t))
    (k0_pay9 (iblk m c 0 t) (iblk m c 2 t)) (k0_pay10 (iblk m c 3 t)) (iblk m c 1 t) (iblk m c 4 t)
/-- Its inverse root mean square. -/
abbrev rsT (s : Vec F S8x5632 .f32) : FVec F S256x1 .f32 :=
  k0_pay15 (k0_pay7 (iblk m c 0 t) (iblk m c 2 t) s (iblk m c 3 t)) (k0_pay8 (iblk m c 0 t) (iblk m c 2 t) (iblk m c 3 t))
    (k0_pay9 (iblk m c 0 t) (iblk m c 2 t)) (k0_pay10 (iblk m c 3 t)) (iblk m c 1 t) (iblk m c 4 t)
/-- The same in every column. -/
abbrev rsbT (s : Vec F S8x5632 .f32) : FVec F S256x1024 .f32 :=
  k0_pay17 (k0_pay7 (iblk m c 0 t) (iblk m c 2 t) s (iblk m c 3 t)) (k0_pay8 (iblk m c 0 t) (iblk m c 2 t) (iblk m c 3 t))
    (k0_pay9 (iblk m c 0 t) (iblk m c 2 t)) (k0_pay10 (iblk m c 3 t)) (iblk m c 1 t) (iblk m c 4 t)
/-- The gradient of the row after the sublayer. -/
abbrev dhT (s : Vec F S8x5632 .f32) : FVec F S256x1024 .f32 :=
  k0_pay22 (h2T m c t s) (rsT m c t s) (k0_pay16 (iblk m c 5 t)) (rsbT m c t s) (iblk m c 6 t)
/-- The loss after the tile. -/
abbrev lossT (s : Vec F S8x5632 .f32) (l : Vec F S1x128 .f32) : FVec F S1x128 .f32 :=
  k0_pay19 (h2T m c t s) (k0_pay16 (iblk m c 5 t)) (rsbT m c t s) (iblk m c 6 t) l
/-- The norm weight's gradient after the tile. -/
abbrev dgT (s : Vec F S8x5632 .f32) (l : Vec F S1x1024 .f32) : FVec F S1x1024 .f32 :=
  k0_pay23 (h2T m c t s) (rsT m c t s) (k0_pay16 (iblk m c 5 t)) (rsbT m c t s) (iblk m c 6 t) l

theorem u_out : (outsAt0 m c t.val t.isLt).1 = k0_pay5 (iblk m c 0 t) (iblk m c 2 t) := by
  by_cases h0 : t.val % 16 = 0
  · rw [outsAt0_A m c t h0]; frame_out [read_unread_whole]
  · rw [outsAt0_B m c t h0]; frame_out [read_unread_whole]
theorem carry_out : (outsAt0 m c t.val t.isLt).2.2.2.2.2.2 = k0_pay12 (k0_pay4 (iblk m c 0 t) (iblk m c 2 t)) := by
  by_cases h0 : t.val % 16 = 0
  · rw [outsAt0_A m c t h0]; frame_out [read_unread_whole]
  · rw [outsAt0_B m c t h0]; frame_out [read_unread_whole]

theorem up_first (h : t.val % 16 = 0) : (outsAt0 m c t.val t.isLt).2.1 = upT m c t k0_pay1 := by
  rw [outsAt0_A m c t h]; frame_out [read_unread_whole]
theorem up_next (h : ¬t.val % 16 = 0) (h' : t.val - 1 < cfg0.N) : (outsAt0 m c t.val t.isLt).2.1
    = upT m c t (outsAt0 m c (t.val - 1) h').2.2.2.2.2.2 := by
  rw [outsAt0_B m c t h]; frame_out [read_unread_whole]

theorem act_first (h : t.val % 16 = 0) : (outsAt0 m c t.val t.isLt).2.2.1 = actT m c t k0_pay1 := by
  rw [outsAt0_A m c t h]; frame_out [read_unread_whole]
theorem act_next (h : ¬t.val % 16 = 0) (h' : t.val - 1 < cfg0.N) : (outsAt0 m c t.val t.isLt).2.2.1
    = actT m c t (outsAt0 m c (t.val - 1) h').2.2.2.2.2.2 := by
  rw [outsAt0_B m c t h]; frame_out [read_unread_whole]

theorem dh_first (h : t.val % 16 = 0) : (outsAt0 m c t.val t.isLt).2.2.2.1 = dhT m c t k0_pay1 := by
  rw [outsAt0_A m c t h]; frame_out [read_unread_whole]
theorem dh_next (h : ¬t.val % 16 = 0) (h' : t.val - 1 < cfg0.N) : (outsAt0 m c t.val t.isLt).2.2.2.1
    = dhT m c t (outsAt0 m c (t.val - 1) h').2.2.2.2.2.2 := by
  rw [outsAt0_B m c t h]; frame_out [read_unread_whole]

theorem loss_first (h : t.val % 16 = 0) : (outsAt0 m c t.val t.isLt).2.2.2.2.1 = lossT m c t k0_pay1 k0_pay2 := by
  rw [outsAt0_A m c t h]; frame_out [read_unread_whole]
theorem loss_next (h : ¬t.val % 16 = 0) (h' : t.val - 1 < cfg0.N) : (outsAt0 m c t.val t.isLt).2.2.2.2.1
    = lossT m c t (outsAt0 m c (t.val - 1) h').2.2.2.2.2.2 (outsAt0 m c (t.val - 1) h').2.2.2.2.1 := by
  rw [outsAt0_B m c t h]; frame_out [read_unread_whole]

theorem dg_first (h : t.val % 16 = 0) : (outsAt0 m c t.val t.isLt).2.2.2.2.2.1 = dgT m c t k0_pay1 k0_pay3 := by
  rw [outsAt0_A m c t h]; frame_out [read_unread_whole]
theorem dg_next (h : ¬t.val % 16 = 0) (h' : t.val - 1 < cfg0.N) : (outsAt0 m c t.val t.isLt).2.2.2.2.2.1
    = dgT m c t (outsAt0 m c (t.val - 1) h').2.2.2.2.2.2 (outsAt0 m c (t.val - 1) h').2.2.2.2.2.1 := by
  rw [outsAt0_B m c t h]; frame_out [read_unread_whole]

end

end Cert.Kernel2Ideal.Loss
end
-- ==== Proof.LossVals.lean ====
module

public import proofs.«01_k».proof.Proof.LossPoints

/-!
The forward ConvFFN with the loss: its results as sums over the rows, and the reference's stages as these.
-/

@[expose] public section

set_option maxRecDepth 16384

noncomputable section
namespace Cert.Kernel2Ideal.Loss
open Cert.Kernel2Ideal Cert.Kernel2Ideal.Gen Cert.Ext Cert.Coe Idealize.ShloMosaic Idealize.ShloMosaic.TcCoe Idealize.SL.Sem

/-! ## The results -/

section
variable (x : FVec Ideal S4096x1024 .f32) (g : FVec Ideal S1x1024 .f32) (w : FVec Ideal S1024x5632 .f32)
  (cw : FVec Ideal S3x5632 .f32) (wd : FVec Ideal S2816x1024 .f32) (gf : FVec Ideal S1024 .f32) (tg : FVec Ideal S4096x1024 .f32)

/-- The row before the convolution. -/
def uE (r : Fin 4096) (f : Fin 5632) : EReal := ∑ d : Fin 1024, nrm (fun e => x (ix2 r e)) (fun e => g (ix2 0 e)) d * w (ix2 d f)
/-- The row `k` places before, zero before the first. -/
def ub (k : ℕ) (r : Fin 4096) (f : Fin 5632) : EReal :=
  if r.val < k then 0 else uE x g w ⟨r.val - k, by have := r.isLt; omega⟩ f
/-- The convolved row. -/
def upE (r : Fin 4096) (f : Fin 5632) : EReal :=
  cw (ix2 0 f) * ub x g w 2 r f + cw (ix2 1 f) * ub x g w 1 r f + cw (ix2 2 f) * uE x g w r f
/-- The gated activation. -/
def actE (r : Fin 4096) (f : Fin 2816) : EReal :=
  upE x g w cw r ⟨f.val, by have := f.isLt; omega⟩
    * Ideal.div ((1 : ℝ) : EReal) (((1 : ℝ) : EReal) + Ideal.exp (-upE x g w cw r ⟨f.val, by have := f.isLt; omega⟩))
    * upE x g w cw r ⟨2816 + f.val, by have := f.isLt; omega⟩
/-- The row after the sublayer. -/
def h2E (r : Fin 4096) (d : Fin 1024) : EReal := x (ix2 r d) + ∑ f : Fin 2816, actE x g w cw r f * wd (ix2 f d)
/-- The normalised row without its weight. -/
def vE (r : Fin 4096) (d : Fin 1024) : EReal := h2E x g w cw wd r d * rsq (fun e => h2E x g w cw wd r e)
/-- The error of the normalised row. -/
def errE (r : Fin 4096) (d : Fin 1024) : EReal := vE x g w cw wd r d * gf (ix1 d) - tg (ix2 r d)
/-- The gradient of the normalised row. -/
def dyE (r : Fin 4096) (d : Fin 1024) : EReal := errE x g w cw wd gf tg r d * ((1 / 1024 : ℝ) : EReal)
/-- The gradient of the row after the sublayer. -/
def dhE (r : Fin 4096) (d : Fin 1024) : EReal :=
  rsq (fun e => h2E x g w cw wd r e) * (dyE x g w cw wd gf tg r d * gf (ix1 d) - vE x g w cw wd r d
    * Ideal.div (∑ e : Fin 1024, dyE x g w cw wd gf tg r e * gf (ix1 e) * vE x g w cw wd r e) ((1024 : ℝ) : EReal))
/-- A token's squared error. -/
def sqE (r : Fin 4096) : EReal := ∑ d : Fin 1024, errE x g w cw wd gf tg r d * errE x g w cw wd gf tg r d
/-- A token's share of the norm weight's gradient. -/
def dgE (d : Fin 1024) (r : Fin 4096) : EReal := dyE x g w cw wd gf tg r d * vE x g w cw wd r d

/-- The rows before the convolution as an array. -/
def uA : Vec Ideal S4096x5632 .bf16 := fun i => uE x g w (i 0) (i 1)
/-- The convolved rows as an array. -/
def upA : Vec Ideal S4096x5632 .f32 := fun i => upE x g w cw (i 0) (i 1)
/-- The activations as an array. -/
def actA : Vec Ideal S4096x2816 .bf16 := fun i => actE x g w cw (i 0) (i 1)
/-- The rows' gradient as an array. -/
def dhA : Vec Ideal S4096x1024 .f32 := fun i => dhE x g w cw wd gf tg (i 0) (i 1)
/-- The loss in every lane. -/
def lossA : Vec Ideal S1x128 .f32 := fun _ => (∑ r, sqE x g w cw wd gf tg r) * ((1 / 2048 : ℝ) : EReal)
/-- The norm weight's gradient as an array. -/
def dgA : Vec Ideal S1x1024 .f32 := fun i => ∑ r, dgE x g w cw wd gf tg (i 1) r
end

theorem lit_2048 : Ideal.ofBits .f32 0x3A000000#32 = ((1 / 2048 : ℝ) : EReal) := by
  simp [Ideal.ofBits, Ideal.ieee]; norm_num [mul_coe]
theorem lit_inv_1024 : Ideal.ofBits .f32 0x3A800000#32 = ((1 / 1024 : ℝ) : EReal) := by
  simp [Ideal.ofBits, Ideal.ieee]; norm_num [mul_coe]
theorem lit_two : Ideal.ofBits .f32 0x40000000#32 = ((2 : ℝ) : EReal) := by
  simp [Ideal.ofBits, Ideal.ieee]; norm_num [mul_coe]

/-! ## The reference -/

section
open Cert.Reference2Ideal.Read
variable (x : FVec Ideal S4096x1024 .f32) (g : FVec Ideal S1x1024 .f32) (w : FVec Ideal S1024x5632 .f32)
  (cw : FVec Ideal S3x5632 .f32) (wd : FVec Ideal S2816x1024 .f32) (gf : FVec Ideal S1024 .f32) (tg : FVec Ideal S4096x1024 .f32)

theorem v11_val (r : Fin 4096) (d : Fin 1024) : val_main_v11 (F := Ideal) x g (ix2 r d) = nrm (fun e => x (ix2 r e)) (fun e => g (ix2 0 e)) d := by
  pointwise [val_main_v11, val_main_v10, val_main_v9, val_main_v8, val_main_v7, val_main_v6, val_main_v5, val_main_v4, val_main_v3, val_main_v2,
    val_main_v1, val_main_v0, val_main_cst, val_main_cst_0, val_main_cst_1]
  simp only [lit_1024, lit_eps]
  rfl
theorem v12_val (r : Fin 4096) (f : Fin 5632) : val_main_v12 (F := Ideal) x g w (ix2 r f) = uE x g w r f := by
  have h := v11_val x g
  pointwise [val_main_v12]
  simp only [h]
  rfl
theorem v35_val (r : Fin 4096) (f : Fin 5632) : val_main_v35 (F := Ideal) x g w cw (ix2 r f) = upE x g w cw r f := by
  have h := v12_val x g w
  unfold val_main_v35 val_main_v34 val_main_v29 val_main_v28 val_main_v25 val_main_v24 val_main_v20 val_main_v17 val_main_v16
  unfold upE ub
  generalize val_main_v12 (F := Ideal) x g w = u at *
  pointwise [val_main_v33, val_main_v32, val_main_v31, val_main_v30, val_main_v27, val_main_v26, val_main_v23, val_main_v22, val_main_v21,
    val_main_v19, val_main_v18, val_main_v15, val_main_v14, val_main_v13, val_main_cst_2, val_main_cst_3]
  simp only [h]
  rfl
theorem v39_val (r : Fin 4096) (f : Fin 2816) : val_main_v39 (F := Ideal) x g w cw (ix2 r f) = actE x g w cw r f := by
  have h := v35_val x g w cw
  unfold val_main_v39 val_main_v38 val_main_v37 val_main_call0_v5 val_main_call0_v3 val_main_call0_v1 val_main_call0_v0 val_main_v36
  generalize val_main_v35 (F := Ideal) x g w cw = u at *
  pointwise [val_main_call0_v4, val_main_call0_v2, val_main_call0_cst, val_main_call0_cst_0]
  simp only [h, lit_one]
  rfl
theorem v41_val (r : Fin 4096) (d : Fin 1024) : val_main_v41 (F := Ideal) x g w cw wd (ix2 r d) = h2E x g w cw wd r d := by
  have h := v39_val x g w cw
  pointwise [val_main_v41, val_main_v40]
  simp only [h]
  rfl
theorem v48_val (r : Fin 4096) : val_main_v48 (F := Ideal) x g w cw wd (ix2 r 0) = msq (fun e => h2E x g w cw wd r e) := by
  have h := v41_val x g w cw wd
  unfold val_main_v48 val_main_v46 val_main_v44 val_main_v43 val_main_v42
  generalize val_main_v41 (F := Ideal) x g w cw wd = u at *
  pointwise [val_main_v47, val_main_v45, val_main_cst_4, val_main_cst_5, val_main_cst_6]
  simp only [h, lit_1024, lit_eps]
  rfl
theorem v49_val (r : Fin 4096) : val_main_v49 (F := Ideal) x g w cw wd (ix2 r 0) = rsq (fun e => h2E x g w cw wd r e) := by
  have h := v48_val x g w cw wd
  pointwise [val_main_v49]
  rw [h]
  rfl
theorem v54_val (r : Fin 4096) (d : Fin 1024) : val_main_v54 (F := Ideal) x g w cw wd (ix2 r d) = vE x g w cw wd r d := by
  have h := v41_val x g w cw wd
  have h' := v49_val x g w cw wd
  pointwise [val_main_v54, val_main_v53]
  rw [h, h']
  rfl
theorem v58_val (r : Fin 4096) (d : Fin 1024) : val_main_v58 (F := Ideal) x g w cw wd gf tg (ix2 r d) = errE x g w cw wd gf tg r d := by
  have h := v54_val x g w cw wd
  pointwise [val_main_v58, val_main_v57, val_main_v56, val_main_v55]
  rw [h]
  rfl
theorem v72_val (r : Fin 4096) (d : Fin 1024) : val_main_v72 (F := Ideal) x g w cw wd gf tg (ix2 r d) = dyE x g w cw wd gf tg r d := by
  have h := v58_val x g w cw wd gf tg
  unfold val_main_v72 val_main_v61
  generalize val_main_v58 (F := Ideal) x g w cw wd gf tg = u at *
  pointwise [val_main_v71, val_main_v70, val_main_v69, val_main_v68, val_main_v67, val_main_v60, val_main_cst_8, val_main_cst_13, val_main_cst_14,
    val_main_cst_15]
  simp only [h, lit_half, lit_one, lit_1024, lit_two]
  rw [Ideal.div_coe (by norm_num), ← mul_assoc, mul_coe, mul_coe, mul_comm]
  unfold dyE
  congr 2
  norm_num
theorem v77_val (r : Fin 4096) (d : Fin 1024) : val_main_v77 (F := Ideal) x g w cw wd gf tg (ix2 r d) = dyE x g w cw wd gf tg r d * gf (ix1 d) := by
  have h := v72_val x g w cw wd gf tg
  pointwise [val_main_v77, val_main_v76, val_main_v55]
  rw [h]
theorem v88_val (r : Fin 4096) (d : Fin 1024) : val_main_v88 (F := Ideal) x g w cw wd gf tg (ix2 r d)
    = back (fun e => h2E x g w cw wd r e) (fun e => dyE x g w cw wd gf tg r e * gf (ix1 e)) := by
  have h77 := v77_val x g w cw wd gf tg
  have h41 := v41_val x g w cw wd
  have h48 := v48_val x g w cw wd
  have h49 := v49_val x g w cw wd
  unfold val_main_v88 val_main_v87 val_main_v86 val_main_v84 val_main_v81 val_main_v80 val_main_v79 val_main_v52 val_main_v50
  generalize val_main_v77 (F := Ideal) x g w cw wd gf tg = u1 at *
  generalize val_main_v41 (F := Ideal) x g w cw wd = u2 at *
  generalize val_main_v48 (F := Ideal) x g w cw wd = u3 at *
  generalize val_main_v49 (F := Ideal) x g w cw wd = u4 at *
  pointwise [val_main_v85, val_main_v51, val_main_cst_7, val_main_cst_18, val_main_cst_19, val_main_cst_20]
  simp only [Fin.sum_univ_one, h77, h41, h48, h49, lit_1024, lit_neg_half]
  rfl
theorem v92_val (r : Fin 4096) (d : Fin 1024) : val_main_v92 (F := Ideal) x g w cw wd gf tg (ix2 r d) = dhE x g w cw wd gf tg r d := by
  have h88 := v88_val x g w cw wd gf tg
  have h77 := v77_val x g w cw wd gf tg
  have h41 := v41_val x g w cw wd
  have h49 := v49_val x g w cw wd
  have hb := rms_back (fun e => h2E x g w cw wd r e) (fun e => dyE x g w cw wd gf tg r e * gf (ix1 e)) 0 d
  rw [zero_add, zero_add] at hb
  refine Eq.trans ?_ hb.symm
  unfold val_main_v92 val_main_v91 val_main_v90 val_main_v89 val_main_v83 val_main_v82
  generalize val_main_v77 (F := Ideal) x g w cw wd gf tg = u1 at *
  generalize val_main_v41 (F := Ideal) x g w cw wd = u2 at *
  generalize val_main_v88 (F := Ideal) x g w cw wd gf tg = u3 at *
  generalize val_main_v49 (F := Ideal) x g w cw wd = u4 at *
  pointwise []
  rw [h88, h77, h41, h49]
theorem v95_val (k : Fin 128) : val_main_v95 (F := Ideal) x g w cw wd gf tg (ix2 0 k)
    = (∑ r, sqE x g w cw wd gf tg r) * ((1 / 2048 : ℝ) : EReal) := by
  have h := v58_val x g w cw wd gf tg
  unfold val_main_v95 val_main_v66 val_main_v65 val_main_v64 val_main_v62 val_main_v59
  generalize val_main_v58 (F := Ideal) x g w cw wd gf tg = u at *
  pointwise [val_main_v63, val_main_cst_9, val_main_cst_10, val_main_cst_11, val_main_cst_12]
  simp only [h, lit_half, lit_1024, Ideal.div_coe (show (1024 : ℝ) ≠ 0 by norm_num)]
  rw [sum_mul_right _ (by norm_num), mul_left_comm, mul_coe]
  norm_num
  rfl
theorem v96_val (d : Fin 1024) : val_main_v96 (F := Ideal) x g w cw wd gf tg (ix2 0 d) = ∑ r, dgE x g w cw wd gf tg d r := by
  have h := v54_val x g w cw wd
  have h' := v72_val x g w cw wd gf tg
  unfold val_main_v96 val_main_v78 val_main_v75 val_main_v74 val_main_v73
  generalize val_main_v54 (F := Ideal) x g w cw wd = u1 at *
  generalize val_main_v72 (F := Ideal) x g w cw wd gf tg = u2 at *
  pointwise [val_main_cst_16, val_main_cst_17]
  simp only [Fin.sum_univ_one, h, h']
  exact Finset.sum_congr rfl fun r _ => mul_comm (vE x g w cw wd r d) (dyE x g w cw wd gf tg r d)

theorem ref7 : uA x g w = val_main_v93 (F := Ideal) x g w := by
  funext i
  exact ((congrArg _ (eta2 i)).trans (v12_val x g w (i 0) (i 1))).symm
theorem ref8 : upA x g w cw = val_main_v35 (F := Ideal) x g w cw := by
  funext i
  exact ((congrArg _ (eta2 i)).trans (v35_val x g w cw (i 0) (i 1))).symm
theorem ref9 : actA x g w cw = val_main_v94 (F := Ideal) x g w cw := by
  funext i
  exact ((congrArg _ (eta2 i)).trans (v39_val x g w cw (i 0) (i 1))).symm
theorem ref10 : dhA x g w cw wd gf tg = val_main_v92 (F := Ideal) x g w cw wd gf tg := by
  funext i
  exact ((congrArg _ (eta2 i)).trans (v92_val x g w cw wd gf tg (i 0) (i 1))).symm
theorem ref11 : lossA x g w cw wd gf tg = val_main_v95 (F := Ideal) x g w cw wd gf tg := by
  funext i
  have hi : i = ix2 0 (i 1) := (eta2 i).trans (congrArg (fun z => ix2 z (i 1)) (Fin.ext (by have h0 : (i 0).val < 1 := (i 0).isLt; show (i 0).val = 0; omega)))
  exact ((congrArg _ hi).trans (v95_val x g w cw wd gf tg (i 1))).symm
theorem ref12 : dgA x g w cw wd gf tg = val_main_v96 (F := Ideal) x g w cw wd gf tg := by
  funext i
  have hi : i = ix2 0 (i 1) := (eta2 i).trans (congrArg (fun z => ix2 z (i 1)) (Fin.ext (by have h0 : (i 0).val < 1 := (i 0).isLt; show (i 0).val = 0; omega)))
  exact ((congrArg _ hi).trans (v96_val x g w cw wd gf tg (i 1))).symm
end

end Cert.Kernel2Ideal.Loss
end
-- ==== Proof.LossFwd.lean ====
module

public import proofs.«01_k».proof.Proof.LossVals

/-!
The forward ConvFFN with the loss: the points' blocks hold the reference's rows, and the sums over them its loss and weight gradient.
-/

@[expose] public section

set_option maxRecDepth 16384

noncomputable section
namespace Cert.Kernel2Ideal.Loss
open Cert.Kernel2Ideal Cert.Kernel2Ideal.Gen Cert.Ext Cert.Coe Idealize.ShloMosaic Idealize.ShloMosaic.TcCoe Idealize.SL.Sem

/-! ## The tile's values -/

section
variable (x : FVec Ideal S4096x1024 .f32) (g : FVec Ideal S1x1024 .f32) (w : FVec Ideal S1024x5632 .f32)
  (cw : FVec Ideal S3x5632 .f32) (wd : FVec Ideal S2816x1024 .f32) (gf : FVec Ideal S1024 .f32) (tg : FVec Ideal S4096x1024 .f32)

/-- The rows carried into point `t`: the eight before its tile, zero before the first. -/
def carE (t : Fin cfg0.N) (r : Fin 8) (f : Fin 5632) : EReal :=
  if 256 * t.val + r.val < 8 then 0 else uE x g w ⟨256 * t.val + r.val - 8, by have := r.isLt; have := t.isLt; have hN : cfg0.N = 16 := N_0; omega⟩ f

theorem ub_of (k : ℕ) (r q : Fin 4096) (f : Fin 5632) (h : q.val + k = r.val) : ub x g w k r f = uE x g w q f := by
  unfold ub
  rw [if_neg (by omega)]
  exact congrArg (fun z => uE x g w z f) (Fin.ext (by show r.val - k = q.val; omega))
theorem ub_car (k : ℕ) (r : Fin 4096) (t : Fin cfg0.N) (q : Fin 8) (f : Fin 5632) (h : 256 * t.val + q.val + k = r.val + 8) :
    carE x g w t q f = ub x g w k r f := by
  unfold ub carE
  by_cases hk : r.val < k
  · rw [if_pos hk, if_pos (by omega)]
  · rw [if_neg hk, if_neg (by omega)]
    exact congrArg (fun z => uE x g w z f) (Fin.ext (by show 256 * t.val + q.val - 8 = r.val - k; omega))
theorem upE_rev (r : Fin 4096) (f : Fin 5632) : upE x g w cw r f
    = cw (ix2 2 f) * uE x g w r f + cw (ix2 1 f) * ub x g w 1 r f + cw (ix2 0 f) * ub x g w 2 r f := by
  unfold upE
  rw [add_comm _ (cw (ix2 2 f) * _), add_comm (cw (ix2 0 f) * _), ← add_assoc]

variable (t : Fin cfg0.N) (b0 : Vec Ideal S256x1024 .bf16) (b2 : Vec Ideal S1024x5632 .bf16) (s : Vec Ideal S8x5632 .f32) (b3 : Vec Ideal S8x5632 .f32)
  (hu : ∀ (r : Fin 256) (f : Fin 5632), k0_pay4 (F := Ideal) b0 b2 (ix2 r f) = uE x g w (row t r) f)
  (hs : ∀ (r : Fin 8) (f : Fin 5632), s (ix2 r f) = carE x g w t r f)
  (hb0 : ∀ f : Fin 5632, b3 (ix2 0 f) = cw (ix2 0 f)) (hb1 : ∀ f : Fin 5632, b3 (ix2 1 f) = cw (ix2 1 f))
  (hb2 : ∀ f : Fin 5632, b3 (ix2 2 f) = cw (ix2 2 f))

include hu hs hb0 hb1 hb2 in
theorem head_val (r : Fin 8) (f : Fin 5632) : k0_pay7 (F := Ideal) b0 b2 s b3 (ix2 r f)
    = upE x g w cw (row t ⟨r.val, by have := r.isLt; omega⟩) f := by
  have hr := r.isLt
  rw [upE_rev]
  unfold k0_pay7
  generalize k0_pay4 (F := Ideal) b0 b2 = u at *
  pointwise [k0_pay6]
  refine congrArg₂ (· + ·) (congrArg₂ (· + ·) (congrArg₂ (· * ·) (hb2 f) ?_) (congrArg₂ (· * ·) (hb1 f) ?_)) (congrArg₂ (· * ·) (hb0 f) ?_)
  · exact hu _ _
  · split
    · refine (hs _ _).trans (ub_car x g w 1 _ t _ f ?_)
      show 256 * t.val + (8 + r.val + 16 - 1) % 16 + 1 = 256 * t.val + r.val + 8
      omega
    · refine (hu _ _).trans (ub_of x g w 1 _ _ f ?_).symm
      show 256 * t.val + ((8 + r.val + 16 - 1) % 16 - 8) + 1 = 256 * t.val + r.val
      omega
  · split
    · refine (hs _ _).trans (ub_car x g w 2 _ t _ f ?_)
      show 256 * t.val + (8 + r.val + 16 - 2) % 16 + 2 = 256 * t.val + r.val + 8
      omega
    · refine (hu _ _).trans (ub_of x g w 2 _ _ f ?_).symm
      show 256 * t.val + ((8 + r.val + 16 - 2) % 16 - 8) + 2 = 256 * t.val + r.val
      omega

include hu hs hb0 hb1 hb2 in
theorem tile_val (r : Fin 256) (f : Fin 5632) : k0_pay11 (F := Ideal) (k0_pay7 b0 b2 s b3) (k0_pay8 b0 b2 b3) (k0_pay9 b0 b2) (k0_pay10 b3) (ix2 r f)
    = upE x g w cw (row t r) f := by
  have hr := r.isLt
  have h7 := head_val x g w cw t b0 b2 s b3 hu hs hb0 hb1 hb2
  unfold k0_pay11 k0_pay8 k0_pay9
  generalize k0_pay7 (F := Ideal) b0 b2 s b3 = v at *
  generalize k0_pay4 (F := Ideal) b0 b2 = u at *
  pointwise [k0_pay6, k0_pay10]
  split
  · exact h7 _ _
  · rename_i h
    rw [upE_rev]
    refine congrArg₂ (· + ·) (congrArg₂ (· + ·) (congrArg₂ (· * ·) (hb2 f) ?_) (congrArg₂ (· * ·) (hb1 f) ?_)) (congrArg₂ (· * ·) (hb0 f) ?_)
    · refine (hu _ _).trans (congrArg (fun z => uE x g w (row t z) f) (Fin.ext ?_))
      show 8 + (r.val - 8) = r.val
      omega
    · refine (hu _ _).trans (ub_of x g w 1 _ _ f ?_).symm
      show 256 * t.val + (8 + (r.val - 8) + 256 - 1) % 256 + 1 = 256 * t.val + r.val
      omega
    · refine (hu _ _).trans (ub_of x g w 2 _ _ f ?_).symm
      show 256 * t.val + (8 + (r.val - 8) + 256 - 2) % 256 + 2 = 256 * t.val + r.val
      omega

end

section
variable (v28 : FVec Ideal S8x5632 .f32) (v36 v38 v39 : FVec Ideal S256x5632 .f32) (b1 : Vec Ideal S256x1024 .f32) (b4 : Vec Ideal S2816x1024 .bf16)

theorem pay13_val (r : Fin 256) (f : Fin 2816) : k0_pay13 (F := Ideal) v28 v36 v38 v39 (ix2 r f)
    = k0_pay11 (F := Ideal) v28 v36 v38 v39 (ix2 r ⟨f.val, by have := f.isLt; omega⟩)
      * Ideal.div ((1 : ℝ) : EReal) (((1 : ℝ) : EReal) + Ideal.exp (-k0_pay11 (F := Ideal) v28 v36 v38 v39 (ix2 r ⟨f.val, by have := f.isLt; omega⟩)))
      * k0_pay11 (F := Ideal) v28 v36 v38 v39 (ix2 r ⟨2816 + f.val, by have := f.isLt; omega⟩) := by
  unfold k0_pay13
  generalize k0_pay11 (F := Ideal) v28 v36 v38 v39 = u
  pointwise []
  simp only [lit_half]
  rw [Ext.half_tanh]
theorem pay14_val (r : Fin 256) (d : Fin 1024) : k0_pay14 (F := Ideal) v28 v36 v38 v39 b1 b4 (ix2 r d)
    = b1 (ix2 r d) + ∑ f : Fin 2816, k0_pay13 (F := Ideal) v28 v36 v38 v39 (ix2 r f) * b4 (ix2 f d) := by
  unfold k0_pay14
  generalize k0_pay13 (F := Ideal) v28 v36 v38 v39 = u
  pointwise []
theorem pay15_val (r : Fin 256) : k0_pay15 (F := Ideal) v28 v36 v38 v39 b1 b4 (ix2 r 0)
    = rsq (fun e => k0_pay14 (F := Ideal) v28 v36 v38 v39 b1 b4 (ix2 r e)) := by
  unfold k0_pay15
  generalize k0_pay14 (F := Ideal) v28 v36 v38 v39 b1 b4 = u
  pointwise []
  simp only [lit_1024, lit_eps]
  rfl
theorem pay17_val (r : Fin 256) (d : Fin 1024) : k0_pay17 (F := Ideal) v28 v36 v38 v39 b1 b4 (ix2 r d)
    = rsq (fun e => k0_pay14 (F := Ideal) v28 v36 v38 v39 b1 b4 (ix2 r e)) := by
  have h := pay15_val v28 v36 v38 v39 b1 b4
  unfold k0_pay17
  generalize k0_pay15 (F := Ideal) v28 v36 v38 v39 b1 b4 = u at *
  pointwise []
  exact h r
end

section
variable (h2 : FVec Ideal S256x1024 .f32) (rs : FVec Ideal S256x1 .f32) (g : FVec Ideal S1x1024 .f32) (rb : FVec Ideal S256x1024 .f32)
  (tg : Vec Ideal S256x1024 .f32)

theorem pay18_val (r : Fin 256) (d : Fin 1024) : k0_pay18 (F := Ideal) h2 g rb tg (ix2 r d)
    = h2 (ix2 r d) * rb (ix2 r d) * g (ix2 0 d) - tg (ix2 r d) := by
  pointwise [k0_pay18]
theorem pay19_val (l : Vec Ideal S1x128 .f32) (k : Fin 128) : k0_pay19 (F := Ideal) h2 g rb tg l (ix2 0 k)
    = l (ix2 0 k) + (∑ r : Fin 256, ∑ d : Fin 1024, k0_pay18 (F := Ideal) h2 g rb tg (ix2 r d) * k0_pay18 (F := Ideal) h2 g rb tg (ix2 r d))
      * ((1 / 2048 : ℝ) : EReal) := by
  unfold k0_pay19
  generalize k0_pay18 (F := Ideal) h2 g rb tg = u
  pointwise []
  simp only [lit_2048]
theorem pay20_val (r : Fin 256) (d : Fin 1024) : k0_pay20 (F := Ideal) h2 g rb tg (ix2 r d)
    = (h2 (ix2 r d) * rb (ix2 r d) * g (ix2 0 d) - tg (ix2 r d)) * ((1 / 1024 : ℝ) : EReal) := by
  have h := pay18_val h2 g rb tg
  pointwise [k0_pay20]
  simp only [lit_inv_1024, h]
theorem pay21_val (r : Fin 256) (d : Fin 1024) : k0_pay21 (F := Ideal) h2 rs (ix2 r d) = h2 (ix2 r d) * rs (ix2 r 0) := by
  pointwise [k0_pay21]
theorem pay22_val (r : Fin 256) (d : Fin 1024) : k0_pay22 (F := Ideal) h2 rs g rb tg (ix2 r d)
    = rs (ix2 r 0) * (k0_pay20 (F := Ideal) h2 g rb tg (ix2 r d) * g (ix2 0 d) - h2 (ix2 r d) * rs (ix2 r 0)
      * Ideal.div (∑ e : Fin 1024, k0_pay20 (F := Ideal) h2 g rb tg (ix2 r e) * g (ix2 0 e) * (h2 (ix2 r e) * rs (ix2 r 0))) ((1024 : ℝ) : EReal)) := by
  have h := pay21_val h2 rs
  unfold k0_pay22
  generalize k0_pay20 (F := Ideal) h2 g rb tg = u
  generalize k0_pay21 (F := Ideal) h2 rs = v at *
  pointwise []
  simp only [lit_1024, h]
theorem pay23_val (l : Vec Ideal S1x1024 .f32) (d : Fin 1024) : k0_pay23 (F := Ideal) h2 rs g rb tg l (ix2 0 d)
    = l (ix2 0 d) + ∑ r : Fin 256, k0_pay20 (F := Ideal) h2 g rb tg (ix2 r d) * (h2 (ix2 r d) * rs (ix2 r 0)) := by
  have h := pay21_val h2 rs
  unfold k0_pay23
  generalize k0_pay20 (F := Ideal) h2 g rb tg = u
  generalize k0_pay21 (F := Ideal) h2 rs = v at *
  pointwise []
  simp only [h]
end

/-! ## The blocks the points read -/

theorem hostXn_val (x : FVec Ideal S4096x1024 .f32) (g : FVec Ideal S1x1024 .f32) (r : Fin 4096) (d : Fin 1024) :
    hostXn (F := Ideal) x g (ix2 r d) = nrm (fun e => x (ix2 r e)) (fun e => g (ix2 0 e)) d := by
  pointwise [hostXn]
  simp only [lit_1024, lit_eps]
  rfl
theorem pay4_val (b0 : Vec Ideal S256x1024 .bf16) (b2 : Vec Ideal S1024x5632 .bf16) (r : Fin 256) (f : Fin 5632) :
    k0_pay4 (F := Ideal) b0 b2 (ix2 r f) = ∑ d : Fin 1024, b0 (ix2 r d) * b2 (ix2 d f) := by
  pointwise [k0_pay4]

section
variable (m : (ℓ : Loc nD τ sig) → Buf (Elt Ideal) ℓ) (c : Dev nD) (t : Fin cfg0.N)

theorem in0 (r : Fin 256) (d : Fin 1024) : iblk m c 0 t (ix2 r d)
    = nrm (fun e => m (c.tc.loc main_arg0) (ix2 (row t r) e)) (fun e => m (c.tc.loc main_arg1) (ix2 0 e)) d := by
  rw [blk0, V_v12]
  exact hostXn_val _ _ _ _
theorem in1 (r : Fin 256) (d : Fin 1024) : iblk m c 1 t (ix2 r d) = m (c.tc.loc main_arg0) (ix2 (row t r) d) := by
  rw [blk1, V_main_arg0]
theorem in2 (d : Fin 1024) (f : Fin 5632) : iblk m c 2 t (ix2 d f) = m (c.tc.loc main_arg2) (ix2 d f) := by
  rw [blk2, V_v14]; show truncf (F := Ideal) _ _ _ _ = _; pointwise []
theorem in4 (f : Fin 2816) (d : Fin 1024) : iblk m c 4 t (ix2 f d) = m (c.tc.loc main_arg4) (ix2 f d) := by
  rw [blk4, V_v15]; show truncf (F := Ideal) _ _ _ _ = _; pointwise []
theorem in5 (d : Fin 1024) : k0_pay16 (F := Ideal) (iblk m c 5 t) (ix2 0 d) = m (c.tc.loc main_arg5) (ix1 d) := by
  have h : iblk m c 5 t (ix2 0 d) = m (c.tc.loc main_arg5) (ix1 d) := by
    rw [blk5, V_v16]
    generalize m (c.tc.loc main_arg5) = z
    pointwise []
  refine Eq.trans ?_ h
  generalize iblk m c 5 t = z
  pointwise [k0_pay16]
theorem in6 (r : Fin 256) (d : Fin 1024) : iblk m c 6 t (ix2 r d) = m (c.tc.loc main_arg6) (ix2 (row t r) d) := by
  rw [blk6, V_main_arg6]
theorem in3_0 (f : Fin 5632) : iblk m c 3 t (ix2 0 f) = m (c.tc.loc main_arg3) (ix2 0 f) := by
  rw [blk3, V_v13]
  generalize m (c.tc.loc main_arg3) = z
  pointwise [hostCw]
theorem in3_1 (f : Fin 5632) : iblk m c 3 t (ix2 1 f) = m (c.tc.loc main_arg3) (ix2 1 f) := by
  rw [blk3, V_v13]
  generalize m (c.tc.loc main_arg3) = z
  pointwise [hostCw]
theorem in3_2 (f : Fin 5632) : iblk m c 3 t (ix2 2 f) = m (c.tc.loc main_arg3) (ix2 2 f) := by
  rw [blk3, V_v13]
  generalize m (c.tc.loc main_arg3) = z
  pointwise [hostCw]

theorem u_val (r : Fin 256) (f : Fin 5632) : k0_pay4 (F := Ideal) (iblk m c 0 t) (iblk m c 2 t) (ix2 r f) = uE (m (c.tc.loc main_arg0)) (m (c.tc.loc main_arg1)) (m (c.tc.loc main_arg2)) (row t r) f := by
  rw [pay4_val]
  simp only [in0, in2]
  rfl

section
variable (s : Vec Ideal S8x5632 .f32) (hs : ∀ (r : Fin 8) (f : Fin 5632), s (ix2 r f) = carE (m (c.tc.loc main_arg0)) (m (c.tc.loc main_arg1)) (m (c.tc.loc main_arg2)) t r f)

include hs

theorem up_val (r : Fin 256) (f : Fin 5632) : upT m c t s (ix2 r f) = upE (m (c.tc.loc main_arg0)) (m (c.tc.loc main_arg1)) (m (c.tc.loc main_arg2)) (m (c.tc.loc main_arg3)) (row t r) f :=
  tile_val _ _ _ _ t _ _ s _ (u_val m c t) hs (in3_0 m c t) (in3_1 m c t) (in3_2 m c t) r f
theorem act_val (r : Fin 256) (f : Fin 2816) : actT m c t s (ix2 r f) = actE (m (c.tc.loc main_arg0)) (m (c.tc.loc main_arg1)) (m (c.tc.loc main_arg2)) (m (c.tc.loc main_arg3)) (row t r) f := by
  refine (pay13_val _ _ _ _ r f).trans ?_
  simp only [up_val m c t s hs]
  rfl
theorem h2_val (r : Fin 256) (d : Fin 1024) : h2T m c t s (ix2 r d) = h2E (m (c.tc.loc main_arg0)) (m (c.tc.loc main_arg1)) (m (c.tc.loc main_arg2)) (m (c.tc.loc main_arg3)) (m (c.tc.loc main_arg4)) (row t r) d := by
  refine (pay14_val _ _ _ _ _ _ r d).trans ?_
  simp only [act_val m c t s hs, in1, in4]
  rfl
theorem rs_val (r : Fin 256) : rsT m c t s (ix2 r 0) = rsq (fun e => h2E (m (c.tc.loc main_arg0)) (m (c.tc.loc main_arg1)) (m (c.tc.loc main_arg2)) (m (c.tc.loc main_arg3)) (m (c.tc.loc main_arg4)) (row t r) e) := by
  refine (pay15_val _ _ _ _ _ _ r).trans ?_
  simp only [h2_val m c t s hs]
theorem rsb_val (r : Fin 256) (d : Fin 1024) : rsbT m c t s (ix2 r d) = rsq (fun e => h2E (m (c.tc.loc main_arg0)) (m (c.tc.loc main_arg1)) (m (c.tc.loc main_arg2)) (m (c.tc.loc main_arg3)) (m (c.tc.loc main_arg4)) (row t r) e) := by
  refine (pay17_val _ _ _ _ _ _ r d).trans ?_
  simp only [h2_val m c t s hs]
theorem err_val (r : Fin 256) (d : Fin 1024) :
    k0_pay18 (F := Ideal) (h2T m c t s) (k0_pay16 (iblk m c 5 t)) (rsbT m c t s) (iblk m c 6 t) (ix2 r d) = errE (m (c.tc.loc main_arg0)) (m (c.tc.loc main_arg1)) (m (c.tc.loc main_arg2)) (m (c.tc.loc main_arg3)) (m (c.tc.loc main_arg4)) (m (c.tc.loc main_arg5)) (m (c.tc.loc main_arg6)) (row t r) d := by
  rw [pay18_val, h2_val m c t s hs, rsb_val m c t s hs, in5, in6]
  rfl
theorem dy_val (r : Fin 256) (d : Fin 1024) :
    k0_pay20 (F := Ideal) (h2T m c t s) (k0_pay16 (iblk m c 5 t)) (rsbT m c t s) (iblk m c 6 t) (ix2 r d) = dyE (m (c.tc.loc main_arg0)) (m (c.tc.loc main_arg1)) (m (c.tc.loc main_arg2)) (m (c.tc.loc main_arg3)) (m (c.tc.loc main_arg4)) (m (c.tc.loc main_arg5)) (m (c.tc.loc main_arg6)) (row t r) d := by
  rw [pay20_val, h2_val m c t s hs, rsb_val m c t s hs, in5, in6]
  rfl
theorem dh_val (r : Fin 256) (d : Fin 1024) : dhT m c t s (ix2 r d) = dhE (m (c.tc.loc main_arg0)) (m (c.tc.loc main_arg1)) (m (c.tc.loc main_arg2)) (m (c.tc.loc main_arg3)) (m (c.tc.loc main_arg4)) (m (c.tc.loc main_arg5)) (m (c.tc.loc main_arg6)) (row t r) d := by
  refine (pay22_val _ _ _ _ _ r d).trans ?_
  simp only [dy_val m c t s hs, h2_val m c t s hs, rs_val m c t s hs, in5]
  rfl
theorem lossT_val (l : Vec Ideal S1x128 .f32) (k : Fin 128) : lossT m c t s l (ix2 0 k)
    = l (ix2 0 k) + (∑ r : Fin 256, sqE (m (c.tc.loc main_arg0)) (m (c.tc.loc main_arg1)) (m (c.tc.loc main_arg2)) (m (c.tc.loc main_arg3)) (m (c.tc.loc main_arg4)) (m (c.tc.loc main_arg5)) (m (c.tc.loc main_arg6)) (row t r)) * ((1 / 2048 : ℝ) : EReal) := by
  refine (pay19_val _ _ _ _ _ k).trans ?_
  simp only [err_val m c t s hs]
  rfl
theorem dgT_val (l : Vec Ideal S1x1024 .f32) (d : Fin 1024) : dgT m c t s l (ix2 0 d)
    = l (ix2 0 d) + ∑ r : Fin 256, dgE (m (c.tc.loc main_arg0)) (m (c.tc.loc main_arg1)) (m (c.tc.loc main_arg2)) (m (c.tc.loc main_arg3)) (m (c.tc.loc main_arg4)) (m (c.tc.loc main_arg5)) (m (c.tc.loc main_arg6)) d (row t r) := by
  refine (pay23_val _ _ _ _ _ _ d).trans ?_
  simp only [dy_val m c t s hs, h2_val m c t s hs, rs_val m c t s hs]
  rfl
end

/-! ## The carried rows -/

theorem car_first (h : t.val % 16 = 0) (r : Fin 8) (f : Fin 5632) : k0_pay1 (F := Ideal) (ix2 r f) = carE (m (c.tc.loc main_arg0)) (m (c.tc.loc main_arg1)) (m (c.tc.loc main_arg2)) t r f := by
  have hN : cfg0.N = 16 := N_0
  have ht := t.isLt
  have hr := r.isLt
  unfold carE
  rw [if_pos (by omega)]
  pointwise [k0_pay1]
theorem car_next (h : ¬t.val % 16 = 0) (h' : t.val - 1 < cfg0.N) (r : Fin 8) (f : Fin 5632) :
    (outsAt0 m c (t.val - 1) h').2.2.2.2.2.2 (ix2 r f) = carE (m (c.tc.loc main_arg0)) (m (c.tc.loc main_arg1)) (m (c.tc.loc main_arg2)) t r f := by
  have hr := r.isLt
  have hu := u_val m c ⟨t.val - 1, h'⟩
  refine (congrFun (carry_out m c ⟨t.val - 1, h'⟩) _).trans ?_
  generalize k0_pay4 (F := Ideal) (iblk m c 0 ⟨t.val - 1, h'⟩) (iblk m c 2 ⟨t.val - 1, h'⟩) = u at *
  unfold carE
  rw [if_neg (by omega)]
  pointwise [k0_pay12]
  refine (hu _ _).trans (congrArg (fun z => uE (m (c.tc.loc main_arg0)) (m (c.tc.loc main_arg1)) (m (c.tc.loc main_arg2)) z f) (Fin.ext ?_))
  show 256 * (t.val - 1) + (248 + r.val) = 256 * t.val + r.val - 8
  omega

theorem u_row (r : Fin 256) (f : Fin 5632) : (outsAt0 m c t.val t.isLt).1 (ix2 r f) = uE (m (c.tc.loc main_arg0)) (m (c.tc.loc main_arg1)) (m (c.tc.loc main_arg2)) (row t r) f := by
  rw [u_out]
  exact u_val m c t r f
theorem up_row (r : Fin 256) (f : Fin 5632) : (outsAt0 m c t.val t.isLt).2.1 (ix2 r f) = upE (m (c.tc.loc main_arg0)) (m (c.tc.loc main_arg1)) (m (c.tc.loc main_arg2)) (m (c.tc.loc main_arg3)) (row t r) f := by
  by_cases h : t.val % 16 = 0
  · rw [up_first m c t h]
    exact up_val m c t _ (car_first m c t h) r f
  · have h' : t.val - 1 < cfg0.N := by have := t.isLt; omega
    rw [up_next m c t h h']
    exact up_val m c t _ (car_next m c t h h') r f
theorem act_row (r : Fin 256) (f : Fin 2816) : (outsAt0 m c t.val t.isLt).2.2.1 (ix2 r f) = actE (m (c.tc.loc main_arg0)) (m (c.tc.loc main_arg1)) (m (c.tc.loc main_arg2)) (m (c.tc.loc main_arg3)) (row t r) f := by
  by_cases h : t.val % 16 = 0
  · rw [act_first m c t h]
    exact act_val m c t _ (car_first m c t h) r f
  · have h' : t.val - 1 < cfg0.N := by have := t.isLt; omega
    rw [act_next m c t h h']
    exact act_val m c t _ (car_next m c t h h') r f
theorem dh_row (r : Fin 256) (f : Fin 1024) : (outsAt0 m c t.val t.isLt).2.2.2.1 (ix2 r f) = dhE (m (c.tc.loc main_arg0)) (m (c.tc.loc main_arg1)) (m (c.tc.loc main_arg2)) (m (c.tc.loc main_arg3)) (m (c.tc.loc main_arg4)) (m (c.tc.loc main_arg5)) (m (c.tc.loc main_arg6)) (row t r) f := by
  by_cases h : t.val % 16 = 0
  · rw [dh_first m c t h]
    exact dh_val m c t _ (car_first m c t h) r f
  · have h' : t.val - 1 < cfg0.N := by have := t.isLt; omega
    rw [dh_next m c t h h']
    exact dh_val m c t _ (car_next m c t h h') r f

/-! ## The sums after a point -/

theorem loss_zero (k : Fin 128) : k0_pay2 (F := Ideal) (ix2 0 k) = 0 := by
  pointwise [k0_pay2]
theorem loss_acc (k : Fin 128) : ∀ (n : ℕ) (h : n < cfg0.N), (outsAt0 m c n h).2.2.2.2.1 (ix2 0 k)
    = part (sqE (m (c.tc.loc main_arg0)) (m (c.tc.loc main_arg1)) (m (c.tc.loc main_arg2)) (m (c.tc.loc main_arg3)) (m (c.tc.loc main_arg4)) (m (c.tc.loc main_arg5)) (m (c.tc.loc main_arg6))) (256 * (n + 1)) * ((1 / 2048 : ℝ) : EReal) := by
  have hN : cfg0.N = 16 := N_0
  intro n
  induction n with
  | zero =>
    intro h
    let t : Fin cfg0.N := ⟨0, h⟩
    show (outsAt0 m c t.val t.isLt).2.2.2.2.1 _ = _
    rw [loss_first m c t rfl, lossT_val m c t _ (car_first m c t rfl), loss_zero, zero_add, show 256 * (0 + 1) = 0 + 256 from rfl, part_add _ _ _ (by omega),
      part_zero, zero_add]
    rfl
  | succ n ih =>
    intro h
    let t : Fin cfg0.N := ⟨n + 1, h⟩
    have h' : t.val - 1 < cfg0.N := by show n + 1 - 1 < cfg0.N; omega
    have ht : ¬t.val % 16 = 0 := by show ¬(n + 1) % 16 = 0; omega
    show (outsAt0 m c t.val t.isLt).2.2.2.2.1 _ = _
    rw [loss_next m c t ht h', lossT_val m c t _ (car_next m c t ht h')]
    show (outsAt0 m c n _).2.2.2.2.1 _ + _ = _
    rw [ih, show 256 * (n + 1 + 1) = 256 * (n + 1) + 256 by omega, part_add _ _ _ (by omega), EReal.right_distrib_of_nonneg_of_ne_top (by exact_mod_cast (by norm_num : (0 : ℝ) ≤ 1 / 2048)) (EReal.coe_ne_top _)]
    rfl

theorem dg_zero (k : Fin 1024) : k0_pay3 (F := Ideal) (ix2 0 k) = 0 := by
  pointwise [k0_pay3]
theorem dg_acc (k : Fin 1024) : ∀ (n : ℕ) (h : n < cfg0.N), (outsAt0 m c n h).2.2.2.2.2.1 (ix2 0 k)
    = part (dgE (m (c.tc.loc main_arg0)) (m (c.tc.loc main_arg1)) (m (c.tc.loc main_arg2)) (m (c.tc.loc main_arg3)) (m (c.tc.loc main_arg4)) (m (c.tc.loc main_arg5)) (m (c.tc.loc main_arg6)) k) (256 * (n + 1)) := by
  have hN : cfg0.N = 16 := N_0
  intro n
  induction n with
  | zero =>
    intro h
    let t : Fin cfg0.N := ⟨0, h⟩
    show (outsAt0 m c t.val t.isLt).2.2.2.2.2.1 _ = _
    rw [dg_first m c t rfl, dgT_val m c t _ (car_first m c t rfl), dg_zero, zero_add, show 256 * (0 + 1) = 0 + 256 from rfl, part_add _ _ _ (by omega),
      part_zero, zero_add]
    rfl
  | succ n ih =>
    intro h
    let t : Fin cfg0.N := ⟨n + 1, h⟩
    have h' : t.val - 1 < cfg0.N := by show n + 1 - 1 < cfg0.N; omega
    have ht : ¬t.val % 16 = 0 := by show ¬(n + 1) % 16 = 0; omega
    show (outsAt0 m c t.val t.isLt).2.2.2.2.2.1 _ = _
    rw [dg_next m c t ht h', dgT_val m c t _ (car_next m c t ht h')]
    show (outsAt0 m c n _).2.2.2.2.2.1 _ + _ = _
    rw [ih, show 256 * (n + 1 + 1) = 256 * (n + 1) + 256 by omega, part_add _ _ _ (by omega)]
    rfl

/-! ## The result arrays -/

theorem final7 : (dats m 0 c).arrAt 7 cfg0.N = uA (m (c.tc.loc main_arg0)) (m (c.tc.loc main_arg1)) (m (c.tc.loc main_arg2)) :=
  (dats m 0 c).arrAt_eq_of_cover 7 _
    (fun t hf => by
      rw [Value.flushed7]
      funext j
      rw [View.read_apply]
      have e : (win0_7.blk t).view.emb j = ix2 (row t (j 0)) (j 1) := by
        funext a
        apply Fin.ext
        match a with
        | ⟨0, _⟩ => show win0_7.index t 0 * 256 + 1 * (j 0).val = 256 * t.val + (j 0).val; rw [(idx7 t).1]; omega
        | ⟨1, _⟩ => show win0_7.index t 1 * 5632 + 1 * (j 1).val = (j 1).val; rw [(idx7 t).2]; omega
      show (outsAt0 m c t.val t.isLt).1 j = uA _ _ _ ((win0_7.blk t).view.emb j)
      rw [e]
      refine (congrArg _ (eta2 j)).trans ?_
      exact u_row m c t (j 0) (j 1))
    fun i => (Value.covered_iff7 i).2 (by
      have h0 : (i 0).val < 4096 := (i 0).isLt
      have h1 : (i 1).val < 5632 := (i 1).isLt
      omega)

theorem final8 : (dats m 0 c).arrAt 8 cfg0.N = upA (m (c.tc.loc main_arg0)) (m (c.tc.loc main_arg1)) (m (c.tc.loc main_arg2)) (m (c.tc.loc main_arg3)) :=
  (dats m 0 c).arrAt_eq_of_cover 8 _
    (fun t hf => by
      rw [Value.flushed8]
      funext j
      rw [View.read_apply]
      have e : (win0_8.blk t).view.emb j = ix2 (row t (j 0)) (j 1) := by
        funext a
        apply Fin.ext
        match a with
        | ⟨0, _⟩ => show win0_8.index t 0 * 256 + 1 * (j 0).val = 256 * t.val + (j 0).val; rw [(idx8 t).1]; omega
        | ⟨1, _⟩ => show win0_8.index t 1 * 5632 + 1 * (j 1).val = (j 1).val; rw [(idx8 t).2]; omega
      show (outsAt0 m c t.val t.isLt).2.1 j = upA _ _ _ _ ((win0_8.blk t).view.emb j)
      rw [e]
      refine (congrArg _ (eta2 j)).trans ?_
      exact up_row m c t (j 0) (j 1))
    fun i => (Value.covered_iff8 i).2 (by
      have h0 : (i 0).val < 4096 := (i 0).isLt
      have h1 : (i 1).val < 5632 := (i 1).isLt
      omega)

theorem final9 : (dats m 0 c).arrAt 9 cfg0.N = actA (m (c.tc.loc main_arg0)) (m (c.tc.loc main_arg1)) (m (c.tc.loc main_arg2)) (m (c.tc.loc main_arg3)) :=
  (dats m 0 c).arrAt_eq_of_cover 9 _
    (fun t hf => by
      rw [Value.flushed9]
      funext j
      rw [View.read_apply]
      have e : (win0_9.blk t).view.emb j = ix2 (row t (j 0)) (j 1) := by
        funext a
        apply Fin.ext
        match a with
        | ⟨0, _⟩ => show win0_9.index t 0 * 256 + 1 * (j 0).val = 256 * t.val + (j 0).val; rw [(idx9 t).1]; omega
        | ⟨1, _⟩ => show win0_9.index t 1 * 2816 + 1 * (j 1).val = (j 1).val; rw [(idx9 t).2]; omega
      show (outsAt0 m c t.val t.isLt).2.2.1 j = actA _ _ _ _ ((win0_9.blk t).view.emb j)
      rw [e]
      refine (congrArg _ (eta2 j)).trans ?_
      exact act_row m c t (j 0) (j 1))
    fun i => (Value.covered_iff9 i).2 (by
      have h0 : (i 0).val < 4096 := (i 0).isLt
      have h1 : (i 1).val < 2816 := (i 1).isLt
      omega)

theorem final10 : (dats m 0 c).arrAt 10 cfg0.N = dhA (m (c.tc.loc main_arg0)) (m (c.tc.loc main_arg1)) (m (c.tc.loc main_arg2)) (m (c.tc.loc main_arg3)) (m (c.tc.loc main_arg4)) (m (c.tc.loc main_arg5)) (m (c.tc.loc main_arg6)) :=
  (dats m 0 c).arrAt_eq_of_cover 10 _
    (fun t hf => by
      rw [Value.flushed10]
      funext j
      rw [View.read_apply]
      have e : (win0_10.blk t).view.emb j = ix2 (row t (j 0)) (j 1) := by
        funext a
        apply Fin.ext
        match a with
        | ⟨0, _⟩ => show win0_10.index t 0 * 256 + 1 * (j 0).val = 256 * t.val + (j 0).val; rw [(idx10 t).1]; omega
        | ⟨1, _⟩ => show win0_10.index t 1 * 1024 + 1 * (j 1).val = (j 1).val; rw [(idx10 t).2]; omega
      show (outsAt0 m c t.val t.isLt).2.2.2.1 j = dhA _ _ _ _ _ _ _ ((win0_10.blk t).view.emb j)
      rw [e]
      refine (congrArg _ (eta2 j)).trans ?_
      exact dh_row m c t (j 0) (j 1))
    fun i => (Value.covered_iff10 i).2 (by
      have h0 : (i 0).val < 4096 := (i 0).isLt
      have h1 : (i 1).val < 1024 := (i 1).isLt
      omega)

theorem final11 : (dats m 0 c).arrAt 11 cfg0.N = lossA (m (c.tc.loc main_arg0)) (m (c.tc.loc main_arg1)) (m (c.tc.loc main_arg2)) (m (c.tc.loc main_arg3)) (m (c.tc.loc main_arg4)) (m (c.tc.loc main_arg5)) (m (c.tc.loc main_arg6)) :=
  (dats m 0 c).arrAt_eq_of_cover 11 _
    (fun t hf => by
      have hN : cfg0.N = 16 := N_0
      have ht := (flush0_11 t).mp hf
      have ht' : 256 * (t.val + 1) = 4096 := by have := t.isLt; omega
      rw [Value.flushed11]
      funext j
      rw [View.read_apply]
      have e : (win0_11.blk t).view.emb j = j := by
        funext a
        apply Fin.ext
        match a with
        | ⟨0, _⟩ => show win0_11.index t 0 * 1 + 1 * (j 0).val = (j 0).val; rw [(idx11 t).1]; omega
        | ⟨1, _⟩ => show win0_11.index t 1 * 128 + 1 * (j 1).val = (j 1).val; rw [(idx11 t).2]; omega
      show (outsAt0 m c t.val t.isLt).2.2.2.2.1 j = lossA _ _ _ _ _ _ _ ((win0_11.blk t).view.emb j)
      rw [e]
      have hj : j = ix2 0 (j 1) := (eta2 j).trans (congrArg (fun z => ix2 z (j 1)) (Fin.ext (by have h0 : (j 0).val < 1 := (j 0).isLt; show (j 0).val = 0; omega)))
      refine (congrArg _ hj).trans ?_
      refine (loss_acc m c (j 1) t.val t.isLt).trans ?_
      rw [ht', part_all]
      rfl)
    fun i => (Value.covered_iff11 i).2 (by
      have h0 : (i 0).val < 1 := (i 0).isLt
      have h1 : (i 1).val < 128 := (i 1).isLt
      omega)

theorem final12 : (dats m 0 c).arrAt 12 cfg0.N = dgA (m (c.tc.loc main_arg0)) (m (c.tc.loc main_arg1)) (m (c.tc.loc main_arg2)) (m (c.tc.loc main_arg3)) (m (c.tc.loc main_arg4)) (m (c.tc.loc main_arg5)) (m (c.tc.loc main_arg6)) :=
  (dats m 0 c).arrAt_eq_of_cover 12 _
    (fun t hf => by
      have hN : cfg0.N = 16 := N_0
      have ht := (flush0_12 t).mp hf
      have ht' : 256 * (t.val + 1) = 4096 := by have := t.isLt; omega
      rw [Value.flushed12]
      funext j
      rw [View.read_apply]
      have e : (win0_12.blk t).view.emb j = j := by
        funext a
        apply Fin.ext
        match a with
        | ⟨0, _⟩ => show win0_12.index t 0 * 1 + 1 * (j 0).val = (j 0).val; rw [(idx12 t).1]; omega
        | ⟨1, _⟩ => show win0_12.index t 1 * 1024 + 1 * (j 1).val = (j 1).val; rw [(idx12 t).2]; omega
      show (outsAt0 m c t.val t.isLt).2.2.2.2.2.1 j = dgA _ _ _ _ _ _ _ ((win0_12.blk t).view.emb j)
      rw [e]
      have hj : j = ix2 0 (j 1) := (eta2 j).trans (congrArg (fun z => ix2 z (j 1)) (Fin.ext (by have h0 : (j 0).val < 1 := (j 0).isLt; show (j 0).val = 0; omega)))
      refine (congrArg _ hj).trans ?_
      refine (dg_acc m c (j 1) t.val t.isLt).trans ?_
      rw [ht', part_all]
      rfl)
    fun i => (Value.covered_iff12 i).2 (by
      have h0 : (i 0).val < 1 := (i 0).isLt
      have h1 : (i 1).val < 1024 := (i 1).isLt
      omega)

end

/-- The kernel's call and the reference end with the same six arrays. -/
theorem algebraic : algebraic_Kernel2Ideal_Reference2Ideal (hKernel2Ideal := Cert.Kernel2Ideal.Gen.facts)
    (hReference2Ideal := Cert.Reference2Ideal.Gen.facts) := by
  intro m g m' g' _ hagree
  refine ⟨fun c => uA (m (c.tc.loc main_arg0)) (m (c.tc.loc main_arg1)) (m (c.tc.loc main_arg2)), fun c => upA (m (c.tc.loc main_arg0)) (m (c.tc.loc main_arg1)) (m (c.tc.loc main_arg2)) (m (c.tc.loc main_arg3)), fun c => actA (m (c.tc.loc main_arg0)) (m (c.tc.loc main_arg1)) (m (c.tc.loc main_arg2)) (m (c.tc.loc main_arg3)), fun c => dhA (m (c.tc.loc main_arg0)) (m (c.tc.loc main_arg1)) (m (c.tc.loc main_arg2)) (m (c.tc.loc main_arg3)) (m (c.tc.loc main_arg4)) (m (c.tc.loc main_arg5)) (m (c.tc.loc main_arg6)),
    fun c => lossA (m (c.tc.loc main_arg0)) (m (c.tc.loc main_arg1)) (m (c.tc.loc main_arg2)) (m (c.tc.loc main_arg3)) (m (c.tc.loc main_arg4)) (m (c.tc.loc main_arg5)) (m (c.tc.loc main_arg6)), fun c => dgA (m (c.tc.loc main_arg0)) (m (c.tc.loc main_arg1)) (m (c.tc.loc main_arg2)) (m (c.tc.loc main_arg3)) (m (c.tc.loc main_arg4)) (m (c.tc.loc main_arg5)) (m (c.tc.loc main_arg6)), ?_, ?_⟩
  · refine (θ_run Cert.Kernel2Ideal.defs _ _).mono (fun r h c => ?_) (Cert.Kernel2Ideal.Value.run_blocks m g)
    obtain ⟨h0, h1, h2, h3, h4, h5, hk⟩ := h c
    exact ⟨h0.trans (final7 m c), h1.trans (final8 m c), h2.trans (final9 m c), h3.trans (final10 m c), h4.trans (final11 m c), h5.trans (final12 m c), hk⟩
  · refine (θ_run Cert.Reference2Ideal.defs _ _).mono (fun r h c => ?_) (Cert.Reference2Ideal.Value.run m' g')
    obtain ⟨h0, h1, h2, h3, h4, h5, hk⟩ := h c
    obtain ⟨e0, e1, e2, e3, e4, e5, e6⟩ := hagree c
    refine ⟨(h0.trans (Cert.Reference2Ideal.Read.val_main_v93_eq _)).trans ?_,
      (h1.trans (Cert.Reference2Ideal.Read.val_main_v35_eq _)).trans ?_,
      (h2.trans (Cert.Reference2Ideal.Read.val_main_v94_eq _)).trans ?_,
      (h3.trans (Cert.Reference2Ideal.Read.val_main_v92_eq _)).trans ?_,
      (h4.trans (Cert.Reference2Ideal.Read.val_main_v95_eq _)).trans ?_,
      (h5.trans (Cert.Reference2Ideal.Read.val_main_v96_eq _)).trans ?_, hk⟩
    · show Cert.Reference2Ideal.Read.val_main_v93 (F := Ideal) (m' (c.tc.loc Cert.Reference2Ideal.main_arg0)) (m' (c.tc.loc Cert.Reference2Ideal.main_arg1)) (m' (c.tc.loc Cert.Reference2Ideal.main_arg2)) = _
      rw [e0, e1, e2]; exact (ref7 _ _ _).symm
    · show Cert.Reference2Ideal.Read.val_main_v35 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) = _
      rw [e0, e1, e2, e3]; exact (ref8 _ _ _ _).symm
    · show Cert.Reference2Ideal.Read.val_main_v94 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) = _
      rw [e0, e1, e2, e3]; exact (ref9 _ _ _ _).symm
    · show Cert.Reference2Ideal.Read.val_main_v92 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) = _
      rw [e0, e1, e2, e3, e4, e5, e6]; exact (ref10 _ _ _ _ _ _ _).symm
    · show Cert.Reference2Ideal.Read.val_main_v95 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) = _
      rw [e0, e1, e2, e3, e4, e5, e6]; exact (ref11 _ _ _ _ _ _ _).symm
    · show Cert.Reference2Ideal.Read.val_main_v96 (F := Ideal) (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) (m' (c.tc.loc Cert.Reference2Ideal.main_arg5)) (m' (c.tc.loc Cert.Reference2Ideal.main_arg6)) = _
      rw [e0, e1, e2, e3, e4, e5, e6]; exact (ref12 _ _ _ _ _ _ _).symm

end Cert.Kernel2Ideal.Loss
end
-- ==== Proof.InPoints.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import proofs.«01_k».proof.Proof.Ext
public import Idealize.ShloMosaic.Lib.Pipeline.ValueKit.Acc
public import Idealize.ShloMosaic.Lib.Pipeline.ReadBack
public import Idealize.ShloMosaic.Lib.StableHlo.RunRead
public import Idealize.ShloMosaic.Lib.Claim

/-!
The input projection's backward call: what its sixteen points read and leave.
-/

@[expose] public section

set_option maxRecDepth 16384

noncomputable section
namespace Cert.Kernel3Ideal.InBwd
open Cert.Kernel3Ideal Cert.Kernel3Ideal.Gen Cert.Ext Cert.Coe Idealize.ShloMosaic Idealize.ShloMosaic.TcCoe Idealize.SL.Sem

section
variable {F : FTy → Type} [FloatOps F] (m : (ℓ : Loc nD τ sig) → Buf (Elt F) ℓ) (c : Dev nD)

/-! ## The blocks' places -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)
theorem idx13 : ∀ t : Fin cfg0.N, win0_13.index t 0 = 0 ∧ win0_13.index t 1 = 0 :=
  (by decide +kernel : ∀ t : Fin grid0.N, win0_13.index t 0 = 0 ∧ win0_13.index t 1 = 0)
theorem idx14 : ∀ t : Fin cfg0.N, win0_14.index t 0 = 0 ∧ win0_14.index t 1 = 0 :=
  (by decide +kernel : ∀ t : Fin grid0.N, win0_14.index t 0 = 0 ∧ win0_14.index t 1 = 0)
theorem idx15 : ∀ t : Fin cfg0.N, win0_15.index t 0 = 0 ∧ win0_15.index t 1 = 0 :=
  (by decide +kernel : ∀ t : Fin grid0.N, win0_15.index t 0 = 0 ∧ win0_15.index t 1 = 0)

/-- Row `r` of the tile that point `t` handles. -/
def row (t : Fin cfg0.N) (r : Fin 256) : Fin 4096 :=
  ⟨256 * t.val + r.val, by have := r.isLt; have := t.isLt; have hN : cfg0.N = 16 := N_0; omega⟩
/-- Row `r` of the half block that point `t` handles. -/
def hrow (t : Fin cfg0.N) (r : Fin 128) : Fin 2048 :=
  ⟨128 * t.val + r.val, by have := r.isLt; have := t.isLt; have hN : cfg0.N = 16 := N_0; omega⟩

variable (t : Fin cfg0.N)

theorem blk0 (r : Fin 256) (d : Fin 512) : iblk m c 0 t (ix2 r d) = V m c main_v13 (ix2 (row t r) d) := by
  unfold iblk
  rw [View.read_apply]
  show V m c main_v13 _ = V m c main_v13 _
  congr 1
  funext a
  apply Fin.ext
  match a with
  | ⟨0, _⟩ => show win0_0.index t 0 * 256 + 1 * r.val = 256 * t.val + r.val; rw [(idx0 t).1]; omega
  | ⟨1, _⟩ => show win0_0.index t 1 * 512 + 1 * d.val = d.val; rw [(idx0 t).2]; omega

theorem blk1 (r : Fin 128) (d : Fin 128) : iblk m c 1 t (ix2 r d) = V m c main_v18 (ix2 (hrow t r) d) := by
  unfold iblk
  rw [View.read_apply]
  show V m c main_v18 _ = V m c main_v18 _
  congr 1
  funext a
  apply Fin.ext
  match a with
  | ⟨0, _⟩ => show win0_1.index t 0 * 128 + 1 * r.val = 128 * t.val + r.val; rw [(idx1 t).1]; omega
  | ⟨1, _⟩ => show win0_1.index t 1 * 128 + 1 * d.val = d.val; rw [(idx1 t).2]; omega

theorem blk2 (r : Fin 128) (d : Fin 128) : iblk m c 2 t (ix2 r d) = V m c main_v23 (ix2 (hrow t r) d) := by
  unfold iblk
  rw [View.read_apply]
  show V m c main_v23 _ = V m c main_v23 _
  congr 1
  funext a
  apply Fin.ext
  match a with
  | ⟨0, _⟩ => show win0_2.index t 0 * 128 + 1 * r.val = 128 * t.val + r.val; rw [(idx2 t).1]; omega
  | ⟨1, _⟩ => show win0_2.index t 1 * 128 + 1 * d.val = d.val; rw [(idx2 t).2]; omega

theorem blk3 (r : Fin 128) (d : Fin 128) : iblk m c 3 t (ix2 r d) = V m c main_v28 (ix2 (hrow t r) d) := by
  unfold iblk
  rw [View.read_apply]
  show V m c main_v28 _ = V m c main_v28 _
  congr 1
  funext a
  apply Fin.ext
  match a with
  | ⟨0, _⟩ => show win0_3.index t 0 * 128 + 1 * r.val = 128 * t.val + r.val; rw [(idx3 t).1]; omega
  | ⟨1, _⟩ => show win0_3.index t 1 * 128 + 1 * d.val = d.val; rw [(idx3 t).2]; omega

theorem blk4 (r : Fin 128) (d : Fin 128) : iblk m c 4 t (ix2 r d) = V m c main_v33 (ix2 (hrow t r) d) := by
  unfold iblk
  rw [View.read_apply]
  show V m c main_v33 _ = V m c main_v33 _
  congr 1
  funext a
  apply Fin.ext
  match a with
  | ⟨0, _⟩ => show win0_4.index t 0 * 128 + 1 * r.val = 128 * t.val + r.val; rw [(idx4 t).1]; omega
  | ⟨1, _⟩ => show win0_4.index t 1 * 128 + 1 * d.val = d.val; rw [(idx4 t).2]; omega

theorem blk5 (r : Fin 256) (d : Fin 1536) : iblk m c 5 t (ix2 r d) = V m c main_v34 (ix2 (row t r) d) := by
  unfold iblk
  rw [View.read_apply]
  show V m c main_v34 _ = V m c main_v34 _
  congr 1
  funext a
  apply Fin.ext
  match a with
  | ⟨0, _⟩ => show win0_5.index t 0 * 256 + 1 * r.val = 256 * t.val + r.val; rw [(idx5 t).1]; omega
  | ⟨1, _⟩ => show win0_5.index t 1 * 1536 + 1 * d.val = d.val; rw [(idx5 t).2]; omega

theorem blk6 (r : Fin 256) (d : Fin 2048) : iblk m c 6 t (ix2 r d) = V m c main_v35 (ix2 (row t r) d) := by
  unfold iblk
  rw [View.read_apply]
  show V m c main_v35 _ = V m c main_v35 _
  congr 1
  funext a
  apply Fin.ext
  match a with
  | ⟨0, _⟩ => show win0_6.index t 0 * 256 + 1 * r.val = 256 * t.val + r.val; rw [(idx6 t).1]; omega
  | ⟨1, _⟩ => show win0_6.index t 1 * 2048 + 1 * d.val = d.val; rw [(idx6 t).2]; omega

theorem blk7 (r : Fin 4352) (d : Fin 1024) : iblk m c 7 t (ix2 r d) = V m c main_v37 (ix2 r d) := by
  unfold iblk
  rw [View.read_apply]
  show V m c main_v37 _ = V m c main_v37 _
  congr 1
  funext a
  apply Fin.ext
  match a with
  | ⟨0, _⟩ => show win0_7.index t 0 * 4352 + 1 * r.val = r.val; rw [(idx7 t).1]; omega
  | ⟨1, _⟩ => show win0_7.index t 1 * 1024 + 1 * d.val = d.val; rw [(idx7 t).2]; omega

theorem blk8 (r : Fin 256) (d : Fin 1024) : iblk m c 8 t (ix2 r d) = V m c main_arg0 (ix2 (row t r) d) := by
  unfold iblk
  rw [View.read_apply]
  show V m c main_arg0 _ = V m c main_arg0 _
  congr 1
  funext a
  apply Fin.ext
  match a with
  | ⟨0, _⟩ => show win0_8.index t 0 * 256 + 1 * r.val = 256 * t.val + r.val; rw [(idx8 t).1]; omega
  | ⟨1, _⟩ => show win0_8.index t 1 * 1024 + 1 * d.val = d.val; rw [(idx8 t).2]; omega

theorem blk9 (r : Fin 256) (d : Fin 1024) : iblk m c 9 t (ix2 r d) = V m c main_v12 (ix2 (row t r) d) := by
  unfold iblk
  rw [View.read_apply]
  show V m c main_v12 _ = V m c main_v12 _
  congr 1
  funext a
  apply Fin.ext
  match a with
  | ⟨0, _⟩ => show win0_9.index t 0 * 256 + 1 * r.val = 256 * t.val + r.val; rw [(idx9 t).1]; omega
  | ⟨1, _⟩ => show win0_9.index t 1 * 1024 + 1 * d.val = d.val; rw [(idx9 t).2]; omega

theorem blk10 (r : Fin 256) (d : Fin 1024) : iblk m c 10 t (ix2 r d) = V m c main_arg8 (ix2 (row t r) d) := by
  unfold iblk
  rw [View.read_apply]
  show V m c main_arg8 _ = V m c main_arg8 _
  congr 1
  funext a
  apply Fin.ext
  match a with
  | ⟨0, _⟩ => show win0_10.index t 0 * 256 + 1 * r.val = 256 * t.val + r.val; rw [(idx10 t).1]; omega
  | ⟨1, _⟩ => show win0_10.index t 1 * 1024 + 1 * d.val = d.val; rw [(idx10 t).2]; omega

theorem blk11 (r : Fin 1) (d : Fin 1024) : iblk m c 11 t (ix2 r d) = V m c main_arg1 (ix2 r d) := by
  unfold iblk
  rw [View.read_apply]
  show V m c main_arg1 _ = V m c main_arg1 _
  congr 1
  funext a
  apply Fin.ext
  match a with
  | ⟨0, _⟩ => show win0_11.index t 0 * 1 + 1 * r.val = r.val; rw [(idx11 t).1]; omega
  | ⟨1, _⟩ => show win0_11.index t 1 * 1024 + 1 * d.val = d.val; rw [(idx11 t).2]; omega

/-- The even blocks of 128 rows. -/
def evenRows (w : FVec F S4096x128 .f32) : FVec F S2048x128 .bf16 :=
  shapeCast S2048x128 (shapeCast S16x128x128 (extractStridedSlice S16x1x128x128 ![0, 0, 0, 0]
    (shapeCast S16x2x128x128 (truncf .bf16 w bitsLt_bf16_f32) shapeCasts_S4096x128_S16x2x128x128)
    slices_S16x2x128x128_S16x1x128x128_0_0_0_0) shapeCasts_S16x1x128x128_S16x128x128) shapeCasts_S16x128x128_S2048x128
/-- The odd blocks of 128 rows. -/
def oddRows (w : FVec F S4096x128 .f32) : FVec F S2048x128 .bf16 :=
  shapeCast S2048x128 (shapeCast S16x128x128 (extractStridedSlice S16x1x128x128 ![0, 1, 0, 0]
    (shapeCast S16x2x128x128 (truncf .bf16 w bitsLt_bf16_f32) shapeCasts_S4096x128_S16x2x128x128)
    slices_S16x2x128x128_S16x1x128x128_0_1_0_0) shapeCasts_S16x1x128x128_S16x128x128) shapeCasts_S16x128x128_S2048x128
/-- The normalised rows as the host computes them. -/
def hostXn (x : FVec F S4096x1024 .f32) (g : FVec F S1x1024 .f32) : FVec F S4096x1024 .bf16 :=
  truncf .bf16
    (mulf
      (mulf x
        (broadcastInDim S4096x1024 ![0, 1] bcast_S4096x1_S4096x1024_0_1
          (Host.rsqrt
            (addf
              (Host.divf
                (broadcastInDim S4096x1 ![0] bcast_S4096_S4096x1_0
                  (Host.reduceAdd (mulf x x) (constant S_ .f32 0x00000000#32) reducesTo_S4096x1024_S4096_d1 h_S_))
                (broadcastInDim S4096x1 ![] bcast_S_S4096x1 (constant S_ .f32 0x44800000#32)))
              (broadcastInDim S4096x1 ![] bcast_S_S4096x1 (constant S_ .f32 0x3727C5AC#32))))))
      (broadcastInDim S4096x1024 ![0, 1] bcast_S1x1024_S4096x1024_0_1 g))
    bitsLt_bf16_f32

theorem V_v13 : V m c main_v13 = truncf .bf16 (m (c.tc.loc main_arg3)) bitsLt_bf16_f32 := by after_reads_simp
theorem V_v34 : V m c main_v34 = truncf .bf16 (m (c.tc.loc main_arg6)) bitsLt_bf16_f32 := by after_reads_simp
theorem V_v35 : V m c main_v35 = truncf .bf16 (m (c.tc.loc main_arg7)) bitsLt_bf16_f32 := by after_reads_simp
theorem V_v37 : V m c main_v37 = truncf .bf16 (transpose S4352x1024 [1, 0] (m (c.tc.loc main_arg2)) transposes_S1024x4352_S4352x1024_1_0)
    bitsLt_bf16_f32 := by after_reads_simp
theorem V_v18 : V m c main_v18 = evenRows (m (c.tc.loc main_arg4)) := by after_reads_simp; rfl
theorem V_v23 : V m c main_v23 = oddRows (m (c.tc.loc main_arg4)) := by after_reads_simp; rfl
theorem V_v28 : V m c main_v28 = evenRows (m (c.tc.loc main_arg5)) := by after_reads_simp; rfl
theorem V_v33 : V m c main_v33 = oddRows (m (c.tc.loc main_arg5)) := by after_reads_simp; rfl
theorem V_v12 : V m c main_v12 = hostXn (m (c.tc.loc main_arg0)) (m (c.tc.loc main_arg1)) := by after_reads_simp; rfl

/-! ## What the points leave -/

/-- The tile of the projection's incoming gradient. -/
abbrev dtile : FVec F S256x4352 .bf16 :=
  k0_pay6 (iblk m c 1 t) (iblk m c 2 t) (iblk m c 3 t) (iblk m c 4 t) (iblk m c 0 t) (iblk m c 5 t) (iblk m c 6 t)
/-- The bias gradient after the tile. -/
abbrev dbNext (s : Vec F S1x4352 .f32) : FVec F S1x4352 .f32 :=
  k0_pay10 (k0_pay8 s) (k0_pay9 (iblk m c 1 t) (iblk m c 2 t) (iblk m c 3 t) (iblk m c 4 t) (iblk m c 0 t) (iblk m c 5 t) (iblk m c 6 t))
/-- The norm weight's gradient after the tile. -/
abbrev dgNext (s : Vec F S1x1024 .f32) : FVec F S1x1024 .f32 :=
  k0_pay1 (k0_pay14 (dtile m c t) (iblk m c 7 t) (iblk m c 8 t)) (k0_pay16 s)
/-- The projection's gradient after the tile. -/
abbrev dwNext (s : Vec F S4352x1024 .f32) : FVec F S4352x1024 .f32 :=
  k0_pay7 (iblk m c 1 t) (iblk m c 2 t) (iblk m c 3 t) (iblk m c 4 t) (iblk m c 0 t) (iblk m c 5 t) (iblk m c 6 t) s (iblk m c 9 t)

theorem out_dx : (outsAt0 m c t.val t.isLt).1
    = k0_pay15 (dtile m c t) (iblk m c 7 t) (iblk m c 8 t) (iblk m c 11 t) (iblk m c 10 t) := by
  by_cases h0 : t.val % 16 = 0
  · rw [outsAt0_A m c t h0 (by omega)]; frame_out [read_unread_whole]
  · by_cases h1 : t.val % 16 = 15
    · rw [outsAt0_C m c t h0 h1]; frame_out [read_unread_whole]
    · rw [outsAt0_B m c t h0 h1]; frame_out [read_unread_whole]

theorem db_first (h : t.val % 16 = 0) : (outsAt0 m c t.val t.isLt).2.2.1 = dbNext m c t k0_pay3 := by
  rw [outsAt0_A m c t h (by omega)]; frame_out [read_unread_whole]
theorem dg_first (h : t.val % 16 = 0) : (outsAt0 m c t.val t.isLt).2.2.2.1 = dgNext m c t k0_pay4 := by
  rw [outsAt0_A m c t h (by omega)]; frame_out [read_unread_whole]
theorem dw_first (h : t.val % 16 = 0) : (outsAt0 m c t.val t.isLt).2.2.2.2 = dwNext m c t k0_pay5 := by
  rw [outsAt0_A m c t h (by omega)]; frame_out [read_unread_whole]

theorem db_next (h : ¬t.val % 16 = 0) (h' : t.val - 1 < cfg0.N) :
    (outsAt0 m c t.val t.isLt).2.2.1 = dbNext m c t (outsAt0 m c (t.val - 1) h').2.2.1 := by
  by_cases h1 : t.val % 16 = 15
  · rw [outsAt0_C m c t h h1]; frame_out [read_unread_whole]
  · rw [outsAt0_B m c t h h1]; frame_out [read_unread_whole]
theorem dg_next (h : ¬t.val % 16 = 0) (h' : t.val - 1 < cfg0.N) :
    (outsAt0 m c t.val t.isLt).2.2.2.1 = dgNext m c t (outsAt0 m c (t.val - 1) h').2.2.2.1 := by
  by_cases h1 : t.val % 16 = 15
  · rw [outsAt0_C m c t h h1]; frame_out [read_unread_whole]
  · rw [outsAt0_B m c t h h1]; frame_out [read_unread_whole]
theorem dw_next (h : ¬t.val % 16 = 0) (h' : t.val - 1 < cfg0.N) :
    (outsAt0 m c t.val t.isLt).2.2.2.2 = dwNext m c t (outsAt0 m c (t.val - 1) h').2.2.2.2 := by
  by_cases h1 : t.val % 16 = 15
  · rw [outsAt0_C m c t h h1]; frame_out [read_unread_whole]
  · rw [outsAt0_B m c t h h1]; frame_out [read_unread_whole]
theorem dw_last (h1 : t.val % 16 = 15) : (outsAt0 m c t.val t.isLt).2.1 = k0_pay2 (outsAt0 m c t.val t.isLt).2.2.2.2 := by
  rw [outsAt0_C m c t (by omega) h1]; frame_out [read_unread_whole]
end

end Cert.Kernel3Ideal.InBwd
end
-- ==== Proof.InBwd.lean ====
module

public import proofs.«01_k».proof.Proof.InPoints

/-!
The input projection's backward call: the points' blocks add up to what differentiating the forward lines gives.
-/

@[expose] public section

set_option maxRecDepth 16384

noncomputable section
namespace Cert.Kernel3Ideal.InBwd
open Cert.Kernel3Ideal Cert.Kernel3Ideal.Gen Cert.Ext Cert.Coe Idealize.ShloMosaic Idealize.ShloMosaic.TcCoe Idealize.SL.Sem

/-! ## The results -/

section
variable (x : FVec Ideal S4096x1024 .f32) (g : FVec Ideal S1x1024 .f32) (w : FVec Ideal S1024x4352 .f32)
  (q : FVec Ideal S4096x512 .f32) (k v : FVec Ideal S4096x128 .f32) (a : FVec Ideal S4096x1536 .f32) (b : FVec Ideal S4096x2048 .f32)
  (y : FVec Ideal S4096x1024 .f32)

/-- The gradient of the projected row: the five incoming gradients side by side. -/
def dproj (r : Fin 4096) (l : Fin 4352) : EReal :=
  if h : l.val < 512 then q (ix2 r ⟨l.val, h⟩)
  else if h1 : l.val - 512 < 128 then k (ix2 r ⟨l.val - 512, h1⟩)
  else if h2 : l.val - 512 - 128 < 128 then v (ix2 r ⟨l.val - 512 - 128, h2⟩)
  else if h3 : l.val - 512 - 128 - 128 < 1536 then a (ix2 r ⟨l.val - 512 - 128 - 128, h3⟩)
  else b (ix2 r ⟨l.val - 512 - 128 - 128 - 1536, by have := l.isLt; omega⟩)
/-- The gradient of the normalised row. -/
def dn (r : Fin 4096) (d : Fin 1024) : EReal := ∑ l : Fin 4352, dproj q k v a b r l * w (ix2 d l)
/-- The row before the norm weight. -/
def vh (r : Fin 4096) (d : Fin 1024) : EReal := x (ix2 r d) * rsq (fun e => x (ix2 r e))
/-- A token's share of the norm weight's gradient. -/
def dgT (d : Fin 1024) (r : Fin 4096) : EReal := dn w q k v a b r d * vh x r d
/-- A token's share of the projection's gradient. -/
def dwT (l : Fin 4352) (d : Fin 1024) (r : Fin 4096) : EReal := dproj q k v a b r l * nrm (fun e => x (ix2 r e)) (fun e => g (ix2 0 e)) d
/-- The gradient of the row that came in. -/
def dxE (r : Fin 4096) (d : Fin 1024) : EReal :=
  y (ix2 r d) + rsq (fun e => x (ix2 r e)) * (dn w q k v a b r d * g (ix2 0 d) - x (ix2 r d) * rsq (fun e => x (ix2 r e))
    * Ideal.div (∑ e : Fin 1024, dn w q k v a b r e * g (ix2 0 e) * (x (ix2 r e) * rsq (fun e => x (ix2 r e)))) ((1024 : ℝ) : EReal))

/-- The rows' gradient as an array. -/
def dxA : Vec Ideal S4096x1024 .f32 := fun i => dxE x g w q k v a b y (i 0) (i 1)
/-- The projection's gradient, transposed, as an array. -/
def dwA : Vec Ideal S4352x1024 .bf16 := fun i => ∑ r, dwT x g q k v a b (i 0) (i 1) r
/-- The bias gradient as an array. -/
def dbA : Vec Ideal S1x4352 .f32 := fun i => ∑ r, dproj q k v a b r (i 1)
/-- The norm weight's gradient as an array. -/
def dgA : Vec Ideal S1x1024 .f32 := fun i => ∑ r, dgT x w q k v a b (i 1) r
end

/-! ## The host's arrays -/

theorem even_val (w : FVec Ideal S4096x128 .f32) (r : Fin 2048) (d : Fin 128) : evenRows (F := Ideal) w (ix2 r d)
    = w (ix2 ⟨r.val / 128 * 256 + r.val % 128, by have := r.isLt; omega⟩ d) := by
  pointwise [evenRows]
theorem odd_val (w : FVec Ideal S4096x128 .f32) (r : Fin 2048) (d : Fin 128) : oddRows (F := Ideal) w (ix2 r d)
    = w (ix2 ⟨r.val / 128 * 256 + 128 + r.val % 128, by have := r.isLt; omega⟩ d) := by
  pointwise [oddRows]
theorem hostXn_val (x : FVec Ideal S4096x1024 .f32) (g : FVec Ideal S1x1024 .f32) (r : Fin 4096) (d : Fin 1024) :
    hostXn (F := Ideal) x g (ix2 r d) = nrm (fun e => x (ix2 r e)) (fun e => g (ix2 0 e)) d := by
  pointwise [hostXn]
  simp only [lit_1024, lit_eps]
  rfl

section
variable (m : (ℓ : Loc nD τ sig) → Buf (Elt Ideal) ℓ) (c : Dev nD) (t : Fin cfg0.N)

theorem in0 (r : Fin 256) (d : Fin 512) : iblk m c 0 t (ix2 r d) = m (c.tc.loc main_arg3) (ix2 (row t r) d) := by
  rw [blk0, V_v13]; show truncf (F := Ideal) _ _ _ _ = _; pointwise []
theorem in5 (r : Fin 256) (d : Fin 1536) : iblk m c 5 t (ix2 r d) = m (c.tc.loc main_arg6) (ix2 (row t r) d) := by
  rw [blk5, V_v34]; show truncf (F := Ideal) _ _ _ _ = _; pointwise []
theorem in6 (r : Fin 256) (d : Fin 2048) : iblk m c 6 t (ix2 r d) = m (c.tc.loc main_arg7) (ix2 (row t r) d) := by
  rw [blk6, V_v35]; show truncf (F := Ideal) _ _ _ _ = _; pointwise []
theorem in7 (l : Fin 4352) (d : Fin 1024) : iblk m c 7 t (ix2 l d) = m (c.tc.loc main_arg2) (ix2 d l) := by
  rw [blk7, V_v37]
  generalize m (c.tc.loc main_arg2) = w
  pointwise []
theorem in8 (r : Fin 256) (d : Fin 1024) : iblk m c 8 t (ix2 r d) = m (c.tc.loc main_arg0) (ix2 (row t r) d) := by
  rw [blk8, V_main_arg0]
theorem in10 (r : Fin 256) (d : Fin 1024) : iblk m c 10 t (ix2 r d) = m (c.tc.loc main_arg8) (ix2 (row t r) d) := by
  rw [blk10, V_main_arg8]
theorem in11 (r : Fin 1) (d : Fin 1024) : iblk m c 11 t (ix2 r d) = m (c.tc.loc main_arg1) (ix2 r d) := by
  rw [blk11, V_main_arg1]
theorem in9 (r : Fin 256) (d : Fin 1024) : iblk m c 9 t (ix2 r d)
    = nrm (fun e => m (c.tc.loc main_arg0) (ix2 (row t r) e)) (fun e => m (c.tc.loc main_arg1) (ix2 0 e)) d := by
  rw [blk9, V_v12]
  exact hostXn_val _ _ _ _
theorem in1 (r : Fin 128) (d : Fin 128) : iblk m c 1 t (ix2 r d)
    = m (c.tc.loc main_arg4) (ix2 (row t ⟨r.val, by have := r.isLt; omega⟩) d) := by
  rw [blk1, V_v18]
  refine (even_val _ _ _).trans (congrArg (fun k => m (c.tc.loc main_arg4) (ix2 k d)) (Fin.ext ?_))
  have := r.isLt
  show (128 * t.val + r.val) / 128 * 256 + (128 * t.val + r.val) % 128 = 256 * t.val + (r.val)
  omega
theorem in2 (r : Fin 128) (d : Fin 128) : iblk m c 2 t (ix2 r d)
    = m (c.tc.loc main_arg4) (ix2 (row t ⟨128 + r.val, by have := r.isLt; omega⟩) d) := by
  rw [blk2, V_v23]
  refine (odd_val _ _ _).trans (congrArg (fun k => m (c.tc.loc main_arg4) (ix2 k d)) (Fin.ext ?_))
  have := r.isLt
  show (128 * t.val + r.val) / 128 * 256 + 128 + (128 * t.val + r.val) % 128 = 256 * t.val + (128 + r.val)
  omega
theorem in3 (r : Fin 128) (d : Fin 128) : iblk m c 3 t (ix2 r d)
    = m (c.tc.loc main_arg5) (ix2 (row t ⟨r.val, by have := r.isLt; omega⟩) d) := by
  rw [blk3, V_v28]
  refine (even_val _ _ _).trans (congrArg (fun k => m (c.tc.loc main_arg5) (ix2 k d)) (Fin.ext ?_))
  have := r.isLt
  show (128 * t.val + r.val) / 128 * 256 + (128 * t.val + r.val) % 128 = 256 * t.val + (r.val)
  omega
theorem in4 (r : Fin 128) (d : Fin 128) : iblk m c 4 t (ix2 r d)
    = m (c.tc.loc main_arg5) (ix2 (row t ⟨128 + r.val, by have := r.isLt; omega⟩) d) := by
  rw [blk4, V_v33]
  refine (odd_val _ _ _).trans (congrArg (fun k => m (c.tc.loc main_arg5) (ix2 k d)) (Fin.ext ?_))
  have := r.isLt
  show (128 * t.val + r.val) / 128 * 256 + 128 + (128 * t.val + r.val) % 128 = 256 * t.val + (128 + r.val)
  omega

/-! ## The tile's values -/

theorem pay9_val (v3 v5 v8 v10 : Vec Ideal S128x128 .bf16) (v13 : Vec Ideal S256x512 .bf16) (v15 : Vec Ideal S256x1536 .bf16)
    (v17 : Vec Ideal S256x2048 .bf16) (r : Fin 256) (l : Fin 4352) :
    k0_pay9 (F := Ideal) v3 v5 v8 v10 v13 v15 v17 (ix2 r l) = k0_pay6 (F := Ideal) v3 v5 v8 v10 v13 v15 v17 (ix2 r l) := by
  unfold k0_pay9
  generalize k0_pay6 (F := Ideal) v3 v5 v8 v10 v13 v15 v17 = z
  pointwise []

theorem dtile_val (r : Fin 256) (l : Fin 4352) : dtile m c t (ix2 r l) = dproj (m (c.tc.loc main_arg3)) (m (c.tc.loc main_arg4)) (m (c.tc.loc main_arg5)) (m (c.tc.loc main_arg6)) (m (c.tc.loc main_arg7)) (row t r) l := by
  unfold dtile
  have hr := r.isLt
  pointwise [k0_pay6]
  unfold dproj
  split
  · exact in0 m c t _ _
  split
  · split
    · exact in1 m c t _ _
    · refine (in2 m c t _ _).trans (congrArg (fun k => m (c.tc.loc main_arg4) (ix2 (row t k) _)) (Fin.ext ?_))
      show 128 + (r.val - 128) = r.val
      omega
  split
  · split
    · exact in3 m c t _ _
    · refine (in4 m c t _ _).trans (congrArg (fun k => m (c.tc.loc main_arg5) (ix2 (row t k) _)) (Fin.ext ?_))
      show 128 + (r.val - 128) = r.val
      omega
  split
  · exact in5 m c t _ _
  · exact in6 m c t _ _
end

section
variable (dt : FVec Ideal S256x4352 .bf16) (w : Vec Ideal S4352x1024 .bf16) (x : Vec Ideal S256x1024 .f32) (g : Vec Ideal S1x1024 .f32)
  (y : Vec Ideal S256x1024 .f32)

theorem pay11_val (r : Fin 256) (d : Fin 1024) : k0_pay11 (F := Ideal) dt w (ix2 r d) = ∑ l : Fin 4352, dt (ix2 r l) * w (ix2 l d) := by
  pointwise [k0_pay11]
theorem pay12_val (r : Fin 256) : k0_pay12 (F := Ideal) x (ix2 r 0) = rsq (fun e => x (ix2 r e)) := by
  pointwise [k0_pay12]
  simp only [lit_1024, lit_eps]
  rfl
theorem pay13_val (r : Fin 256) (d : Fin 1024) : k0_pay13 (F := Ideal) x (ix2 r d) = x (ix2 r d) * rsq (fun e => x (ix2 r e)) := by
  have h := pay12_val x
  pointwise [k0_pay13]
  rw [h]
theorem pay14_val (r : Fin 256) (d : Fin 1024) : k0_pay14 (F := Ideal) dt w x (ix2 r d)
    = (∑ l : Fin 4352, dt (ix2 r l) * w (ix2 l d)) * (x (ix2 r d) * rsq (fun e => x (ix2 r e))) := by
  have h := pay13_val x
  have h' := pay11_val dt w
  pointwise [k0_pay14]
  rw [h, h']
theorem pay15_val (r : Fin 256) (d : Fin 1024) : k0_pay15 (F := Ideal) dt w x g y (ix2 r d)
    = y (ix2 r d) + rsq (fun e => x (ix2 r e)) * ((∑ l : Fin 4352, dt (ix2 r l) * w (ix2 l d)) * g (ix2 0 d)
      - x (ix2 r d) * rsq (fun e => x (ix2 r e))
        * Ideal.div (∑ e : Fin 1024, (∑ l : Fin 4352, dt (ix2 r l) * w (ix2 l e)) * g (ix2 0 e) * (x (ix2 r e) * rsq (fun e => x (ix2 r e))))
          ((1024 : ℝ) : EReal)) := by
  have h := pay13_val x
  have h' := pay11_val dt w
  have h'' := pay12_val x
  pointwise [k0_pay15]
  simp only [h, h', h'', lit_1024]
theorem pay1_val (z : FVec Ideal S256x1024 .f32) (s : FVec Ideal S1x1024 .f32) (d : Fin 1024) :
    k0_pay1 (F := Ideal) z s (ix2 0 d) = s (ix2 0 d) + ∑ r : Fin 256, z (ix2 r d) := by
  pointwise [k0_pay1]
theorem pay10_val (z : FVec Ideal S256x4352 .f32) (s : FVec Ideal S1x4352 .f32) (d : Fin 4352) :
    k0_pay10 (F := Ideal) s z (ix2 0 d) = s (ix2 0 d) + ∑ r : Fin 256, z (ix2 r d) := by
  pointwise [k0_pay10]
end

section
variable (m : (ℓ : Loc nD τ sig) → Buf (Elt Ideal) ℓ) (c : Dev nD) (t : Fin cfg0.N)

theorem dx_val (r : Fin 256) (d : Fin 1024) : (outsAt0 m c t.val t.isLt).1 (ix2 r d) = dxE (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (row t r) d := by
  rw [out_dx]
  refine (pay15_val _ _ _ _ _ r d).trans ?_
  simp only [dtile_val, in7, in8, in10, in11]
  rfl

theorem dbNext_val (s : Vec Ideal S1x4352 .f32) (l : Fin 4352) :
    dbNext m c t s (ix2 0 l) = s (ix2 0 l) + ∑ r : Fin 256, dproj (m (c.tc.loc main_arg3)) (m (c.tc.loc main_arg4)) (m (c.tc.loc main_arg5)) (m (c.tc.loc main_arg6)) (m (c.tc.loc main_arg7)) (row t r) l := by
  unfold dbNext
  have h := dtile_val m c t
  rw [pay10_val]
  refine congrArg₂ (· + ·) ?_ (Finset.sum_congr rfl fun r _ => ?_)
  · pointwise [k0_pay8]
  · exact (pay9_val _ _ _ _ _ _ _ r l).trans (h r l)

theorem dgNext_val (s : Vec Ideal S1x1024 .f32) (d : Fin 1024) :
    dgNext m c t s (ix2 0 d) = s (ix2 0 d) + ∑ r : Fin 256, dgT (m (c.tc.loc main_arg0)) (m (c.tc.loc main_arg2)) (m (c.tc.loc main_arg3)) (m (c.tc.loc main_arg4)) (m (c.tc.loc main_arg5)) (m (c.tc.loc main_arg6)) (m (c.tc.loc main_arg7)) d (row t r) := by
  unfold dgNext
  rw [pay1_val]
  refine congrArg₂ (· + ·) ?_ (Finset.sum_congr rfl fun r _ => ?_)
  · pointwise [k0_pay16]
  · rw [pay14_val]
    simp only [dtile_val, in7, in8]
    rfl

theorem dwNext_val (s : Vec Ideal S4352x1024 .f32) (l : Fin 4352) (d : Fin 1024) :
    dwNext m c t s (ix2 l d) = s (ix2 l d) + ∑ r : Fin 256, dwT (m (c.tc.loc main_arg0)) (m (c.tc.loc main_arg1)) (m (c.tc.loc main_arg3)) (m (c.tc.loc main_arg4)) (m (c.tc.loc main_arg5)) (m (c.tc.loc main_arg6)) (m (c.tc.loc main_arg7)) l d (row t r) := by
  have h : dwNext m c t s (ix2 l d) = s (ix2 l d) + ∑ r : Fin 256, dtile m c t (ix2 r l) * iblk m c 9 t (ix2 r d) := by
    unfold dwNext dtile
    generalize iblk m c 9 t = z
    pointwise [k0_pay7]
  rw [h]
  simp only [dtile_val, in9]
  rfl

/-! ## The sums after a point -/

theorem db_zero (l : Fin 4352) : k0_pay3 (F := Ideal) (ix2 0 l) = 0 := by
  pointwise [k0_pay3]
theorem db_acc (l : Fin 4352) : ∀ (n : ℕ) (h : n < cfg0.N), (outsAt0 m c n h).2.2.1 (ix2 0 l)
    = part (fun r => dproj (m (c.tc.loc main_arg3)) (m (c.tc.loc main_arg4)) (m (c.tc.loc main_arg5)) (m (c.tc.loc main_arg6)) (m (c.tc.loc main_arg7)) r l) (256 * (n + 1)) := by
  have hN : cfg0.N = 16 := N_0
  intro n
  induction n with
  | zero =>
    intro h
    let t : Fin cfg0.N := ⟨0, h⟩
    show (outsAt0 m c t.val t.isLt).2.2.1 _ = _
    rw [db_first m c t rfl, dbNext_val, db_zero, zero_add, show 256 * (0 + 1) = 0 + 256 from rfl, part_add _ _ _ (by omega), part_zero, zero_add]
    rfl
  | succ n ih =>
    intro h
    let t : Fin cfg0.N := ⟨n + 1, h⟩
    have h' : t.val - 1 < cfg0.N := by show n + 1 - 1 < cfg0.N; omega
    have ht : ¬t.val % 16 = 0 := by show ¬(n + 1) % 16 = 0; omega
    show (outsAt0 m c t.val t.isLt).2.2.1 _ = _
    rw [db_next m c t ht h', dbNext_val]
    show (outsAt0 m c n _).2.2.1 _ + _ = _
    rw [ih, show 256 * (n + 1 + 1) = 256 * (n + 1) + 256 by omega, part_add _ _ _ (by omega)]
    rfl

theorem dg_zero (d : Fin 1024) : k0_pay4 (F := Ideal) (ix2 0 d) = 0 := by
  pointwise [k0_pay4]
theorem dg_acc (d : Fin 1024) : ∀ (n : ℕ) (h : n < cfg0.N), (outsAt0 m c n h).2.2.2.1 (ix2 0 d)
    = part (dgT (m (c.tc.loc main_arg0)) (m (c.tc.loc main_arg2)) (m (c.tc.loc main_arg3)) (m (c.tc.loc main_arg4)) (m (c.tc.loc main_arg5)) (m (c.tc.loc main_arg6)) (m (c.tc.loc main_arg7)) d) (256 * (n + 1)) := by
  have hN : cfg0.N = 16 := N_0
  intro n
  induction n with
  | zero =>
    intro h
    let t : Fin cfg0.N := ⟨0, h⟩
    show (outsAt0 m c t.val t.isLt).2.2.2.1 _ = _
    rw [dg_first m c t rfl, dgNext_val, dg_zero, zero_add, show 256 * (0 + 1) = 0 + 256 from rfl, part_add _ _ _ (by omega), part_zero, zero_add]
    rfl
  | succ n ih =>
    intro h
    let t : Fin cfg0.N := ⟨n + 1, h⟩
    have h' : t.val - 1 < cfg0.N := by show n + 1 - 1 < cfg0.N; omega
    have ht : ¬t.val % 16 = 0 := by show ¬(n + 1) % 16 = 0; omega
    show (outsAt0 m c t.val t.isLt).2.2.2.1 _ = _
    rw [dg_next m c t ht h', dgNext_val]
    show (outsAt0 m c n _).2.2.2.1 _ + _ = _
    rw [ih, show 256 * (n + 1 + 1) = 256 * (n + 1) + 256 by omega, part_add _ _ _ (by omega)]
    rfl

theorem dw_zero (l : Fin 4352) (d : Fin 1024) : k0_pay5 (F := Ideal) (ix2 l d) = 0 := by
  pointwise [k0_pay5]
theorem dw_acc (l : Fin 4352) (d : Fin 1024) : ∀ (n : ℕ) (h : n < cfg0.N), (outsAt0 m c n h).2.2.2.2 (ix2 l d)
    = part (dwT (m (c.tc.loc main_arg0)) (m (c.tc.loc main_arg1)) (m (c.tc.loc main_arg3)) (m (c.tc.loc main_arg4)) (m (c.tc.loc main_arg5)) (m (c.tc.loc main_arg6)) (m (c.tc.loc main_arg7)) l d) (256 * (n + 1)) := by
  have hN : cfg0.N = 16 := N_0
  intro n
  induction n with
  | zero =>
    intro h
    let t : Fin cfg0.N := ⟨0, h⟩
    show (outsAt0 m c t.val t.isLt).2.2.2.2 _ = _
    rw [dw_first m c t rfl, dwNext_val, dw_zero, zero_add, show 256 * (0 + 1) = 0 + 256 from rfl, part_add _ _ _ (by omega), part_zero, zero_add]
    rfl
  | succ n ih =>
    intro h
    let t : Fin cfg0.N := ⟨n + 1, h⟩
    have h' : t.val - 1 < cfg0.N := by show n + 1 - 1 < cfg0.N; omega
    have ht : ¬t.val % 16 = 0 := by show ¬(n + 1) % 16 = 0; omega
    show (outsAt0 m c t.val t.isLt).2.2.2.2 _ = _
    rw [dw_next m c t ht h', dwNext_val]
    show (outsAt0 m c n _).2.2.2.2 _ + _ = _
    rw [ih, show 256 * (n + 1 + 1) = 256 * (n + 1) + 256 by omega, part_add _ _ _ (by omega)]
    rfl

/-! ## The result arrays -/

theorem final12 : (dats m 0 c).arrAt 12 cfg0.N = dxA (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) :=
  (dats m 0 c).arrAt_eq_of_cover 12 _
    (fun t hf => by
      rw [Value.flushed12]
      funext j
      rw [View.read_apply]
      have e : (win0_12.blk t).view.emb j = ix2 (row t (j 0)) (j 1) := by
        funext a
        apply Fin.ext
        match a with
        | ⟨0, _⟩ => show win0_12.index t 0 * 256 + 1 * (j 0).val = 256 * t.val + (j 0).val; rw [(idx12 t).1]; omega
        | ⟨1, _⟩ => show win0_12.index t 1 * 1024 + 1 * (j 1).val = (j 1).val; rw [(idx12 t).2]; omega
      show (outsAt0 m c t.val t.isLt).1 j = dxA _ _ _ _ _ _ _ _ _ ((win0_12.blk t).view.emb j)
      rw [e]
      refine (congrArg _ (eta2 j)).trans ?_
      exact dx_val m c t (j 0) (j 1))
    fun i => (Value.covered_iff12 i).2 (by
      have h0 : (i 0).val < 4096 := (i 0).isLt
      have h1 : (i 1).val < 1024 := (i 1).isLt
      omega)

theorem final13 : (dats m 0 c).arrAt 13 cfg0.N = dwA (m (c.tc.loc main_arg0)) (m (c.tc.loc main_arg1)) (m (c.tc.loc main_arg3)) (m (c.tc.loc main_arg4)) (m (c.tc.loc main_arg5)) (m (c.tc.loc main_arg6)) (m (c.tc.loc main_arg7)) :=
  (dats m 0 c).arrAt_eq_of_cover 13 _
    (fun t hf => by
      have hN : cfg0.N = 16 := N_0
      have ht := (flush0_13 t).mp hf
      have ht' : 256 * (t.val + 1) = 4096 := by have := t.isLt; omega
      rw [Value.flushed13]
      funext j
      rw [View.read_apply]
      have e : (win0_13.blk t).view.emb j = j := by
        funext a
        apply Fin.ext
        match a with
        | ⟨0, _⟩ => show win0_13.index t 0 * 4352 + 1 * (j 0).val = (j 0).val; rw [(idx13 t).1]; omega
        | ⟨1, _⟩ => show win0_13.index t 1 * 1024 + 1 * (j 1).val = (j 1).val; rw [(idx13 t).2]; omega
      show (outsAt0 m c t.val t.isLt).2.1 j = dwA _ _ _ _ _ _ _ ((win0_13.blk t).view.emb j)
      rw [e]
      rw [dw_last m c t ht]
      show (outsAt0 m c t.val t.isLt).2.2.2.2 j = _
      refine (congrArg _ (eta2 j)).trans ?_
      refine (dw_acc m c (j 0) (j 1) t.val t.isLt).trans ?_
      rw [ht', part_all]
      rfl)
    fun i => (Value.covered_iff13 i).2 (by
      have h0 : (i 0).val < 4352 := (i 0).isLt
      have h1 : (i 1).val < 1024 := (i 1).isLt
      omega)

theorem final14 : (dats m 0 c).arrAt 14 cfg0.N = dbA (m (c.tc.loc main_arg3)) (m (c.tc.loc main_arg4)) (m (c.tc.loc main_arg5)) (m (c.tc.loc main_arg6)) (m (c.tc.loc main_arg7)) :=
  (dats m 0 c).arrAt_eq_of_cover 14 _
    (fun t hf => by
      have hN : cfg0.N = 16 := N_0
      have ht := (flush0_14 t).mp hf
      have ht' : 256 * (t.val + 1) = 4096 := by have := t.isLt; omega
      rw [Value.flushed14]
      funext j
      rw [View.read_apply]
      have e : (win0_14.blk t).view.emb j = j := by
        funext a
        apply Fin.ext
        match a with
        | ⟨0, _⟩ => show win0_14.index t 0 * 1 + 1 * (j 0).val = (j 0).val; rw [(idx14 t).1]; omega
        | ⟨1, _⟩ => show win0_14.index t 1 * 4352 + 1 * (j 1).val = (j 1).val; rw [(idx14 t).2]; omega
      show (outsAt0 m c t.val t.isLt).2.2.1 j = dbA _ _ _ _ _ ((win0_14.blk t).view.emb j)
      rw [e]
      have hj : j = ix2 0 (j 1) := (eta2 j).trans (congrArg (fun z => ix2 z (j 1)) (Fin.ext (by have h0 : (j 0).val < 1 := (j 0).isLt; show (j 0).val = 0; omega)))
      refine (congrArg _ hj).trans ?_
      refine (db_acc m c (j 1) t.val t.isLt).trans ?_
      rw [ht', part_all]
      rfl)
    fun i => (Value.covered_iff14 i).2 (by
      have h0 : (i 0).val < 1 := (i 0).isLt
      have h1 : (i 1).val < 4352 := (i 1).isLt
      omega)

theorem final15 : (dats m 0 c).arrAt 15 cfg0.N = dgA (m (c.tc.loc main_arg0)) (m (c.tc.loc main_arg2)) (m (c.tc.loc main_arg3)) (m (c.tc.loc main_arg4)) (m (c.tc.loc main_arg5)) (m (c.tc.loc main_arg6)) (m (c.tc.loc main_arg7)) :=
  (dats m 0 c).arrAt_eq_of_cover 15 _
    (fun t hf => by
      have hN : cfg0.N = 16 := N_0
      have ht := (flush0_15 t).mp hf
      have ht' : 256 * (t.val + 1) = 4096 := by have := t.isLt; omega
      rw [Value.flushed15]
      funext j
      rw [View.read_apply]
      have e : (win0_15.blk t).view.emb j = j := by
        funext a
        apply Fin.ext
        match a with
        | ⟨0, _⟩ => show win0_15.index t 0 * 1 + 1 * (j 0).val = (j 0).val; rw [(idx15 t).1]; omega
        | ⟨1, _⟩ => show win0_15.index t 1 * 1024 + 1 * (j 1).val = (j 1).val; rw [(idx15 t).2]; omega
      show (outsAt0 m c t.val t.isLt).2.2.2.1 j = dgA _ _ _ _ _ _ _ ((win0_15.blk t).view.emb j)
      rw [e]
      have hj : j = ix2 0 (j 1) := (eta2 j).trans (congrArg (fun z => ix2 z (j 1)) (Fin.ext (by have h0 : (j 0).val < 1 := (j 0).isLt; show (j 0).val = 0; omega)))
      refine (congrArg _ hj).trans ?_
      refine (dg_acc m c (j 1) t.val t.isLt).trans ?_
      rw [ht', part_all]
      rfl)
    fun i => (Value.covered_iff15 i).2 (by
      have h0 : (i 0).val < 1 := (i 0).isLt
      have h1 : (i 1).val < 1024 := (i 1).isLt
      omega)

end

/-! ## The reference -/

section
open Cert.Reference3Ideal.Read
variable (x : FVec Ideal S4096x1024 .f32) (g : FVec Ideal S1x1024 .f32) (w : FVec Ideal S1024x4352 .f32)
  (q : FVec Ideal S4096x512 .f32) (k v : FVec Ideal S4096x128 .f32) (a : FVec Ideal S4096x1536 .f32) (b : FVec Ideal S4096x2048 .f32)
  (y : FVec Ideal S4096x1024 .f32)

theorem v24_val (r : Fin 4096) (l : Fin 4352) : val_main_v24 (F := Ideal) q k v a b (ix2 r l) = dproj q k v a b r l := by
  pointwise [val_main_v24]
  rfl
theorem v29_val (r : Fin 4096) (d : Fin 1024) : val_main_v29 (F := Ideal) w q k v a b (ix2 r d) = dn w q k v a b r d := by
  have h := v24_val q k v a b
  pointwise [val_main_v29]
  simp only [h]
  rfl
theorem v7_val (r : Fin 4096) : val_main_v7 (F := Ideal) x (ix2 r 0) = msq (fun e => x (ix2 r e)) := by
  pointwise [val_main_v7, val_main_v6, val_main_v5, val_main_v4, val_main_v3, val_main_v2, val_main_v1, val_main_cst, val_main_cst_0, val_main_cst_1, val_main_cst_2]
  simp only [lit_1024, lit_eps]
  rfl
theorem v8_val (r : Fin 4096) : val_main_v8 (F := Ideal) x (ix2 r 0) = rsq (fun e => x (ix2 r e)) := by
  have h := v7_val x
  pointwise [val_main_v8]
  rw [h]
  rfl
theorem v13_val (r : Fin 4096) (d : Fin 1024) : val_main_v13 (F := Ideal) x (ix2 r d) = vh x r d := by
  have h := v8_val x
  pointwise [val_main_v13, val_main_v12]
  rw [h]
  rfl
theorem v15_val (r : Fin 4096) (d : Fin 1024) : val_main_v15 (F := Ideal) x g (ix2 r d) = nrm (fun e => x (ix2 r e)) (fun e => g (ix2 0 e)) d := by
  have h := v13_val x
  pointwise [val_main_v15, val_main_v14]
  rw [h]
  rfl
theorem v34_val (r : Fin 4096) (d : Fin 1024) : val_main_v34 (F := Ideal) g w q k v a b (ix2 r d) = dn w q k v a b r d * g (ix2 0 d) := by
  have h := v29_val w q k v a b
  pointwise [val_main_v34, val_main_v33]
  rw [h]
theorem v45_val (r : Fin 4096) (d : Fin 1024) : val_main_v45 (F := Ideal) x g w q k v a b (ix2 r d)
    = back (fun e => x (ix2 r e)) (fun e => dn w q k v a b r e * g (ix2 0 e)) := by
  have h34 := v34_val g w q k v a b
  have h7 := v7_val x
  have h8 := v8_val x
  pointwise [val_main_v45, val_main_v44, val_main_v43, val_main_v42, val_main_v41, val_main_v37, val_main_v36, val_main_v35, val_main_v11,
    val_main_v10, val_main_v9, val_main_cst_3, val_main_cst_6, val_main_cst_7, val_main_cst_8]
  simp only [Fin.sum_univ_one, h34, h7, h8, lit_1024, lit_neg_half]
  rfl

theorem v49_val (r : Fin 4096) (d : Fin 1024) : val_main_v49 (F := Ideal) x g w q k v a b y (ix2 r d) = dxE x g w q k v a b y r d := by
  have h45 := v45_val x g w q k v a b
  have h34 := v34_val g w q k v a b
  have h8 := v8_val x
  refine Eq.trans ?_ (rms_back (fun e => x (ix2 r e)) (fun e => dn w q k v a b r e * g (ix2 0 e)) (y (ix2 r d)) d).symm
  pointwise [val_main_v49, val_main_v48, val_main_v47, val_main_v46, val_main_v40, val_main_v39, val_main_v38]
  rw [h45, h34, h8]

theorem v51_val (l : Fin 4352) (d : Fin 1024) : val_main_v51 (F := Ideal) x g q k v a b (ix2 l d) = ∑ r, dwT x g q k v a b l d r := by
  have h24 := v24_val q k v a b
  have h15 := v15_val x g
  pointwise [val_main_v51, val_main_v50, val_main_v28, val_main_v27]
  simp only [h24, h15]
  rfl

theorem v26_val (l : Fin 4352) : val_main_v26 (F := Ideal) q k v a b (ix2 0 l) = ∑ r, dproj q k v a b r l := by
  have h := v24_val q k v a b
  pointwise [val_main_v26, val_main_v25, val_main_cst_4]
  simp only [h]

theorem v32_val (d : Fin 1024) : val_main_v32 (F := Ideal) x w q k v a b (ix2 0 d) = ∑ r, dgT x w q k v a b d r := by
  have h := v13_val x
  have h' := v29_val w q k v a b
  pointwise [val_main_v32, val_main_v31, val_main_v30, val_main_cst_5]
  simp only [h, h']
  exact Finset.sum_congr rfl fun r _ => mul_comm (vh x r d) (dn w q k v a b r d)

theorem ref12 : dxA x g w q k v a b y = val_main_v49 (F := Ideal) x g w q k v a b y := by
  funext i
  exact ((congrArg _ (eta2 i)).trans (v49_val x g w q k v a b y (i 0) (i 1))).symm
theorem ref13 : dwA x g q k v a b = val_main_v51 (F := Ideal) x g q k v a b := by
  funext i
  exact ((congrArg _ (eta2 i)).trans (v51_val x g q k v a b (i 0) (i 1))).symm
theorem ref14 : dbA q k v a b = val_main_v26 (F := Ideal) q k v a b := by
  funext i
  have hi : i = ix2 0 (i 1) := (eta2 i).trans (congrArg (fun z => ix2 z (i 1)) (Fin.ext (by have h0 : (i 0).val < 1 := (i 0).isLt; show (i 0).val = 0; omega)))
  exact ((congrArg _ hi).trans (v26_val q k v a b (i 1))).symm
theorem ref15 : dgA x w q k v a b = val_main_v32 (F := Ideal) x w q k v a b := by
  funext i
  have hi : i = ix2 0 (i 1) := (eta2 i).trans (congrArg (fun z => ix2 z (i 1)) (Fin.ext (by have h0 : (i 0).val < 1 := (i 0).isLt; show (i 0).val = 0; omega)))
  exact ((congrArg _ hi).trans (v32_val x w q k v a b (i 1))).symm
end

/-- The kernel's call and the reference end with the same four arrays. -/
theorem algebraic : algebraic_Kernel3Ideal_Reference3Ideal (hKernel3Ideal := Cert.Kernel3Ideal.Gen.facts)
    (hReference3Ideal := Cert.Reference3Ideal.Gen.facts) := by
  intro m g m' g' _ hagree
  refine ⟨fun c => dxA (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)), fun c => dwA (m (c.tc.loc main_arg0)) (m (c.tc.loc main_arg1)) (m (c.tc.loc main_arg3)) (m (c.tc.loc main_arg4)) (m (c.tc.loc main_arg5)) (m (c.tc.loc main_arg6)) (m (c.tc.loc main_arg7)), fun c => dbA (m (c.tc.loc main_arg3)) (m (c.tc.loc main_arg4)) (m (c.tc.loc main_arg5)) (m (c.tc.loc main_arg6)) (m (c.tc.loc main_arg7)), fun c => dgA (m (c.tc.loc main_arg0)) (m (c.tc.loc main_arg2)) (m (c.tc.loc main_arg3)) (m (c.tc.loc main_arg4)) (m (c.tc.loc main_arg5)) (m (c.tc.loc main_arg6)) (m (c.tc.loc main_arg7)), ?_, ?_⟩
  · refine (θ_run Cert.Kernel3Ideal.defs _ _).mono (fun r h c => ?_) (Cert.Kernel3Ideal.Value.run_blocks m g)
    obtain ⟨h0, h1, h2, h3, hk⟩ := h c
    exact ⟨h0.trans (final12 m c), h1.trans (final13 m c), h2.trans (final14 m c), h3.trans (final15 m c), hk⟩
  · refine (θ_run Cert.Reference3Ideal.defs _ _).mono (fun r h c => ?_) (Cert.Reference3Ideal.Value.run m' g')
    obtain ⟨h0, h1, h2, h3, hk⟩ := h c
    obtain ⟨e0, e1, e2, e3, e4, e5, e6, e7, e8⟩ := hagree c
    refine ⟨(h0.trans (Cert.Reference3Ideal.Read.val_main_v49_eq _ _)).trans ?_,
      (h1.trans (Cert.Reference3Ideal.Read.val_main_v51_eq _ _ _ _ _ _ _)).trans ?_,
      (h2.trans (Cert.Reference3Ideal.Read.val_main_v26_eq _ _ _ _ _)).trans ?_,
      (h3.trans (Cert.Reference3Ideal.Read.val_main_v32_eq _ _ _ _ _ _ _)).trans ?_, hk⟩
    · rw [e0, e1, e2, e3, e4, e5, e6, e7, e8]; exact (ref12 _ _ _ _ _ _ _ _ _).symm
    · rw [e0, e1, e3, e4, e5, e6, e7]; exact (ref13 _ _ _ _ _ _ _).symm
    · rw [e3, e4, e5, e6, e7]; exact (ref14 _ _ _ _ _).symm
    · rw [e0, e2, e3, e4, e5, e6, e7]; exact (ref15 _ _ _ _ _ _ _).symm

end Cert.Kernel3Ideal.InBwd
end
-- ==== Proof.Proj.lean ====
module

public import proofs.«01_k».proof.Proof.Gen.Kernel4Ideal.Value
public import proofs.«01_k».proof.Proof.Gen.Reference4Ideal.Run
public import proofs.«01_k».proof.Proof.Gen.Reference4Ideal.Read
public import proofs.«01_k».proof.Defs
public import proofs.«01_k».proof.Proof.Ext
public import Idealize.ShloMosaic.Lib.Pipeline.ValueKit.Acc
public import Idealize.ShloMosaic.Lib.Pipeline.ReadBack
public import Idealize.ShloMosaic.Lib.StableHlo.RunRead
public import Idealize.ShloMosaic.Lib.Claim

/-!
The input projection's forward call: both programs normalise a row, multiply it by the projection and add the bias.
-/

@[expose] public section

set_option maxRecDepth 16384

noncomputable section
namespace Cert.Kernel4Ideal.Proj
open Cert.Kernel4Ideal Cert.Kernel4Ideal.Gen Cert.Ext Cert.Coe Idealize.ShloMosaic Idealize.ShloMosaic.TcCoe Idealize.SL.Sem

section
variable {F : FTy → Type} [FloatOps F] (m : (ℓ : Loc nD τ sig) → Buf (Elt F) ℓ) (c : Dev nD) (t : Fin cfg0.N)

/-! ## The blocks' places -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

/-- Row `r` of the tile that point `t` handles. -/
def row (t : Fin cfg0.N) (r : Fin 512) : Fin 4096 :=
  ⟨512 * t.val + r.val, by have := r.isLt; have := t.isLt; have hN : cfg0.N = 8 := N_0; omega⟩

theorem blk0 (r : Fin 512) (d : Fin 1024) : iblk m c 0 t (ix2 r d) = V m c main_arg0 (ix2 (row t r) d) := by
  unfold iblk
  rw [View.read_apply]
  show V m c main_arg0 _ = V m c main_arg0 _
  congr 1
  funext a
  apply Fin.ext
  match a with
  | ⟨0, _⟩ => show win0_0.index t 0 * 512 + 1 * r.val = 512 * t.val + r.val; rw [(idx0 t).1]; omega
  | ⟨1, _⟩ => show win0_0.index t 1 * 1024 + 1 * d.val = d.val; rw [(idx0 t).2]; omega

theorem blk1 (r : Fin 1) (d : Fin 1024) : iblk m c 1 t (ix2 r d) = V m c main_arg1 (ix2 (r) d) := by
  unfold iblk
  rw [View.read_apply]
  show V m c main_arg1 _ = V m c main_arg1 _
  congr 1
  funext a
  apply Fin.ext
  match a with
  | ⟨0, _⟩ => show win0_1.index t 0 * 1 + 1 * r.val = r.val; rw [(idx1 t).1]; omega
  | ⟨1, _⟩ => show win0_1.index t 1 * 1024 + 1 * d.val = d.val; rw [(idx1 t).2]; omega

theorem blk2 (r : Fin 4352) (d : Fin 1024) : iblk m c 2 t (ix2 r d) = V m c main_v1 (ix2 (r) d) := by
  unfold iblk
  rw [View.read_apply]
  show V m c main_v1 _ = V m c main_v1 _
  congr 1
  funext a
  apply Fin.ext
  match a with
  | ⟨0, _⟩ => show win0_2.index t 0 * 4352 + 1 * r.val = r.val; rw [(idx2 t).1]; omega
  | ⟨1, _⟩ => show win0_2.index t 1 * 1024 + 1 * d.val = d.val; rw [(idx2 t).2]; omega

theorem blk3 (r : Fin 1) (d : Fin 4352) : iblk m c 3 t (ix2 r d) = V m c main_arg3 (ix2 (r) d) := by
  unfold iblk
  rw [View.read_apply]
  show V m c main_arg3 _ = V m c main_arg3 _
  congr 1
  funext a
  apply Fin.ext
  match a with
  | ⟨0, _⟩ => show win0_3.index t 0 * 1 + 1 * r.val = r.val; rw [(idx3 t).1]; omega
  | ⟨1, _⟩ => show win0_3.index t 1 * 4352 + 1 * d.val = d.val; rw [(idx3 t).2]; omega

theorem V_v1 : V m c main_v1 = truncf .bf16 (transpose S4352x1024 [1, 0] (m (c.tc.loc main_arg2)) transposes_S1024x4352_S4352x1024_1_0)
    bitsLt_bf16_f32 := by
  after_reads_simp

/-! ## What a point leaves -/

theorem out4 : out0_4 (iblk m c 0 t) (iblk m c 1 t) (iblk m c 2 t) (iblk m c 3 t)
    = k0_pay1 (iblk m c 0 t) (iblk m c 1 t) := by
  frame_out
theorem out5 : out0_5 (iblk m c 0 t) (iblk m c 1 t) (iblk m c 2 t) (iblk m c 3 t)
    = k0_pay3 (iblk m c 0 t) (iblk m c 1 t) (iblk m c 2 t) (iblk m c 3 t) := by
  frame_out
theorem out6 : out0_6 (iblk m c 0 t) (iblk m c 1 t) (iblk m c 2 t) (iblk m c 3 t)
    = k0_pay4 (iblk m c 0 t) (iblk m c 1 t) (iblk m c 2 t) (iblk m c 3 t) := by
  frame_out
theorem out7 : out0_7 (iblk m c 0 t) (iblk m c 1 t) (iblk m c 2 t) (iblk m c 3 t)
    = k0_pay5 (iblk m c 0 t) (iblk m c 1 t) (iblk m c 2 t) (iblk m c 3 t) := by
  frame_out
end

/-! ## The values -/

section
variable (x : FVec Ideal S4096x1024 .f32) (g : FVec Ideal S1x1024 .f32) (w : FVec Ideal S1024x4352 .f32) (b : FVec Ideal S1x4352 .f32)

/-- The normalised rows. -/
def xn (r : Fin 4096) (d : Fin 1024) : EReal := nrm (fun e => x (ix2 r e)) (fun e => g (ix2 0 e)) d
/-- The projected rows. -/
def proj (r : Fin 4096) (l : Fin 4352) : EReal := (∑ d : Fin 1024, xn x g r d * w (ix2 d l)) + b (ix2 0 l)

/-- The four results as arrays. -/
def xnA : Vec Ideal S4096x1024 .bf16 := fun i => xn x g (i 0) (i 1)
/-- Queries, keys and values. -/
def qkvA : Vec Ideal S4096x768 .bf16 := fun i => proj x g w b (i 0) ⟨0 + (i 1).val, by have : (i 1).val < 768 := (i 1).isLt; omega⟩
/-- The convolution branch's input. -/
def c3A : Vec Ideal S4096x1536 .bf16 := fun i => proj x g w b (i 0) ⟨768 + (i 1).val, by have : (i 1).val < 1536 := (i 1).isLt; omega⟩
/-- The gates. -/
def gateA : Vec Ideal S4096x2048 .bf16 := fun i => proj x g w b (i 0) ⟨2304 + (i 1).val, by have : (i 1).val < 2048 := (i 1).isLt; omega⟩
end

section
variable (x0 : Vec Ideal S512x1024 .f32) (x1 : Vec Ideal S1x1024 .f32) (x2 : Vec Ideal S4352x1024 .bf16) (x3 : Vec Ideal S1x4352 .f32)

theorem pay1_val (r : Fin 512) (d : Fin 1024) : k0_pay1 (F := Ideal) x0 x1 (ix2 r d)
    = nrm (fun e => x0 (ix2 r e)) (fun e => x1 (ix2 0 e)) d := by
  pointwise [k0_pay1]
  rw [lit_1024, lit_eps]
  rfl

theorem pay2_val (r : Fin 512) (l : Fin 4352) : k0_pay2 (F := Ideal) x0 x1 x2 x3 (ix2 r l)
    = (∑ d : Fin 1024, nrm (fun e => x0 (ix2 r e)) (fun e => x1 (ix2 0 e)) d * x2 (ix2 l d)) + x3 (ix2 0 l) := by
  have h := pay1_val x0 x1
  pointwise [k0_pay2]
  simp only [h]
end

variable (m : (ℓ : Loc nD τ sig) → Buf (Elt Ideal) ℓ) (c : Dev nD)

theorem in0 (t : Fin cfg0.N) (r : Fin 512) (d : Fin 1024) : iblk m c 0 t (ix2 r d) = m (c.tc.loc main_arg0) (ix2 (row t r) d) := by
  rw [blk0, V_main_arg0]
theorem in1 (t : Fin cfg0.N) (r : Fin 1) (d : Fin 1024) : iblk m c 1 t (ix2 r d) = m (c.tc.loc main_arg1) (ix2 r d) := by
  rw [blk1, V_main_arg1]
theorem in2 (t : Fin cfg0.N) (l : Fin 4352) (d : Fin 1024) : iblk m c 2 t (ix2 l d) = m (c.tc.loc main_arg2) (ix2 d l) := by
  rw [blk2, V_v1]
  generalize m (c.tc.loc main_arg2) = w
  pointwise []
theorem in3 (t : Fin cfg0.N) (r : Fin 1) (l : Fin 4352) : iblk m c 3 t (ix2 r l) = m (c.tc.loc main_arg3) (ix2 r l) := by
  rw [blk3, V_main_arg3]

theorem xn_val (t : Fin cfg0.N) (r : Fin 512) (d : Fin 1024) :
    k0_pay1 (F := Ideal) (iblk m c 0 t) (iblk m c 1 t) (ix2 r d) = xn (m (c.tc.loc main_arg0)) (m (c.tc.loc main_arg1)) (row t r) d := by
  rw [pay1_val]
  simp only [in0, in1]
  rfl

theorem proj_val (t : Fin cfg0.N) (r : Fin 512) (l : Fin 4352) :
    k0_pay2 (F := Ideal) (iblk m c 0 t) (iblk m c 1 t) (iblk m c 2 t) (iblk m c 3 t) (ix2 r l)
      = proj (m (c.tc.loc main_arg0)) (m (c.tc.loc main_arg1)) (m (c.tc.loc main_arg2)) (m (c.tc.loc main_arg3)) (row t r) l := by
  rw [pay2_val]
  simp only [in0, in1, in2, in3]
  rfl

/-- Result 0. -/
theorem final4 : (dats m 0 c).arrAt 4 cfg0.N = xnA (m (c.tc.loc main_arg0)) (m (c.tc.loc main_arg1)) :=
  (dats m 0 c).arrAt_eq_of_cover 4 _
    (fun t hf => by
      rw [Value.flushed4, out4]
      funext j
      rw [View.read_apply]
      have e : (win0_4.blk t).view.emb j = ix2 (row t (j 0)) (j 1) := by
        funext a
        apply Fin.ext
        match a with
        | ⟨0, _⟩ => show win0_4.index t 0 * 512 + 1 * (j 0).val = 512 * t.val + (j 0).val; rw [(idx4 t).1]; omega
        | ⟨1, _⟩ => show win0_4.index t 1 * 1024 + 1 * (j 1).val = (j 1).val; rw [(idx4 t).2]; omega
      show k0_pay1 (F := Ideal) _ _ j = xnA _ _ ((win0_4.blk t).view.emb j)
      rw [e]
      refine (congrArg _ (eta2 j)).trans ?_
      exact xn_val m c t (j 0) (j 1))
    fun i => by
      have hN : cfg0.N = 8 := N_0
      have h0 : (i 0 : Nat) < 4096 := (i 0).isLt
      have h1 : (i 1 : Nat) < 1024 := (i 1).isLt
      have hlt : (i 0).val / 512 < cfg0.N := by omega
      let t : Fin cfg0.N := ⟨(i 0).val / 512, hlt⟩
      have ht : t.val = (i 0).val / 512 := rfl
      refine ⟨t, flush0_4 _, ?_⟩
      show i ∈ ((View.whole main_v2_0).slice (win0_4.rect t)).set
      rw [View.set_slice_whole, Rect.mem_set_unit]
      intro a
      match a with
      | ⟨0, _⟩ =>
        show win0_4.index t 0 * 512 ≤ (i 0 : Nat) ∧ (i 0 : Nat) < win0_4.index t 0 * 512 + 512
        rw [(idx4 t).1, ht]; omega
      | ⟨1, _⟩ =>
        show win0_4.index t 1 * 1024 ≤ (i 1 : Nat) ∧ (i 1 : Nat) < win0_4.index t 1 * 1024 + 1024
        rw [(idx4 t).2]; omega

/-- Result 1. -/
theorem final5 : (dats m 0 c).arrAt 5 cfg0.N = qkvA (m (c.tc.loc main_arg0)) (m (c.tc.loc main_arg1)) (m (c.tc.loc main_arg2)) (m (c.tc.loc main_arg3)) :=
  (dats m 0 c).arrAt_eq_of_cover 5 _
    (fun t hf => by
      rw [Value.flushed5, out5]
      funext j
      rw [View.read_apply]
      have e : (win0_5.blk t).view.emb j = ix2 (row t (j 0)) (j 1) := by
        funext a
        apply Fin.ext
        match a with
        | ⟨0, _⟩ => show win0_5.index t 0 * 512 + 1 * (j 0).val = 512 * t.val + (j 0).val; rw [(idx5 t).1]; omega
        | ⟨1, _⟩ => show win0_5.index t 1 * 768 + 1 * (j 1).val = (j 1).val; rw [(idx5 t).2]; omega
      show k0_pay3 (F := Ideal) _ _ _ _ j = qkvA _ _ _ _ ((win0_5.blk t).view.emb j)
      rw [e]
      refine (congrArg _ (eta2 j)).trans ?_
      refine Eq.trans ?_ (proj_val m c t (j 0) ⟨0 + (j 1).val, by have : (j 1).val < 768 := (j 1).isLt; omega⟩)
      pointwise [k0_pay3])
    fun i => by
      have hN : cfg0.N = 8 := N_0
      have h0 : (i 0 : Nat) < 4096 := (i 0).isLt
      have h1 : (i 1 : Nat) < 768 := (i 1).isLt
      have hlt : (i 0).val / 512 < cfg0.N := by omega
      let t : Fin cfg0.N := ⟨(i 0).val / 512, hlt⟩
      have ht : t.val = (i 0).val / 512 := rfl
      refine ⟨t, flush0_5 _, ?_⟩
      show i ∈ ((View.whole main_v2_1).slice (win0_5.rect t)).set
      rw [View.set_slice_whole, Rect.mem_set_unit]
      intro a
      match a with
      | ⟨0, _⟩ =>
        show win0_5.index t 0 * 512 ≤ (i 0 : Nat) ∧ (i 0 : Nat) < win0_5.index t 0 * 512 + 512
        rw [(idx5 t).1, ht]; omega
      | ⟨1, _⟩ =>
        show win0_5.index t 1 * 768 ≤ (i 1 : Nat) ∧ (i 1 : Nat) < win0_5.index t 1 * 768 + 768
        rw [(idx5 t).2]; omega

/-- Result 2. -/
theorem final6 : (dats m 0 c).arrAt 6 cfg0.N = c3A (m (c.tc.loc main_arg0)) (m (c.tc.loc main_arg1)) (m (c.tc.loc main_arg2)) (m (c.tc.loc main_arg3)) :=
  (dats m 0 c).arrAt_eq_of_cover 6 _
    (fun t hf => by
      rw [Value.flushed6, out6]
      funext j
      rw [View.read_apply]
      have e : (win0_6.blk t).view.emb j = ix2 (row t (j 0)) (j 1) := by
        funext a
        apply Fin.ext
        match a with
        | ⟨0, _⟩ => show win0_6.index t 0 * 512 + 1 * (j 0).val = 512 * t.val + (j 0).val; rw [(idx6 t).1]; omega
        | ⟨1, _⟩ => show win0_6.index t 1 * 1536 + 1 * (j 1).val = (j 1).val; rw [(idx6 t).2]; omega
      show k0_pay4 (F := Ideal) _ _ _ _ j = c3A _ _ _ _ ((win0_6.blk t).view.emb j)
      rw [e]
      refine (congrArg _ (eta2 j)).trans ?_
      refine Eq.trans ?_ (proj_val m c t (j 0) ⟨768 + (j 1).val, by have : (j 1).val < 1536 := (j 1).isLt; omega⟩)
      pointwise [k0_pay4])
    fun i => by
      have hN : cfg0.N = 8 := N_0
      have h0 : (i 0 : Nat) < 4096 := (i 0).isLt
      have h1 : (i 1 : Nat) < 1536 := (i 1).isLt
      have hlt : (i 0).val / 512 < cfg0.N := by omega
      let t : Fin cfg0.N := ⟨(i 0).val / 512, hlt⟩
      have ht : t.val = (i 0).val / 512 := rfl
      refine ⟨t, flush0_6 _, ?_⟩
      show i ∈ ((View.whole main_v2_2).slice (win0_6.rect t)).set
      rw [View.set_slice_whole, Rect.mem_set_unit]
      intro a
      match a with
      | ⟨0, _⟩ =>
        show win0_6.index t 0 * 512 ≤ (i 0 : Nat) ∧ (i 0 : Nat) < win0_6.index t 0 * 512 + 512
        rw [(idx6 t).1, ht]; omega
      | ⟨1, _⟩ =>
        show win0_6.index t 1 * 1536 ≤ (i 1 : Nat) ∧ (i 1 : Nat) < win0_6.index t 1 * 1536 + 1536
        rw [(idx6 t).2]; omega

/-- Result 3. -/
theorem final7 : (dats m 0 c).arrAt 7 cfg0.N = gateA (m (c.tc.loc main_arg0)) (m (c.tc.loc main_arg1)) (m (c.tc.loc main_arg2)) (m (c.tc.loc main_arg3)) :=
  (dats m 0 c).arrAt_eq_of_cover 7 _
    (fun t hf => by
      rw [Value.flushed7, out7]
      funext j
      rw [View.read_apply]
      have e : (win0_7.blk t).view.emb j = ix2 (row t (j 0)) (j 1) := by
        funext a
        apply Fin.ext
        match a with
        | ⟨0, _⟩ => show win0_7.index t 0 * 512 + 1 * (j 0).val = 512 * t.val + (j 0).val; rw [(idx7 t).1]; omega
        | ⟨1, _⟩ => show win0_7.index t 1 * 2048 + 1 * (j 1).val = (j 1).val; rw [(idx7 t).2]; omega
      show k0_pay5 (F := Ideal) _ _ _ _ j = gateA _ _ _ _ ((win0_7.blk t).view.emb j)
      rw [e]
      refine (congrArg _ (eta2 j)).trans ?_
      refine Eq.trans ?_ (proj_val m c t (j 0) ⟨2304 + (j 1).val, by have : (j 1).val < 2048 := (j 1).isLt; omega⟩)
      pointwise [k0_pay5])
    fun i => by
      have hN : cfg0.N = 8 := N_0
      have h0 : (i 0 : Nat) < 4096 := (i 0).isLt
      have h1 : (i 1 : Nat) < 2048 := (i 1).isLt
      have hlt : (i 0).val / 512 < cfg0.N := by omega
      let t : Fin cfg0.N := ⟨(i 0).val / 512, hlt⟩
      have ht : t.val = (i 0).val / 512 := rfl
      refine ⟨t, flush0_7 _, ?_⟩
      show i ∈ ((View.whole main_v2_3).slice (win0_7.rect t)).set
      rw [View.set_slice_whole, Rect.mem_set_unit]
      intro a
      match a with
      | ⟨0, _⟩ =>
        show win0_7.index t 0 * 512 ≤ (i 0 : Nat) ∧ (i 0 : Nat) < win0_7.index t 0 * 512 + 512
        rw [(idx7 t).1, ht]; omega
      | ⟨1, _⟩ =>
        show win0_7.index t 1 * 2048 ≤ (i 1 : Nat) ∧ (i 1 : Nat) < win0_7.index t 1 * 2048 + 2048
        rw [(idx7 t).2]; omega

/-! ## The reference -/

section
open Cert.Reference4Ideal.Read
variable (x : FVec Ideal S4096x1024 .f32) (g : FVec Ideal S1x1024 .f32) (w : FVec Ideal S1024x4352 .f32) (b : FVec Ideal S1x4352 .f32)

theorem v11 (r : Fin 4096) (d : Fin 1024) : val_main_v11 (F := Ideal) x g (ix2 r d) = xn x g r d := by
  pointwise [val_main_v11, val_main_v10, val_main_v9, val_main_v8, val_main_v7, val_main_v6, val_main_v5, val_main_v4, val_main_v3,
    val_main_v2, val_main_v1, val_main_v0, val_main_cst_0, val_main_cst_1, val_main_cst]
  simp only [lit_1024, lit_eps]
  rfl

theorem v29 (r : Fin 4096) (d : Fin 1024) : val_main_v29 (F := Ideal) x g (ix2 r d) = xn x g r d := by
  pointwise [val_main_v29, val_main_v28, val_main_v27, val_main_v26, val_main_v25, val_main_v24, val_main_v23, val_main_v22, val_main_v21,
    val_main_v20, val_main_v19, val_main_v18, val_main_cst_2, val_main_cst_3, val_main_cst_4]
  simp only [lit_1024, lit_eps]
  rfl

theorem v14 (r : Fin 4096) (l : Fin 4352) : val_main_v14 (F := Ideal) x g w b (ix2 r l) = proj x g w b r l := by
  have h := v11 x g
  pointwise [val_main_v14, val_main_v13, val_main_v12]
  simp only [h]
  rfl

theorem ref0 : xnA x g = val_main_v30 (F := Ideal) x g := by
  funext i
  exact ((congrArg _ (eta2 i)).trans (v29 x g (i 0) (i 1))).symm

theorem ref1 : qkvA x g w b = val_main_v31 (F := Ideal) x g w b := by
  funext i
  have h := v14 x g w b
  rw [eta2 i]
  pointwise [val_main_v31, val_main_v15]
  exact ((h _ _).trans (congrArg (proj x g w b (i 0)) (Fin.ext (Nat.zero_add _).symm))).symm

theorem ref2 : c3A x g w b = val_main_v32 (F := Ideal) x g w b := by
  funext i
  have h := v14 x g w b
  rw [eta2 i]
  pointwise [val_main_v32, val_main_v16]
  exact (h _ _).symm

theorem ref3 : gateA x g w b = val_main_v33 (F := Ideal) x g w b := by
  funext i
  have h := v14 x g w b
  rw [eta2 i]
  pointwise [val_main_v33, val_main_v17]
  exact (h _ _).symm
end

/-- The kernel's call and the reference end with the same four arrays. -/
theorem algebraic : algebraic_Kernel4Ideal_Reference4Ideal (hKernel4Ideal := Cert.Kernel4Ideal.Gen.facts)
    (hReference4Ideal := Cert.Reference4Ideal.Gen.facts) := by
  intro m g m' g' _ hagree
  refine ⟨fun c => xnA (m (c.tc.loc main_arg0)) (m (c.tc.loc main_arg1)),
    fun c => qkvA (m (c.tc.loc main_arg0)) (m (c.tc.loc main_arg1)) (m (c.tc.loc main_arg2)) (m (c.tc.loc main_arg3)),
    fun c => c3A (m (c.tc.loc main_arg0)) (m (c.tc.loc main_arg1)) (m (c.tc.loc main_arg2)) (m (c.tc.loc main_arg3)),
    fun c => gateA (m (c.tc.loc main_arg0)) (m (c.tc.loc main_arg1)) (m (c.tc.loc main_arg2)) (m (c.tc.loc main_arg3)), ?_, ?_⟩
  · refine (θ_run Cert.Kernel4Ideal.defs _ _).mono (fun r h c => ?_) (Cert.Kernel4Ideal.Value.run_blocks m g)
    obtain ⟨h0, h1, h2, h3, hk⟩ := h c
    exact ⟨h0.trans (final4 m c), h1.trans (final5 m c), h2.trans (final6 m c), h3.trans (final7 m c), hk⟩
  · refine (θ_run Cert.Reference4Ideal.defs _ _).mono (fun r h c => ?_) (Cert.Reference4Ideal.Value.run m' g')
    obtain ⟨h0, h1, h2, h3, hk⟩ := h c
    obtain ⟨e0, e1, e2, e3⟩ := hagree c
    refine ⟨(h0.trans (Cert.Reference4Ideal.Read.val_main_v30_eq _ _)).trans ?_,
      (h1.trans (Cert.Reference4Ideal.Read.val_main_v31_eq _ _ _ _)).trans ?_,
      (h2.trans (Cert.Reference4Ideal.Read.val_main_v32_eq _ _ _ _)).trans ?_,
      (h3.trans (Cert.Reference4Ideal.Read.val_main_v33_eq _ _ _ _)).trans ?_, hk⟩
    · rw [e0, e1]; exact (ref0 _ _).symm
    · rw [e0, e1, e2, e3]; exact (ref1 _ _ _ _).symm
    · rw [e0, e1, e2, e3]; exact (ref2 _ _ _ _).symm
    · rw [e0, e1, e2, e3]; exact (ref3 _ _ _ _).symm

end Cert.Kernel4Ideal.Proj
end
-- ==== Proof.Down.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Defs
public import proofs.«01_k».proof.Proof.Ext
public import Idealize.ShloMosaic.Lib.Pipeline.ValueKit.Acc
public import Idealize.ShloMosaic.Lib.Pipeline.ReadBack
public import Idealize.ShloMosaic.Lib.StableHlo.RunRead
public import Idealize.ShloMosaic.Lib.Claim

/-!
The gradient of the down-projection: the kernel adds two halves of the tokens, the reference all of them at once.
-/

@[expose] public section

set_option maxRecDepth 16384

noncomputable section
namespace Cert.Kernel5Ideal.Down
open Cert.Kernel5Ideal Cert.Kernel5Ideal.Gen Cert.Ext Idealize.ShloMosaic Idealize.ShloMosaic.TcCoe Idealize.SL.Sem

section
variable {F : FTy → Type} [FloatOps F] (m : (ℓ : Loc nD τ sig) → Buf (Elt F) ℓ) (c : Dev nD)

/-! ## What the points leave -/

theorem first (t : Fin cfg0.N) (h : t.val % 2 = 0) : (outsAt0 m c t.val t.isLt).2
    = k0_pay2 k0_pay1 (iblk m c 0 t) (iblk m c 1 t) := by
  rw [outsAt0_A m c t h (by omega)]; frame_out

theorem second (t : Fin cfg0.N) (h : t.val % 2 = 1) (h' : t.val - 1 < cfg0.N) : (outsAt0 m c t.val t.isLt).1
    = k0_pay3 (k0_pay2 (outsAt0 m c (t.val - 1) h').2 (iblk m c 0 t) (iblk m c 1 t)) := by
  rw [outsAt0_B m c t (by omega) h]; frame_out [read_unread_whole]

/-! ## The blocks' places -/

theorem idx0 : ∀ t : Fin cfg0.N, win0_0.index t 0 = t.val % 2 ∧ win0_0.index t 1 = t.val / 2 :=
  (by decide +kernel : ∀ t : Fin grid0.N, win0_0.index t 0 = t.val % 2 ∧ win0_0.index t 1 = t.val / 2)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)

/-- Row `r` of the tokens' half that point `t` handles. -/
def tok (t : Fin cfg0.N) (r : Fin 2048) : Fin 4096 := ⟨2048 * (t.val % 2) + r.val, by have := r.isLt; omega⟩
/-- Column `f` of the features' half that point `t` handles. -/
def feat (t : Fin cfg0.N) (f : Fin 1408) : Fin 2816 :=
  ⟨1408 * (t.val / 2) + f.val, by have := f.isLt; have := t.isLt; have hN : cfg0.N = 4 := N_0; omega⟩

theorem blk0 (t : Fin cfg0.N) (r : Fin 2048) (f : Fin 1408) : iblk m c 0 t (ix2 r f) = V m c main_v0 (ix2 (tok t r) (feat t f)) := by
  unfold iblk
  rw [View.read_apply]
  show V m c main_v0 _ = V m c main_v0 _
  congr 1
  funext a
  apply Fin.ext
  match a with
  | ⟨0, _⟩ => show win0_0.index t 0 * 2048 + 1 * r.val = 2048 * (t.val % 2) + r.val; rw [(idx0 t).1]; omega
  | ⟨1, _⟩ => show win0_0.index t 1 * 1408 + 1 * f.val = 1408 * (t.val / 2) + f.val; rw [(idx0 t).2]; omega

theorem blk1 (t : Fin cfg0.N) (r : Fin 2048) (e : Fin 1024) : iblk m c 1 t (ix2 r e) = V m c main_arg1 (ix2 (tok t r) e) := by
  unfold iblk
  rw [View.read_apply]
  show V m c main_arg1 _ = V m c main_arg1 _
  congr 1
  funext a
  apply Fin.ext
  match a with
  | ⟨0, _⟩ => show win0_1.index t 0 * 2048 + 1 * r.val = 2048 * (t.val % 2) + r.val; rw [(idx1 t).1]; omega
  | ⟨1, _⟩ => show win0_1.index t 1 * 1024 + 1 * e.val = e.val; rw [(idx1 t).2]; omega

theorem V_v0 : V m c main_v0 = truncf .bf16 (m (c.tc.loc main_arg0)) bitsLt_bf16_f32 := by
  after_reads_simp
end

/-! ## The sums -/

variable (m : (ℓ : Loc nD τ sig) → Buf (Elt Ideal) ℓ) (c : Dev nD)

/-- The gradient: over all tokens, the activation times the incoming gradient. -/
def gradE (a0 : FVec Ideal S4096x2816 .f32) (a1 : FVec Ideal S4096x1024 .f32) (f : Fin 2816) (e : Fin 1024) : EReal :=
  ∑ k : Fin 4096, a0 (ix2 k f) * a1 (ix2 k e)
/-- Its two halves. -/
theorem gradE_halves (a0 : FVec Ideal S4096x2816 .f32) (a1 : FVec Ideal S4096x1024 .f32) (f : Fin 2816) (e : Fin 1024) :
    gradE a0 a1 f e
      = ∑ r : Fin 2048, a0 (ix2 ⟨r.val, by have := r.isLt; omega⟩ f) * a1 (ix2 ⟨r.val, by have := r.isLt; omega⟩ e)
        + ∑ r : Fin 2048, a0 (ix2 ⟨2048 + r.val, by have := r.isLt; omega⟩ f) * a1 (ix2 ⟨2048 + r.val, by have := r.isLt; omega⟩ e) :=
  Fin.sum_univ_add (a := 2048) (b := 2048) fun k : Fin 4096 => a0 (ix2 k f) * a1 (ix2 k e)

/-- The same as an array. -/
def grad (a0 : FVec Ideal S4096x2816 .f32) (a1 : FVec Ideal S4096x1024 .f32) : Vec Ideal S2816x1024 .bf16 :=
  fun i => gradE a0 a1 (i 0) (i 1)

theorem in0 (t : Fin cfg0.N) (r : Fin 2048) (f : Fin 1408) :
    iblk m c 0 t (ix2 r f) = m (c.tc.loc main_arg0) (ix2 (tok t r) (feat t f)) := by
  rw [blk0, V_v0]; show truncf (F := Ideal) _ _ _ _ = _; pointwise []

theorem in1 (t : Fin cfg0.N) (r : Fin 2048) (e : Fin 1024) :
    iblk m c 1 t (ix2 r e) = m (c.tc.loc main_arg1) (ix2 (tok t r) e) := by
  rw [blk1, V_main_arg1]

theorem pay2_val (s : Vec Ideal S1408x1024 .f32) (x0 : Vec Ideal S2048x1408 .bf16) (x1 : Vec Ideal S2048x1024 .f32) (f : Fin 1408)
    (e : Fin 1024) : k0_pay2 (F := Ideal) s x0 x1 (ix2 f e) = s (ix2 f e) + ∑ r : Fin 2048, x0 (ix2 r f) * x1 (ix2 r e) := by
  pointwise [k0_pay2]

theorem pay1_val (f : Fin 1408) (e : Fin 1024) : k0_pay1 (F := Ideal) (ix2 f e) = 0 := by
  pointwise [k0_pay1]

theorem flushed_val (t : Fin cfg0.N) (h : t.val % 2 = 1) (f : Fin 1408) (e : Fin 1024) :
    (outsAt0 m c t.val t.isLt).1 (ix2 f e) = gradE (m (c.tc.loc main_arg0)) (m (c.tc.loc main_arg1)) (feat t f) e := by
  have hN : cfg0.N = 4 := N_0
  have hlt := t.isLt
  have h' : t.val - 1 < cfg0.N := by omega
  let s : Fin cfg0.N := ⟨t.val - 1, h'⟩
  have hs : s.val = t.val - 1 := rfl
  have hs2 : s.val % 2 = 0 := by omega
  have e1 := first m c s hs2
  have hf : feat s f = feat t f := Fin.ext (by show 1408 * (s.val / 2) + f.val = 1408 * (t.val / 2) + f.val; omega)
  rw [second m c t h h']
  show k0_pay2 (F := Ideal) _ _ _ (ix2 f e) = _
  rw [pay2_val]
  show (outsAt0 m c s.val s.isLt).2 (ix2 f e) + _ = _
  rw [e1, pay2_val, pay1_val, zero_add]
  simp only [in0, in1, hf]
  rw [gradE_halves]
  refine congrArg₂ (· + ·) (Finset.sum_congr rfl fun r _ => ?_) (Finset.sum_congr rfl fun r _ => ?_)
  · have er : tok s r = ⟨r.val, by have := r.isLt; omega⟩ :=
      Fin.ext (by show 2048 * (s.val % 2) + r.val = r.val; rw [hs2]; omega)
    rw [er]
  · have er : tok t r = ⟨2048 + r.val, by have := r.isLt; omega⟩ :=
      Fin.ext (by show 2048 * (t.val % 2) + r.val = 2048 + r.val; rw [h])
    rw [er]

/-- The kernel's result array. -/
theorem final : (dats m 0 c).arrAt 2 cfg0.N = grad (m (c.tc.loc main_arg0)) (m (c.tc.loc main_arg1)) :=
  (dats m 0 c).arrAt_eq_of_cover 2 _
    (fun t hf => by
      rw [Value.flushed2]
      funext j
      rw [View.read_apply]
      have e : (win0_2.blk t).view.emb j = ix2 (feat t (j 0)) (j 1) := by
        funext a
        apply Fin.ext
        match a with
        | ⟨0, _⟩ => show win0_2.index t 0 * 1408 + 1 * (j 0).val = 1408 * (t.val / 2) + (j 0).val; rw [(idx2 t).1]; omega
        | ⟨1, _⟩ => show win0_2.index t 1 * 1024 + 1 * (j 1).val = (j 1).val; rw [(idx2 t).2]; omega
      show (outsAt0 m c t.val t.isLt).1 j = grad _ _ ((win0_2.blk t).view.emb j)
      rw [e]
      refine (congrArg _ (eta2 j)).trans ?_
      exact flushed_val m c t ((flush0_2 t).mp hf) (j 0) (j 1))
    fun i => (Value.covered_iff2 i).2 (by
      have h0 : (i 0).val < 2816 := (i 0).isLt
      have h1 : (i 1).val < 1024 := (i 1).isLt
      omega)

/-! ## The reference -/

open Cert.Reference5Ideal.Read in
theorem ref (a0 : FVec Ideal S4096x2816 .f32) (a1 : FVec Ideal S4096x1024 .f32) : grad a0 a1 = val_main_v4 (F := Ideal) a0 a1 := by
  funext i
  rw [val_main_v4_apply]
  show _ = val_main_v3 (F := Ideal) a0 a1 i
  rw [val_main_v3_apply, val_main_v2_apply]
  show gradE a0 a1 (i 0) (i 1) = _
  unfold gradE
  refine Finset.sum_congr rfl fun k _ => ?_
  rw [mul_comm]
  refine congrArg₂ (· * ·) (congrArg a1 ?_) (congrArg a0 ?_)
  · exact (eta2 _).symm
  · exact (eta2 _).symm

/-- The kernel's call and the reference end with the same array. -/
theorem algebraic : algebraic_Kernel5Ideal_Reference5Ideal (hKernel5Ideal := Cert.Kernel5Ideal.Gen.facts)
    (hReference5Ideal := Cert.Reference5Ideal.Gen.facts) := by
  intro m g m' g' _ hagree
  refine ⟨fun c => grad (m (c.tc.loc main_arg0)) (m (c.tc.loc main_arg1)), ?_, ?_⟩
  · refine (θ_run Cert.Kernel5Ideal.defs _ _).mono (fun r h c => ?_) (Cert.Kernel5Ideal.Value.run_blocks m g)
    obtain ⟨h0, hk⟩ := h c
    exact ⟨h0.trans (final m c), hk⟩
  · refine (θ_run Cert.Reference5Ideal.defs _ _).mono (fun r h c => ?_) (Cert.Reference5Ideal.Value.run m' g')
    obtain ⟨h0, hk⟩ := h c
    obtain ⟨e0, e1⟩ := hagree c
    refine ⟨(h0.trans (Cert.Reference5Ideal.Read.val_main_v4_eq _ _)).trans ?_, hk⟩
    rw [e0, e1]
    exact (ref _ _).symm

end Cert.Kernel5Ideal.Down
end
-- ==== Proof.Adam.lean ====
module

public import proofs.«01_k».proof.Proof.Ext

/-!
One AdamW step on one weight: the moments, and the weight's change. The numbers are the ones the programs write.
-/

@[expose] public section

noncomputable section
namespace Cert.Adam
open Idealize.ShloMosaic

/-- The first moment after the step. -/
def newM (g m : EReal) : EReal := Ideal.ofBits .f32 0x3F666666#32 * m + Ideal.ofBits .f32 0x3DCCCCCD#32 * g

/-- The second moment after the step. -/
def newV (g v : EReal) : EReal := Ideal.ofBits .f32 0x3F7FBE77#32 * v + Ideal.ofBits .f32 0x3A83126F#32 * (g * g)

/-- What the step adds to the weight. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.Adam
end
-- ==== Proof.Step6.lean ====
module

public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Defs
public import proofs.«01_k».proof.Proof.Adam
public import Idealize.ShloMosaic.Lib.Pipeline.ValueKit.Acc
public import Idealize.ShloMosaic.Lib.Pipeline.ReadBack
public import Idealize.ShloMosaic.Lib.StableHlo.RunRead
public import Idealize.ShloMosaic.Lib.Claim

/-!
The AdamW step of the down projection: both programs do the same arithmetic on every weight by itself.
-/

@[expose] public section

set_option maxRecDepth 16384

noncomputable section
namespace Cert.Kernel6Ideal.Step
open Cert.Kernel6Ideal Cert.Kernel6Ideal.Gen Cert.Ext Cert.Adam Cert.Coe Idealize.ShloMosaic Idealize.ShloMosaic.TcCoe Idealize.SL.Sem

section
variable {F : FTy → Type} [FloatOps F] (m : (ℓ : Loc nD τ sig) → Buf (Elt F) ℓ) (c : Dev nD) (t : Fin cfg0.N)

/-! ## The blocks' places -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

/-- Row `r` of the tile that point `t` handles. -/
def row (t : Fin cfg0.N) (r : Fin 176) : Fin 704 :=
  ⟨176 * t.val + r.val, by have := r.isLt; have := t.isLt; have hN : cfg0.N = 4 := N_0; omega⟩

theorem blk0 (r : Fin 176) (d : Fin 1024) : iblk m c 0 t (ix2 r d) = V m c main_arg0 (ix2 (row t r) d) := by
  unfold iblk
  rw [View.read_apply]
  show V m c main_arg0 _ = V m c main_arg0 _
  congr 1
  funext a
  apply Fin.ext
  match a with
  | ⟨0, _⟩ => show win0_0.index t 0 * 176 + 1 * r.val = 176 * t.val + r.val; rw [(idx0 t).1]; omega
  | ⟨1, _⟩ => show win0_0.index t 1 * 1024 + 1 * d.val = d.val; rw [(idx0 t).2]; omega

theorem blk1 (r : Fin 176) (d : Fin 1024) : iblk m c 1 t (ix2 r d) = V m c main_arg1 (ix2 (row t r) d) := by
  unfold iblk
  rw [View.read_apply]
  show V m c main_arg1 _ = V m c main_arg1 _
  congr 1
  funext a
  apply Fin.ext
  match a with
  | ⟨0, _⟩ => show win0_1.index t 0 * 176 + 1 * r.val = 176 * t.val + r.val; rw [(idx1 t).1]; omega
  | ⟨1, _⟩ => show win0_1.index t 1 * 1024 + 1 * d.val = d.val; rw [(idx1 t).2]; omega

theorem blk2 (r : Fin 176) (d : Fin 1024) : iblk m c 2 t (ix2 r d) = V m c main_arg2 (ix2 (row t r) d) := by
  unfold iblk
  rw [View.read_apply]
  show V m c main_arg2 _ = V m c main_arg2 _
  congr 1
  funext a
  apply Fin.ext
  match a with
  | ⟨0, _⟩ => show win0_2.index t 0 * 176 + 1 * r.val = 176 * t.val + r.val; rw [(idx2 t).1]; omega
  | ⟨1, _⟩ => show win0_2.index t 1 * 1024 + 1 * d.val = d.val; rw [(idx2 t).2]; omega

theorem blk3 (r : Fin 176) (d : Fin 1024) : iblk m c 3 t (ix2 r d) = V m c main_arg3 (ix2 (row t r) d) := by
  unfold iblk
  rw [View.read_apply]
  show V m c main_arg3 _ = V m c main_arg3 _
  congr 1
  funext a
  apply Fin.ext
  match a with
  | ⟨0, _⟩ => show win0_3.index t 0 * 176 + 1 * r.val = 176 * t.val + r.val; rw [(idx3 t).1]; omega
  | ⟨1, _⟩ => show win0_3.index t 1 * 1024 + 1 * d.val = d.val; rw [(idx3 t).2]; omega

/-! ## What a point leaves -/

theorem out4 : out0_4 (iblk m c 0 t) (iblk m c 1 t) (iblk m c 2 t) (iblk m c 3 t)
    = (iblk m c 1 t) := by
  frame_out
theorem out5 : out0_5 (iblk m c 0 t) (iblk m c 1 t) (iblk m c 2 t) (iblk m c 3 t)
    = k0_pay3 (iblk m c 0 t) (iblk m c 1 t) (iblk m c 2 t) (iblk m c 3 t) := by
  frame_out
theorem out6 : out0_6 (iblk m c 0 t) (iblk m c 1 t) (iblk m c 2 t) (iblk m c 3 t)
    = k0_pay1 (iblk m c 1 t) (iblk m c 2 t) := by
  frame_out
theorem out7 : out0_7 (iblk m c 0 t) (iblk m c 1 t) (iblk m c 2 t) (iblk m c 3 t)
    = k0_pay2 (iblk m c 1 t) (iblk m c 3 t) := by
  frame_out
end

/-! ## The values -/

section
variable (w g m v : Vec Ideal S704x1024 .f32)

/-- The gradient, as it came. -/
def gA : Vec Ideal S704x1024 .f32 := fun i => g i
/-- The weights' changes. -/
def dA : Vec Ideal S704x1024 .f32 := fun i => delta (w i) (g i) (m i) (v i)
/-- The first moments. -/
def mA : Vec Ideal S704x1024 .f32 := fun i => newM (g i) (m i)
/-- The second moments. -/
def vA : Vec Ideal S704x1024 .f32 := fun i => newV (g i) (v i)
end

section
variable (x0 x1 x2 x3 : Vec Ideal S176x1024 .f32)

theorem pay1_val (r : Fin 176) (d : Fin 1024) : k0_pay1 (F := Ideal) x1 x2 (ix2 r d)
    = newM (x1 (ix2 r d)) (x2 (ix2 r d)) := by
  pointwise [k0_pay1]
  rfl

theorem pay2_val (r : Fin 176) (d : Fin 1024) : k0_pay2 (F := Ideal) x1 x3 (ix2 r d)
    = newV (x1 (ix2 r d)) (x3 (ix2 r d)) := by
  pointwise [k0_pay2]
  rfl

theorem pay3_val (r : Fin 176) (d : Fin 1024) : k0_pay3 (F := Ideal) x0 x1 x2 x3 (ix2 r d)
    = delta (x0 (ix2 r d)) (x1 (ix2 r d)) (x2 (ix2 r d)) (x3 (ix2 r d)) := by
  have hm := pay1_val x1 x2
  have hv := pay2_val x1 x3
  pointwise [k0_pay3]
  rw [hm, hv]
  rfl

end

variable (m : (ℓ : Loc nD τ sig) → Buf (Elt Ideal) ℓ) (c : Dev nD)

theorem in0 (t : Fin cfg0.N) (r : Fin 176) (d : Fin 1024) : iblk m c 0 t (ix2 r d) = m (c.tc.loc main_arg0) (ix2 (row t r) d) := by
  rw [blk0, V_main_arg0]
theorem in1 (t : Fin cfg0.N) (r : Fin 176) (d : Fin 1024) : iblk m c 1 t (ix2 r d) = m (c.tc.loc main_arg1) (ix2 (row t r) d) := by
  rw [blk1, V_main_arg1]
theorem in2 (t : Fin cfg0.N) (r : Fin 176) (d : Fin 1024) : iblk m c 2 t (ix2 r d) = m (c.tc.loc main_arg2) (ix2 (row t r) d) := by
  rw [blk2, V_main_arg2]
theorem in3 (t : Fin cfg0.N) (r : Fin 176) (d : Fin 1024) : iblk m c 3 t (ix2 r d) = m (c.tc.loc main_arg3) (ix2 (row t r) d) := by
  rw [blk3, V_main_arg3]

/-- Result 0. -/
theorem final4 : (dats m 0 c).arrAt 4 cfg0.N = gA (m (c.tc.loc main_arg1)) :=
  (dats m 0 c).arrAt_eq_of_cover 4 _
    (fun t hf => by
      rw [Value.flushed4, out4]
      funext j
      rw [View.read_apply]
      have e : (win0_4.blk t).view.emb j = ix2 (row t (j 0)) (j 1) := by
        funext a
        apply Fin.ext
        match a with
        | ⟨0, _⟩ => show win0_4.index t 0 * 176 + 1 * (j 0).val = 176 * t.val + (j 0).val; rw [(idx4 t).1]; omega
        | ⟨1, _⟩ => show win0_4.index t 1 * 1024 + 1 * (j 1).val = (j 1).val; rw [(idx4 t).2]; omega
      show iblk m c 1 t j = gA _ ((win0_4.blk t).view.emb j)
      rw [e]
      refine (congrArg _ (eta2 j)).trans ?_
      exact in1 m c t (j 0) (j 1))
    fun i => by
      have hN : cfg0.N = 4 := N_0
      have h0 : (i 0 : Nat) < 704 := (i 0).isLt
      have h1 : (i 1 : Nat) < 1024 := (i 1).isLt
      have hlt : (i 0).val / 176 < cfg0.N := by omega
      let t : Fin cfg0.N := ⟨(i 0).val / 176, hlt⟩
      have ht : t.val = (i 0).val / 176 := rfl
      refine ⟨t, flush0_4 _, ?_⟩
      show i ∈ ((View.whole main_v0_0).slice (win0_4.rect t)).set
      rw [View.set_slice_whole, Rect.mem_set_unit]
      intro a
      match a with
      | ⟨0, _⟩ =>
        show win0_4.index t 0 * 176 ≤ (i 0 : Nat) ∧ (i 0 : Nat) < win0_4.index t 0 * 176 + 176
        rw [(idx4 t).1, ht]; omega
      | ⟨1, _⟩ =>
        show win0_4.index t 1 * 1024 ≤ (i 1 : Nat) ∧ (i 1 : Nat) < win0_4.index t 1 * 1024 + 1024
        rw [(idx4 t).2]; omega

theorem at1 (t : Fin cfg0.N) (r : Fin 176) (d : Fin 1024) : k0_pay3 (F := Ideal) (iblk m c 0 t) (iblk m c 1 t) (iblk m c 2 t) (iblk m c 3 t) (ix2 r d)
    = dA (m (c.tc.loc main_arg0)) (m (c.tc.loc main_arg1)) (m (c.tc.loc main_arg2)) (m (c.tc.loc main_arg3)) (ix2 (row t r) d) := by
  rw [pay3_val, in0, in1, in2, in3]
  rfl

/-- Result 1. -/
theorem final5 : (dats m 0 c).arrAt 5 cfg0.N = dA (m (c.tc.loc main_arg0)) (m (c.tc.loc main_arg1)) (m (c.tc.loc main_arg2)) (m (c.tc.loc main_arg3)) :=
  (dats m 0 c).arrAt_eq_of_cover 5 _
    (fun t hf => by
      rw [Value.flushed5, out5]
      funext j
      rw [View.read_apply]
      have e : (win0_5.blk t).view.emb j = ix2 (row t (j 0)) (j 1) := by
        funext a
        apply Fin.ext
        match a with
        | ⟨0, _⟩ => show win0_5.index t 0 * 176 + 1 * (j 0).val = 176 * t.val + (j 0).val; rw [(idx5 t).1]; omega
        | ⟨1, _⟩ => show win0_5.index t 1 * 1024 + 1 * (j 1).val = (j 1).val; rw [(idx5 t).2]; omega
      show k0_pay3 (F := Ideal) (iblk m c 0 t) (iblk m c 1 t) (iblk m c 2 t) (iblk m c 3 t) j = dA (m (c.tc.loc main_arg0)) (m (c.tc.loc main_arg1)) (m (c.tc.loc main_arg2)) (m (c.tc.loc main_arg3)) ((win0_5.blk t).view.emb j)
      rw [e]
      refine (congrArg _ (eta2 j)).trans ?_
      exact at1 m c t (j 0) (j 1))
    fun i => by
      have hN : cfg0.N = 4 := N_0
      have h0 : (i 0 : Nat) < 704 := (i 0).isLt
      have h1 : (i 1 : Nat) < 1024 := (i 1).isLt
      have hlt : (i 0).val / 176 < cfg0.N := by omega
      let t : Fin cfg0.N := ⟨(i 0).val / 176, hlt⟩
      have ht : t.val = (i 0).val / 176 := rfl
      refine ⟨t, flush0_5 _, ?_⟩
      show i ∈ ((View.whole main_v0_1).slice (win0_5.rect t)).set
      rw [View.set_slice_whole, Rect.mem_set_unit]
      intro a
      match a with
      | ⟨0, _⟩ =>
        show win0_5.index t 0 * 176 ≤ (i 0 : Nat) ∧ (i 0 : Nat) < win0_5.index t 0 * 176 + 176
        rw [(idx5 t).1, ht]; omega
      | ⟨1, _⟩ =>
        show win0_5.index t 1 * 1024 ≤ (i 1 : Nat) ∧ (i 1 : Nat) < win0_5.index t 1 * 1024 + 1024
        rw [(idx5 t).2]; omega

theorem at2 (t : Fin cfg0.N) (r : Fin 176) (d : Fin 1024) : k0_pay1 (F := Ideal) (iblk m c 1 t) (iblk m c 2 t) (ix2 r d)
    = mA (m (c.tc.loc main_arg1)) (m (c.tc.loc main_arg2)) (ix2 (row t r) d) := by
  rw [pay1_val, in1, in2]
  rfl

/-- Result 2. -/
theorem final6 : (dats m 0 c).arrAt 6 cfg0.N = mA (m (c.tc.loc main_arg1)) (m (c.tc.loc main_arg2)) :=
  (dats m 0 c).arrAt_eq_of_cover 6 _
    (fun t hf => by
      rw [Value.flushed6, out6]
      funext j
      rw [View.read_apply]
      have e : (win0_6.blk t).view.emb j = ix2 (row t (j 0)) (j 1) := by
        funext a
        apply Fin.ext
        match a with
        | ⟨0, _⟩ => show win0_6.index t 0 * 176 + 1 * (j 0).val = 176 * t.val + (j 0).val; rw [(idx6 t).1]; omega
        | ⟨1, _⟩ => show win0_6.index t 1 * 1024 + 1 * (j 1).val = (j 1).val; rw [(idx6 t).2]; omega
      show k0_pay1 (F := Ideal) (iblk m c 1 t) (iblk m c 2 t) j = mA (m (c.tc.loc main_arg1)) (m (c.tc.loc main_arg2)) ((win0_6.blk t).view.emb j)
      rw [e]
      refine (congrArg _ (eta2 j)).trans ?_
      exact at2 m c t (j 0) (j 1))
    fun i => by
      have hN : cfg0.N = 4 := N_0
      have h0 : (i 0 : Nat) < 704 := (i 0).isLt
      have h1 : (i 1 : Nat) < 1024 := (i 1).isLt
      have hlt : (i 0).val / 176 < cfg0.N := by omega
      let t : Fin cfg0.N := ⟨(i 0).val / 176, hlt⟩
      have ht : t.val = (i 0).val / 176 := rfl
      refine ⟨t, flush0_6 _, ?_⟩
      show i ∈ ((View.whole main_v0_2).slice (win0_6.rect t)).set
      rw [View.set_slice_whole, Rect.mem_set_unit]
      intro a
      match a with
      | ⟨0, _⟩ =>
        show win0_6.index t 0 * 176 ≤ (i 0 : Nat) ∧ (i 0 : Nat) < win0_6.index t 0 * 176 + 176
        rw [(idx6 t).1, ht]; omega
      | ⟨1, _⟩ =>
        show win0_6.index t 1 * 1024 ≤ (i 1 : Nat) ∧ (i 1 : Nat) < win0_6.index t 1 * 1024 + 1024
        rw [(idx6 t).2]; omega

theorem at3 (t : Fin cfg0.N) (r : Fin 176) (d : Fin 1024) : k0_pay2 (F := Ideal) (iblk m c 1 t) (iblk m c 3 t) (ix2 r d)
    = vA (m (c.tc.loc main_arg1)) (m (c.tc.loc main_arg3)) (ix2 (row t r) d) := by
  rw [pay2_val, in1, in3]
  rfl

/-- Result 3. -/
theorem final7 : (dats m 0 c).arrAt 7 cfg0.N = vA (m (c.tc.loc main_arg1)) (m (c.tc.loc main_arg3)) :=
  (dats m 0 c).arrAt_eq_of_cover 7 _
    (fun t hf => by
      rw [Value.flushed7, out7]
      funext j
      rw [View.read_apply]
      have e : (win0_7.blk t).view.emb j = ix2 (row t (j 0)) (j 1) := by
        funext a
        apply Fin.ext
        match a with
        | ⟨0, _⟩ => show win0_7.index t 0 * 176 + 1 * (j 0).val = 176 * t.val + (j 0).val; rw [(idx7 t).1]; omega
        | ⟨1, _⟩ => show win0_7.index t 1 * 1024 + 1 * (j 1).val = (j 1).val; rw [(idx7 t).2]; omega
      show k0_pay2 (F := Ideal) (iblk m c 1 t) (iblk m c 3 t) j = vA (m (c.tc.loc main_arg1)) (m (c.tc.loc main_arg3)) ((win0_7.blk t).view.emb j)
      rw [e]
      refine (congrArg _ (eta2 j)).trans ?_
      exact at3 m c t (j 0) (j 1))
    fun i => by
      have hN : cfg0.N = 4 := N_0
      have h0 : (i 0 : Nat) < 704 := (i 0).isLt
      have h1 : (i 1 : Nat) < 1024 := (i 1).isLt
      have hlt : (i 0).val / 176 < cfg0.N := by omega
      let t : Fin cfg0.N := ⟨(i 0).val / 176, hlt⟩
      have ht : t.val = (i 0).val / 176 := rfl
      refine ⟨t, flush0_7 _, ?_⟩
      show i ∈ ((View.whole main_v0_3).slice (win0_7.rect t)).set
      rw [View.set_slice_whole, Rect.mem_set_unit]
      intro a
      match a with
      | ⟨0, _⟩ =>
        show win0_7.index t 0 * 176 ≤ (i 0 : Nat) ∧ (i 0 : Nat) < win0_7.index t 0 * 176 + 176
        rw [(idx7 t).1, ht]; omega
      | ⟨1, _⟩ =>
        show win0_7.index t 1 * 1024 ≤ (i 1 : Nat) ∧ (i 1 : Nat) < win0_7.index t 1 * 1024 + 1024
        rw [(idx7 t).2]; omega

/-! ## The reference -/

section
open Cert.Reference6Ideal.Read
variable (w g m v : Vec Ideal S704x1024 .f32)

theorem v4 (r : Fin 704) (d : Fin 1024) : val_main_v4 (F := Ideal) g m (ix2 r d)
    = newM (g (ix2 r d)) (m (ix2 r d)) := by
  pointwise [val_main_v4, val_main_v1, val_main_v3, val_main_v0, val_main_v2, val_main_cst, val_main_cst_0]
  rfl

theorem v10 (r : Fin 704) (d : Fin 1024) : val_main_v10 (F := Ideal) g v (ix2 r d)
    = newV (g (ix2 r d)) (v (ix2 r d)) := by
  pointwise [val_main_v10, val_main_v6, val_main_v9, val_main_v5, val_main_v8, val_main_v7, val_main_cst_1, val_main_cst_2]
  rfl

theorem v23 (r : Fin 704) (d : Fin 1024) : val_main_v23 (F := Ideal) w g m v (ix2 r d)
    = delta (w (ix2 r d)) (g (ix2 r d)) (m (ix2 r d)) (v (ix2 r d)) := by
  have hm := v4 g m
  have hv := v10 g v
  pointwise [val_main_v23, val_main_v22, val_main_v21, val_main_cst_7, val_main_v18, val_main_v20, val_main_v12, val_main_v17, val_main_v19, val_main_v11, val_main_v15, val_main_v16, val_main_cst_6, val_main_cst_3, val_main_v14, val_main_cst_5, val_main_v13, val_main_cst_4]
  rw [hm, hv]
  rfl

theorem ref1 : dA w g m v = val_main_v23 (F := Ideal) w g m v := by
  funext i
  rw [eta2 i]
  exact (v23 w g m v _ _).symm

theorem ref2 : mA g m = val_main_v4 (F := Ideal) g m := by
  funext i
  rw [eta2 i]
  exact (v4 g m _ _).symm

theorem ref3 : vA g v = val_main_v10 (F := Ideal) g v := by
  funext i
  rw [eta2 i]
  exact (v10 g v _ _).symm

end

/-- The kernel's call and the reference end with the same four arrays. -/
theorem algebraic : algebraic_Kernel6Ideal_Reference6Ideal (hKernel6Ideal := Cert.Kernel6Ideal.Gen.facts)
    (hReference6Ideal := Cert.Reference6Ideal.Gen.facts) := by
  intro m g m' g' _ hagree
  refine ⟨fun c => gA (m (c.tc.loc main_arg1)),
    fun c => dA (m (c.tc.loc main_arg0)) (m (c.tc.loc main_arg1)) (m (c.tc.loc main_arg2)) (m (c.tc.loc main_arg3)),
    fun c => mA (m (c.tc.loc main_arg1)) (m (c.tc.loc main_arg2)),
    fun c => vA (m (c.tc.loc main_arg1)) (m (c.tc.loc main_arg3)), ?_, ?_⟩
  · refine (θ_run Cert.Kernel6Ideal.defs _ _).mono (fun r h c => ?_) (Cert.Kernel6Ideal.Value.run_blocks m g)
    obtain ⟨h0, h1, h2, h3, hk⟩ := h c
    exact ⟨h0.trans (final4 m c), h1.trans (final5 m c), h2.trans (final6 m c), h3.trans (final7 m c), hk⟩
  · refine (θ_run Cert.Reference6Ideal.defs _ _).mono (fun r h c => ?_) (Cert.Reference6Ideal.Value.run m' g')
    obtain ⟨h0, h1, h2, h3, hk⟩ := h c
    obtain ⟨e0, e1, e2, e3⟩ := hagree c
    refine ⟨h0.trans e1,
      (h1.trans (Cert.Reference6Ideal.Read.val_main_v23_eq _ _ _ _)).trans ?_,
      (h2.trans (Cert.Reference6Ideal.Read.val_main_v4_eq _ _)).trans ?_,
      (h3.trans (Cert.Reference6Ideal.Read.val_main_v10_eq _ _)).trans ?_, hk⟩
    · show Cert.Reference6Ideal.Read.val_main_v23 (F := Ideal) (m' (c.tc.loc Cert.Reference6Ideal.main_arg0)) (m' (c.tc.loc Cert.Reference6Ideal.main_arg1)) (m' (c.tc.loc Cert.Reference6Ideal.main_arg2)) (m' (c.tc.loc Cert.Reference6Ideal.main_arg3)) = _
      rw [e0, e1, e2, e3]; exact (ref1 _ _ _ _).symm
    · show Cert.Reference6Ideal.Read.val_main_v4 (F := Ideal) (m' (c.tc.loc Cert.Reference6Ideal.main_arg1)) (m' (c.tc.loc Cert.Reference6Ideal.main_arg2)) = _
      rw [e1, e2]; exact (ref2 _ _).symm
    · show Cert.Reference6Ideal.Read.val_main_v10 (F := Ideal) (m' (c.tc.loc Cert.Reference6Ideal.main_arg1)) (m' (c.tc.loc Cert.Reference6Ideal.main_arg3)) = _
      rw [e1, e3]; exact (ref3 _ _).symm

end Cert.Kernel6Ideal.Step
end
-- ==== Proof.Step7.lean ====
module

public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Defs
public import proofs.«01_k».proof.Proof.Adam
public import Idealize.ShloMosaic.Lib.Pipeline.ValueKit.Acc
public import Idealize.ShloMosaic.Lib.Pipeline.ReadBack
public import Idealize.ShloMosaic.Lib.StableHlo.RunRead
public import Idealize.ShloMosaic.Lib.Claim

/-!
The AdamW step of the up projection: both programs do the same arithmetic on every weight by itself.
-/

@[expose] public section

set_option maxRecDepth 16384

noncomputable section
namespace Cert.Kernel7Ideal.Step
open Cert.Kernel7Ideal Cert.Kernel7Ideal.Gen Cert.Ext Cert.Adam Cert.Coe Idealize.ShloMosaic Idealize.ShloMosaic.TcCoe Idealize.SL.Sem

section
variable {F : FTy → Type} [FloatOps F] (m : (ℓ : Loc nD τ sig) → Buf (Elt F) ℓ) (c : Dev nD) (t : Fin cfg0.N)

/-! ## The blocks' places -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)

/-- Row `r` of the tile that point `t` handles. -/
def row (t : Fin cfg0.N) (r : Fin 128) : Fin 1024 :=
  ⟨128 * t.val + r.val, by have := r.isLt; have := t.isLt; have hN : cfg0.N = 8 := N_0; omega⟩

theorem blk0 (r : Fin 128) (d : Fin 1408) : iblk m c 0 t (ix2 r d) = V m c main_arg0 (ix2 (row t r) d) := by
  unfold iblk
  rw [View.read_apply]
  show V m c main_arg0 _ = V m c main_arg0 _
  congr 1
  funext a
  apply Fin.ext
  match a with
  | ⟨0, _⟩ => show win0_0.index t 0 * 128 + 1 * r.val = 128 * t.val + r.val; rw [(idx0 t).1]; omega
  | ⟨1, _⟩ => show win0_0.index t 1 * 1408 + 1 * d.val = d.val; rw [(idx0 t).2]; omega

theorem blk1 (r : Fin 128) (d : Fin 1408) : iblk m c 1 t (ix2 r d) = V m c main_arg1 (ix2 (row t r) d) := by
  unfold iblk
  rw [View.read_apply]
  show V m c main_arg1 _ = V m c main_arg1 _
  congr 1
  funext a
  apply Fin.ext
  match a with
  | ⟨0, _⟩ => show win0_1.index t 0 * 128 + 1 * r.val = 128 * t.val + r.val; rw [(idx1 t).1]; omega
  | ⟨1, _⟩ => show win0_1.index t 1 * 1408 + 1 * d.val = d.val; rw [(idx1 t).2]; omega

theorem blk2 (r : Fin 128) (d : Fin 1408) : iblk m c 2 t (ix2 r d) = V m c main_arg2 (ix2 (row t r) d) := by
  unfold iblk
  rw [View.read_apply]
  show V m c main_arg2 _ = V m c main_arg2 _
  congr 1
  funext a
  apply Fin.ext
  match a with
  | ⟨0, _⟩ => show win0_2.index t 0 * 128 + 1 * r.val = 128 * t.val + r.val; rw [(idx2 t).1]; omega
  | ⟨1, _⟩ => show win0_2.index t 1 * 1408 + 1 * d.val = d.val; rw [(idx2 t).2]; omega

theorem blk3 (r : Fin 128) (d : Fin 1408) : iblk m c 3 t (ix2 r d) = V m c main_arg3 (ix2 (row t r) d) := by
  unfold iblk
  rw [View.read_apply]
  show V m c main_arg3 _ = V m c main_arg3 _
  congr 1
  funext a
  apply Fin.ext
  match a with
  | ⟨0, _⟩ => show win0_3.index t 0 * 128 + 1 * r.val = 128 * t.val + r.val; rw [(idx3 t).1]; omega
  | ⟨1, _⟩ => show win0_3.index t 1 * 1408 + 1 * d.val = d.val; rw [(idx3 t).2]; omega

/-! ## What a point leaves -/

theorem out5 : out0_5 (iblk m c 0 t) (iblk m c 1 t) (iblk m c 2 t) (iblk m c 3 t) (iblk m c 4 t)
    = (iblk m c 1 t) := by
  frame_out
theorem out6 : out0_6 (iblk m c 0 t) (iblk m c 1 t) (iblk m c 2 t) (iblk m c 3 t) (iblk m c 4 t)
    = k0_pay3 (iblk m c 0 t) (iblk m c 1 t) (iblk m c 2 t) (iblk m c 3 t) := by
  frame_out
theorem out7 : out0_7 (iblk m c 0 t) (iblk m c 1 t) (iblk m c 2 t) (iblk m c 3 t) (iblk m c 4 t)
    = k0_pay1 (iblk m c 1 t) (iblk m c 2 t) := by
  frame_out
theorem out8 : out0_8 (iblk m c 0 t) (iblk m c 1 t) (iblk m c 2 t) (iblk m c 3 t) (iblk m c 4 t)
    = k0_pay2 (iblk m c 1 t) (iblk m c 3 t) := by
  frame_out
end

/-! ## The values -/

section
variable (w g m v : Vec Ideal S1024x1408 .f32)

/-- The gradient, as it came. -/
def gA : Vec Ideal S1024x1408 .f32 := fun i => g i
/-- The weights' changes. -/
def dA : Vec Ideal S1024x1408 .f32 := fun i => delta (w i) (g i) (m i) (v i)
/-- The first moments. -/
def mA : Vec Ideal S1024x1408 .f32 := fun i => newM (g i) (m i)
/-- The second moments. -/
def vA : Vec Ideal S1024x1408 .f32 := fun i => newV (g i) (v i)
end

section
variable (x0 x1 x2 x3 : Vec Ideal S128x1408 .f32)

theorem pay1_val (r : Fin 128) (d : Fin 1408) : k0_pay1 (F := Ideal) x1 x2 (ix2 r d)
    = newM (x1 (ix2 r d)) (x2 (ix2 r d)) := by
  pointwise [k0_pay1]
  rfl

theorem pay2_val (r : Fin 128) (d : Fin 1408) : k0_pay2 (F := Ideal) x1 x3 (ix2 r d)
    = newV (x1 (ix2 r d)) (x3 (ix2 r d)) := by
  pointwise [k0_pay2]
  rfl

theorem pay3_val (r : Fin 128) (d : Fin 1408) : k0_pay3 (F := Ideal) x0 x1 x2 x3 (ix2 r d)
    = delta (x0 (ix2 r d)) (x1 (ix2 r d)) (x2 (ix2 r d)) (x3 (ix2 r d)) := by
  have hm := pay1_val x1 x2
  have hv := pay2_val x1 x3
  pointwise [k0_pay3]
  rw [hm, hv]
  rfl

end

variable (m : (ℓ : Loc nD τ sig) → Buf (Elt Ideal) ℓ) (c : Dev nD)

theorem in0 (t : Fin cfg0.N) (r : Fin 128) (d : Fin 1408) : iblk m c 0 t (ix2 r d) = m (c.tc.loc main_arg0) (ix2 (row t r) d) := by
  rw [blk0, V_main_arg0]
theorem in1 (t : Fin cfg0.N) (r : Fin 128) (d : Fin 1408) : iblk m c 1 t (ix2 r d) = m (c.tc.loc main_arg1) (ix2 (row t r) d) := by
  rw [blk1, V_main_arg1]
theorem in2 (t : Fin cfg0.N) (r : Fin 128) (d : Fin 1408) : iblk m c 2 t (ix2 r d) = m (c.tc.loc main_arg2) (ix2 (row t r) d) := by
  rw [blk2, V_main_arg2]
theorem in3 (t : Fin cfg0.N) (r : Fin 128) (d : Fin 1408) : iblk m c 3 t (ix2 r d) = m (c.tc.loc main_arg3) (ix2 (row t r) d) := by
  rw [blk3, V_main_arg3]

/-- Result 0. -/
theorem final5 : (dats m 0 c).arrAt 5 cfg0.N = gA (m (c.tc.loc main_arg1)) :=
  (dats m 0 c).arrAt_eq_of_cover 5 _
    (fun t hf => by
      rw [Value.flushed5, out5]
      funext j
      rw [View.read_apply]
      have e : (win0_5.blk t).view.emb j = ix2 (row t (j 0)) (j 1) := by
        funext a
        apply Fin.ext
        match a with
        | ⟨0, _⟩ => show win0_5.index t 0 * 128 + 1 * (j 0).val = 128 * t.val + (j 0).val; rw [(idx5 t).1]; omega
        | ⟨1, _⟩ => show win0_5.index t 1 * 1408 + 1 * (j 1).val = (j 1).val; rw [(idx5 t).2]; omega
      show iblk m c 1 t j = gA _ ((win0_5.blk t).view.emb j)
      rw [e]
      refine (congrArg _ (eta2 j)).trans ?_
      exact in1 m c t (j 0) (j 1))
    fun i => by
      have hN : cfg0.N = 8 := N_0
      have h0 : (i 0 : Nat) < 1024 := (i 0).isLt
      have h1 : (i 1 : Nat) < 1408 := (i 1).isLt
      have hlt : (i 0).val / 128 < cfg0.N := by omega
      let t : Fin cfg0.N := ⟨(i 0).val / 128, hlt⟩
      have ht : t.val = (i 0).val / 128 := rfl
      refine ⟨t, flush0_5 _, ?_⟩
      show i ∈ ((View.whole main_v0_0).slice (win0_5.rect t)).set
      rw [View.set_slice_whole, Rect.mem_set_unit]
      intro a
      match a with
      | ⟨0, _⟩ =>
        show win0_5.index t 0 * 128 ≤ (i 0 : Nat) ∧ (i 0 : Nat) < win0_5.index t 0 * 128 + 128
        rw [(idx5 t).1, ht]; omega
      | ⟨1, _⟩ =>
        show win0_5.index t 1 * 1408 ≤ (i 1 : Nat) ∧ (i 1 : Nat) < win0_5.index t 1 * 1408 + 1408
        rw [(idx5 t).2]; omega

theorem at1 (t : Fin cfg0.N) (r : Fin 128) (d : Fin 1408) : k0_pay3 (F := Ideal) (iblk m c 0 t) (iblk m c 1 t) (iblk m c 2 t) (iblk m c 3 t) (ix2 r d)
    = dA (m (c.tc.loc main_arg0)) (m (c.tc.loc main_arg1)) (m (c.tc.loc main_arg2)) (m (c.tc.loc main_arg3)) (ix2 (row t r) d) := by
  rw [pay3_val, in0, in1, in2, in3]
  rfl

/-- Result 1. -/
theorem final6 : (dats m 0 c).arrAt 6 cfg0.N = dA (m (c.tc.loc main_arg0)) (m (c.tc.loc main_arg1)) (m (c.tc.loc main_arg2)) (m (c.tc.loc main_arg3)) :=
  (dats m 0 c).arrAt_eq_of_cover 6 _
    (fun t hf => by
      rw [Value.flushed6, out6]
      funext j
      rw [View.read_apply]
      have e : (win0_6.blk t).view.emb j = ix2 (row t (j 0)) (j 1) := by
        funext a
        apply Fin.ext
        match a with
        | ⟨0, _⟩ => show win0_6.index t 0 * 128 + 1 * (j 0).val = 128 * t.val + (j 0).val; rw [(idx6 t).1]; omega
        | ⟨1, _⟩ => show win0_6.index t 1 * 1408 + 1 * (j 1).val = (j 1).val; rw [(idx6 t).2]; omega
      show k0_pay3 (F := Ideal) (iblk m c 0 t) (iblk m c 1 t) (iblk m c 2 t) (iblk m c 3 t) j = dA (m (c.tc.loc main_arg0)) (m (c.tc.loc main_arg1)) (m (c.tc.loc main_arg2)) (m (c.tc.loc main_arg3)) ((win0_6.blk t).view.emb j)
      rw [e]
      refine (congrArg _ (eta2 j)).trans ?_
      exact at1 m c t (j 0) (j 1))
    fun i => by
      have hN : cfg0.N = 8 := N_0
      have h0 : (i 0 : Nat) < 1024 := (i 0).isLt
      have h1 : (i 1 : Nat) < 1408 := (i 1).isLt
      have hlt : (i 0).val / 128 < cfg0.N := by omega
      let t : Fin cfg0.N := ⟨(i 0).val / 128, hlt⟩
      have ht : t.val = (i 0).val / 128 := rfl
      refine ⟨t, flush0_6 _, ?_⟩
      show i ∈ ((View.whole main_v0_1).slice (win0_6.rect t)).set
      rw [View.set_slice_whole, Rect.mem_set_unit]
      intro a
      match a with
      | ⟨0, _⟩ =>
        show win0_6.index t 0 * 128 ≤ (i 0 : Nat) ∧ (i 0 : Nat) < win0_6.index t 0 * 128 + 128
        rw [(idx6 t).1, ht]; omega
      | ⟨1, _⟩ =>
        show win0_6.index t 1 * 1408 ≤ (i 1 : Nat) ∧ (i 1 : Nat) < win0_6.index t 1 * 1408 + 1408
        rw [(idx6 t).2]; omega

theorem at2 (t : Fin cfg0.N) (r : Fin 128) (d : Fin 1408) : k0_pay1 (F := Ideal) (iblk m c 1 t) (iblk m c 2 t) (ix2 r d)
    = mA (m (c.tc.loc main_arg1)) (m (c.tc.loc main_arg2)) (ix2 (row t r) d) := by
  rw [pay1_val, in1, in2]
  rfl

/-- Result 2. -/
theorem final7 : (dats m 0 c).arrAt 7 cfg0.N = mA (m (c.tc.loc main_arg1)) (m (c.tc.loc main_arg2)) :=
  (dats m 0 c).arrAt_eq_of_cover 7 _
    (fun t hf => by
      rw [Value.flushed7, out7]
      funext j
      rw [View.read_apply]
      have e : (win0_7.blk t).view.emb j = ix2 (row t (j 0)) (j 1) := by
        funext a
        apply Fin.ext
        match a with
        | ⟨0, _⟩ => show win0_7.index t 0 * 128 + 1 * (j 0).val = 128 * t.val + (j 0).val; rw [(idx7 t).1]; omega
        | ⟨1, _⟩ => show win0_7.index t 1 * 1408 + 1 * (j 1).val = (j 1).val; rw [(idx7 t).2]; omega
      show k0_pay1 (F := Ideal) (iblk m c 1 t) (iblk m c 2 t) j = mA (m (c.tc.loc main_arg1)) (m (c.tc.loc main_arg2)) ((win0_7.blk t).view.emb j)
      rw [e]
      refine (congrArg _ (eta2 j)).trans ?_
      exact at2 m c t (j 0) (j 1))
    fun i => by
      have hN : cfg0.N = 8 := N_0
      have h0 : (i 0 : Nat) < 1024 := (i 0).isLt
      have h1 : (i 1 : Nat) < 1408 := (i 1).isLt
      have hlt : (i 0).val / 128 < cfg0.N := by omega
      let t : Fin cfg0.N := ⟨(i 0).val / 128, hlt⟩
      have ht : t.val = (i 0).val / 128 := rfl
      refine ⟨t, flush0_7 _, ?_⟩
      show i ∈ ((View.whole main_v0_2).slice (win0_7.rect t)).set
      rw [View.set_slice_whole, Rect.mem_set_unit]
      intro a
      match a with
      | ⟨0, _⟩ =>
        show win0_7.index t 0 * 128 ≤ (i 0 : Nat) ∧ (i 0 : Nat) < win0_7.index t 0 * 128 + 128
        rw [(idx7 t).1, ht]; omega
      | ⟨1, _⟩ =>
        show win0_7.index t 1 * 1408 ≤ (i 1 : Nat) ∧ (i 1 : Nat) < win0_7.index t 1 * 1408 + 1408
        rw [(idx7 t).2]; omega

theorem at3 (t : Fin cfg0.N) (r : Fin 128) (d : Fin 1408) : k0_pay2 (F := Ideal) (iblk m c 1 t) (iblk m c 3 t) (ix2 r d)
    = vA (m (c.tc.loc main_arg1)) (m (c.tc.loc main_arg3)) (ix2 (row t r) d) := by
  rw [pay2_val, in1, in3]
  rfl

/-- Result 3. -/
theorem final8 : (dats m 0 c).arrAt 8 cfg0.N = vA (m (c.tc.loc main_arg1)) (m (c.tc.loc main_arg3)) :=
  (dats m 0 c).arrAt_eq_of_cover 8 _
    (fun t hf => by
      rw [Value.flushed8, out8]
      funext j
      rw [View.read_apply]
      have e : (win0_8.blk t).view.emb j = ix2 (row t (j 0)) (j 1) := by
        funext a
        apply Fin.ext
        match a with
        | ⟨0, _⟩ => show win0_8.index t 0 * 128 + 1 * (j 0).val = 128 * t.val + (j 0).val; rw [(idx8 t).1]; omega
        | ⟨1, _⟩ => show win0_8.index t 1 * 1408 + 1 * (j 1).val = (j 1).val; rw [(idx8 t).2]; omega
      show k0_pay2 (F := Ideal) (iblk m c 1 t) (iblk m c 3 t) j = vA (m (c.tc.loc main_arg1)) (m (c.tc.loc main_arg3)) ((win0_8.blk t).view.emb j)
      rw [e]
      refine (congrArg _ (eta2 j)).trans ?_
      exact at3 m c t (j 0) (j 1))
    fun i => by
      have hN : cfg0.N = 8 := N_0
      have h0 : (i 0 : Nat) < 1024 := (i 0).isLt
      have h1 : (i 1 : Nat) < 1408 := (i 1).isLt
      have hlt : (i 0).val / 128 < cfg0.N := by omega
      let t : Fin cfg0.N := ⟨(i 0).val / 128, hlt⟩
      have ht : t.val = (i 0).val / 128 := rfl
      refine ⟨t, flush0_8 _, ?_⟩
      show i ∈ ((View.whole main_v0_3).slice (win0_8.rect t)).set
      rw [View.set_slice_whole, Rect.mem_set_unit]
      intro a
      match a with
      | ⟨0, _⟩ =>
        show win0_8.index t 0 * 128 ≤ (i 0 : Nat) ∧ (i 0 : Nat) < win0_8.index t 0 * 128 + 128
        rw [(idx8 t).1, ht]; omega
      | ⟨1, _⟩ =>
        show win0_8.index t 1 * 1408 ≤ (i 1 : Nat) ∧ (i 1 : Nat) < win0_8.index t 1 * 1408 + 1408
        rw [(idx8 t).2]; omega

/-! ## The reference -/

section
open Cert.Reference7Ideal.Read
variable (w g m v : Vec Ideal S1024x1408 .f32)

theorem v4 (r : Fin 1024) (d : Fin 1408) : val_main_v4 (F := Ideal) g m (ix2 r d)
    = newM (g (ix2 r d)) (m (ix2 r d)) := by
  pointwise [val_main_v4, val_main_v1, val_main_v3, val_main_v0, val_main_v2, val_main_cst, val_main_cst_0]
  rfl

theorem v10 (r : Fin 1024) (d : Fin 1408) : val_main_v10 (F := Ideal) g v (ix2 r d)
    = newV (g (ix2 r d)) (v (ix2 r d)) := by
  pointwise [val_main_v10, val_main_v6, val_main_v9, val_main_v5, val_main_v8, val_main_v7, val_main_cst_1, val_main_cst_2]
  rfl

theorem v23 (r : Fin 1024) (d : Fin 1408) : val_main_v23 (F := Ideal) w g m v (ix2 r d)
    = delta (w (ix2 r d)) (g (ix2 r d)) (m (ix2 r d)) (v (ix2 r d)) := by
  have hm := v4 g m
  have hv := v10 g v
  pointwise [val_main_v23, val_main_v22, val_main_v21, val_main_cst_7, val_main_v18, val_main_v20, val_main_v12, val_main_v17, val_main_v19, val_main_v11, val_main_v15, val_main_v16, val_main_cst_6, val_main_cst_3, val_main_v14, val_main_cst_5, val_main_v13, val_main_cst_4]
  rw [hm, hv]
  rfl

theorem ref1 : dA w g m v = val_main_v23 (F := Ideal) w g m v := by
  funext i
  rw [eta2 i]
  exact (v23 w g m v _ _).symm

theorem ref2 : mA g m = val_main_v4 (F := Ideal) g m := by
  funext i
  rw [eta2 i]
  exact (v4 g m _ _).symm

theorem ref3 : vA g v = val_main_v10 (F := Ideal) g v := by
  funext i
  rw [eta2 i]
  exact (v10 g v _ _).symm

end

/-- The kernel's call and the reference end with the same four arrays. -/
theorem algebraic : algebraic_Kernel7Ideal_Reference7Ideal (hKernel7Ideal := Cert.Kernel7Ideal.Gen.facts)
    (hReference7Ideal := Cert.Reference7Ideal.Gen.facts) := by
  intro m g m' g' _ hagree
  refine ⟨fun c => gA (m (c.tc.loc main_arg1)),
    fun c => dA (m (c.tc.loc main_arg0)) (m (c.tc.loc main_arg1)) (m (c.tc.loc main_arg2)) (m (c.tc.loc main_arg3)),
    fun c => mA (m (c.tc.loc main_arg1)) (m (c.tc.loc main_arg2)),
    fun c => vA (m (c.tc.loc main_arg1)) (m (c.tc.loc main_arg3)), ?_, ?_⟩
  · refine (θ_run Cert.Kernel7Ideal.defs _ _).mono (fun r h c => ?_) (Cert.Kernel7Ideal.Value.run_blocks m g)
    obtain ⟨h0, h1, h2, h3, hk⟩ := h c
    exact ⟨h0.trans (final5 m c), h1.trans (final6 m c), h2.trans (final7 m c), h3.trans (final8 m c), hk⟩
  · refine (θ_run Cert.Reference7Ideal.defs _ _).mono (fun r h c => ?_) (Cert.Reference7Ideal.Value.run m' g')
    obtain ⟨h0, h1, h2, h3, hk⟩ := h c
    obtain ⟨e0, e1, e2, e3, e4⟩ := hagree c
    refine ⟨h0.trans e1,
      (h1.trans (Cert.Reference7Ideal.Read.val_main_v23_eq _ _ _ _)).trans ?_,
      (h2.trans (Cert.Reference7Ideal.Read.val_main_v4_eq _ _)).trans ?_,
      (h3.trans (Cert.Reference7Ideal.Read.val_main_v10_eq _ _)).trans ?_, hk⟩
    · show Cert.Reference7Ideal.Read.val_main_v23 (F := Ideal) (m' (c.tc.loc Cert.Reference7Ideal.main_arg0)) (m' (c.tc.loc Cert.Reference7Ideal.main_arg1)) (m' (c.tc.loc Cert.Reference7Ideal.main_arg2)) (m' (c.tc.loc Cert.Reference7Ideal.main_arg3)) = _
      rw [e0, e1, e2, e3]; exact (ref1 _ _ _ _).symm
    · show Cert.Reference7Ideal.Read.val_main_v4 (F := Ideal) (m' (c.tc.loc Cert.Reference7Ideal.main_arg1)) (m' (c.tc.loc Cert.Reference7Ideal.main_arg2)) = _
      rw [e1, e2]; exact (ref2 _ _).symm
    · show Cert.Reference7Ideal.Read.val_main_v10 (F := Ideal) (m' (c.tc.loc Cert.Reference7Ideal.main_arg1)) (m' (c.tc.loc Cert.Reference7Ideal.main_arg3)) = _
      rw [e1, e3]; exact (ref3 _ _).symm

end Cert.Kernel7Ideal.Step
end
-- ==== Proof.Step8.lean ====
module

public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Defs
public import proofs.«01_k».proof.Proof.Adam
public import Idealize.ShloMosaic.Lib.Pipeline.ValueKit.Acc
public import Idealize.ShloMosaic.Lib.Pipeline.ReadBack
public import Idealize.ShloMosaic.Lib.StableHlo.RunRead
public import Idealize.ShloMosaic.Lib.Claim

/-!
The AdamW step of the output projection: both programs do the same arithmetic on every weight by itself.
-/

@[expose] public section

set_option maxRecDepth 16384

noncomputable section
namespace Cert.Kernel8Ideal.Step
open Cert.Kernel8Ideal Cert.Kernel8Ideal.Gen Cert.Ext Cert.Adam Cert.Coe Idealize.ShloMosaic Idealize.ShloMosaic.TcCoe Idealize.SL.Sem

section
variable {F : FTy → Type} [FloatOps F] (m : (ℓ : Loc nD τ sig) → Buf (Elt F) ℓ) (c : Dev nD) (t : Fin cfg0.N)

/-! ## The blocks' places -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)

/-- Row `r` of the tile that point `t` handles. -/
def row (t : Fin cfg0.N) (r : Fin 256) : Fin 256 :=
  ⟨256 * t.val + r.val, by have := r.isLt; have := t.isLt; have hN : cfg0.N = 1 := N_0; omega⟩

theorem blk0 (r : Fin 256) (d : Fin 1024) : iblk m c 0 t (ix2 r d) = V m c main_arg0 (ix2 (row t r) d) := by
  unfold iblk
  rw [View.read_apply]
  show V m c main_arg0 _ = V m c main_arg0 _
  congr 1
  funext a
  apply Fin.ext
  match a with
  | ⟨0, _⟩ => show win0_0.index t 0 * 256 + 1 * r.val = 256 * t.val + r.val; rw [(idx0 t).1]; omega
  | ⟨1, _⟩ => show win0_0.index t 1 * 1024 + 1 * d.val = d.val; rw [(idx0 t).2]; omega

theorem blk1 (r : Fin 256) (d : Fin 1024) : iblk m c 1 t (ix2 r d) = V m c main_arg1 (ix2 (row t r) d) := by
  unfold iblk
  rw [View.read_apply]
  show V m c main_arg1 _ = V m c main_arg1 _
  congr 1
  funext a
  apply Fin.ext
  match a with
  | ⟨0, _⟩ => show win0_1.index t 0 * 256 + 1 * r.val = 256 * t.val + r.val; rw [(idx1 t).1]; omega
  | ⟨1, _⟩ => show win0_1.index t 1 * 1024 + 1 * d.val = d.val; rw [(idx1 t).2]; omega

theorem blk2 (r : Fin 256) (d : Fin 1024) : iblk m c 2 t (ix2 r d) = V m c main_arg2 (ix2 (row t r) d) := by
  unfold iblk
  rw [View.read_apply]
  show V m c main_arg2 _ = V m c main_arg2 _
  congr 1
  funext a
  apply Fin.ext
  match a with
  | ⟨0, _⟩ => show win0_2.index t 0 * 256 + 1 * r.val = 256 * t.val + r.val; rw [(idx2 t).1]; omega
  | ⟨1, _⟩ => show win0_2.index t 1 * 1024 + 1 * d.val = d.val; rw [(idx2 t).2]; omega

theorem blk3 (r : Fin 256) (d : Fin 1024) : iblk m c 3 t (ix2 r d) = V m c main_arg3 (ix2 (row t r) d) := by
  unfold iblk
  rw [View.read_apply]
  show V m c main_arg3 _ = V m c main_arg3 _
  congr 1
  funext a
  apply Fin.ext
  match a with
  | ⟨0, _⟩ => show win0_3.index t 0 * 256 + 1 * r.val = 256 * t.val + r.val; rw [(idx3 t).1]; omega
  | ⟨1, _⟩ => show win0_3.index t 1 * 1024 + 1 * d.val = d.val; rw [(idx3 t).2]; omega

/-! ## What a point leaves -/

theorem out5 : out0_5 (iblk m c 0 t) (iblk m c 1 t) (iblk m c 2 t) (iblk m c 3 t) (iblk m c 4 t)
    = (iblk m c 1 t) := by
  frame_out
theorem out6 : out0_6 (iblk m c 0 t) (iblk m c 1 t) (iblk m c 2 t) (iblk m c 3 t) (iblk m c 4 t)
    = k0_pay3 (iblk m c 0 t) (iblk m c 1 t) (iblk m c 2 t) (iblk m c 3 t) := by
  frame_out
theorem out7 : out0_7 (iblk m c 0 t) (iblk m c 1 t) (iblk m c 2 t) (iblk m c 3 t) (iblk m c 4 t)
    = k0_pay1 (iblk m c 1 t) (iblk m c 2 t) := by
  frame_out
theorem out8 : out0_8 (iblk m c 0 t) (iblk m c 1 t) (iblk m c 2 t) (iblk m c 3 t) (iblk m c 4 t)
    = k0_pay2 (iblk m c 1 t) (iblk m c 3 t) := by
  frame_out
end

/-! ## The values -/

section
variable (w g m v : Vec Ideal S256x1024 .f32)

/-- The gradient, as it came. -/
def gA : Vec Ideal S256x1024 .f32 := fun i => g i
/-- The weights' changes. -/
def dA : Vec Ideal S256x1024 .f32 := fun i => delta (w i) (g i) (m i) (v i)
/-- The first moments. -/
def mA : Vec Ideal S256x1024 .f32 := fun i => newM (g i) (m i)
/-- The second moments. -/
def vA : Vec Ideal S256x1024 .f32 := fun i => newV (g i) (v i)
end

section
variable (x0 x1 x2 x3 : Vec Ideal S256x1024 .f32)

theorem pay1_val (r : Fin 256) (d : Fin 1024) : k0_pay1 (F := Ideal) x1 x2 (ix2 r d)
    = newM (x1 (ix2 r d)) (x2 (ix2 r d)) := by
  pointwise [k0_pay1]
  rfl

theorem pay2_val (r : Fin 256) (d : Fin 1024) : k0_pay2 (F := Ideal) x1 x3 (ix2 r d)
    = newV (x1 (ix2 r d)) (x3 (ix2 r d)) := by
  pointwise [k0_pay2]
  rfl

theorem pay3_val (r : Fin 256) (d : Fin 1024) : k0_pay3 (F := Ideal) x0 x1 x2 x3 (ix2 r d)
    = delta (x0 (ix2 r d)) (x1 (ix2 r d)) (x2 (ix2 r d)) (x3 (ix2 r d)) := by
  have hm := pay1_val x1 x2
  have hv := pay2_val x1 x3
  pointwise [k0_pay3]
  rw [hm, hv]
  rfl

end

variable (m : (ℓ : Loc nD τ sig) → Buf (Elt Ideal) ℓ) (c : Dev nD)

theorem in0 (t : Fin cfg0.N) (r : Fin 256) (d : Fin 1024) : iblk m c 0 t (ix2 r d) = m (c.tc.loc main_arg0) (ix2 (row t r) d) := by
  rw [blk0, V_main_arg0]
theorem in1 (t : Fin cfg0.N) (r : Fin 256) (d : Fin 1024) : iblk m c 1 t (ix2 r d) = m (c.tc.loc main_arg1) (ix2 (row t r) d) := by
  rw [blk1, V_main_arg1]
theorem in2 (t : Fin cfg0.N) (r : Fin 256) (d : Fin 1024) : iblk m c 2 t (ix2 r d) = m (c.tc.loc main_arg2) (ix2 (row t r) d) := by
  rw [blk2, V_main_arg2]
theorem in3 (t : Fin cfg0.N) (r : Fin 256) (d : Fin 1024) : iblk m c 3 t (ix2 r d) = m (c.tc.loc main_arg3) (ix2 (row t r) d) := by
  rw [blk3, V_main_arg3]

/-- Result 0. -/
theorem final5 : (dats m 0 c).arrAt 5 cfg0.N = gA (m (c.tc.loc main_arg1)) :=
  (dats m 0 c).arrAt_eq_of_cover 5 _
    (fun t hf => by
      rw [Value.flushed5, out5]
      funext j
      rw [View.read_apply]
      have e : (win0_5.blk t).view.emb j = ix2 (row t (j 0)) (j 1) := by
        funext a
        apply Fin.ext
        match a with
        | ⟨0, _⟩ => show win0_5.index t 0 * 256 + 1 * (j 0).val = 256 * t.val + (j 0).val; rw [(idx5 t).1]; omega
        | ⟨1, _⟩ => show win0_5.index t 1 * 1024 + 1 * (j 1).val = (j 1).val; rw [(idx5 t).2]; omega
      show iblk m c 1 t j = gA _ ((win0_5.blk t).view.emb j)
      rw [e]
      refine (congrArg _ (eta2 j)).trans ?_
      exact in1 m c t (j 0) (j 1))
    fun i => by
      have hN : cfg0.N = 1 := N_0
      have h0 : (i 0 : Nat) < 256 := (i 0).isLt
      have h1 : (i 1 : Nat) < 1024 := (i 1).isLt
      have hlt : (i 0).val / 256 < cfg0.N := by omega
      let t : Fin cfg0.N := ⟨(i 0).val / 256, hlt⟩
      have ht : t.val = (i 0).val / 256 := rfl
      refine ⟨t, flush0_5 _, ?_⟩
      show i ∈ ((View.whole main_v0_0).slice (win0_5.rect t)).set
      rw [View.set_slice_whole, Rect.mem_set_unit]
      intro a
      match a with
      | ⟨0, _⟩ =>
        show win0_5.index t 0 * 256 ≤ (i 0 : Nat) ∧ (i 0 : Nat) < win0_5.index t 0 * 256 + 256
        rw [(idx5 t).1, ht]; omega
      | ⟨1, _⟩ =>
        show win0_5.index t 1 * 1024 ≤ (i 1 : Nat) ∧ (i 1 : Nat) < win0_5.index t 1 * 1024 + 1024
        rw [(idx5 t).2]; omega

theorem at1 (t : Fin cfg0.N) (r : Fin 256) (d : Fin 1024) : k0_pay3 (F := Ideal) (iblk m c 0 t) (iblk m c 1 t) (iblk m c 2 t) (iblk m c 3 t) (ix2 r d)
    = dA (m (c.tc.loc main_arg0)) (m (c.tc.loc main_arg1)) (m (c.tc.loc main_arg2)) (m (c.tc.loc main_arg3)) (ix2 (row t r) d) := by
  rw [pay3_val, in0, in1, in2, in3]
  rfl

/-- Result 1. -/
theorem final6 : (dats m 0 c).arrAt 6 cfg0.N = dA (m (c.tc.loc main_arg0)) (m (c.tc.loc main_arg1)) (m (c.tc.loc main_arg2)) (m (c.tc.loc main_arg3)) :=
  (dats m 0 c).arrAt_eq_of_cover 6 _
    (fun t hf => by
      rw [Value.flushed6, out6]
      funext j
      rw [View.read_apply]
      have e : (win0_6.blk t).view.emb j = ix2 (row t (j 0)) (j 1) := by
        funext a
        apply Fin.ext
        match a with
        | ⟨0, _⟩ => show win0_6.index t 0 * 256 + 1 * (j 0).val = 256 * t.val + (j 0).val; rw [(idx6 t).1]; omega
        | ⟨1, _⟩ => show win0_6.index t 1 * 1024 + 1 * (j 1).val = (j 1).val; rw [(idx6 t).2]; omega
      show k0_pay3 (F := Ideal) (iblk m c 0 t) (iblk m c 1 t) (iblk m c 2 t) (iblk m c 3 t) j = dA (m (c.tc.loc main_arg0)) (m (c.tc.loc main_arg1)) (m (c.tc.loc main_arg2)) (m (c.tc.loc main_arg3)) ((win0_6.blk t).view.emb j)
      rw [e]
      refine (congrArg _ (eta2 j)).trans ?_
      exact at1 m c t (j 0) (j 1))
    fun i => by
      have hN : cfg0.N = 1 := N_0
      have h0 : (i 0 : Nat) < 256 := (i 0).isLt
      have h1 : (i 1 : Nat) < 1024 := (i 1).isLt
      have hlt : (i 0).val / 256 < cfg0.N := by omega
      let t : Fin cfg0.N := ⟨(i 0).val / 256, hlt⟩
      have ht : t.val = (i 0).val / 256 := rfl
      refine ⟨t, flush0_6 _, ?_⟩
      show i ∈ ((View.whole main_v0_1).slice (win0_6.rect t)).set
      rw [View.set_slice_whole, Rect.mem_set_unit]
      intro a
      match a with
      | ⟨0, _⟩ =>
        show win0_6.index t 0 * 256 ≤ (i 0 : Nat) ∧ (i 0 : Nat) < win0_6.index t 0 * 256 + 256
        rw [(idx6 t).1, ht]; omega
      | ⟨1, _⟩ =>
        show win0_6.index t 1 * 1024 ≤ (i 1 : Nat) ∧ (i 1 : Nat) < win0_6.index t 1 * 1024 + 1024
        rw [(idx6 t).2]; omega

theorem at2 (t : Fin cfg0.N) (r : Fin 256) (d : Fin 1024) : k0_pay1 (F := Ideal) (iblk m c 1 t) (iblk m c 2 t) (ix2 r d)
    = mA (m (c.tc.loc main_arg1)) (m (c.tc.loc main_arg2)) (ix2 (row t r) d) := by
  rw [pay1_val, in1, in2]
  rfl

/-- Result 2. -/
theorem final7 : (dats m 0 c).arrAt 7 cfg0.N = mA (m (c.tc.loc main_arg1)) (m (c.tc.loc main_arg2)) :=
  (dats m 0 c).arrAt_eq_of_cover 7 _
    (fun t hf => by
      rw [Value.flushed7, out7]
      funext j
      rw [View.read_apply]
      have e : (win0_7.blk t).view.emb j = ix2 (row t (j 0)) (j 1) := by
        funext a
        apply Fin.ext
        match a with
        | ⟨0, _⟩ => show win0_7.index t 0 * 256 + 1 * (j 0).val = 256 * t.val + (j 0).val; rw [(idx7 t).1]; omega
        | ⟨1, _⟩ => show win0_7.index t 1 * 1024 + 1 * (j 1).val = (j 1).val; rw [(idx7 t).2]; omega
      show k0_pay1 (F := Ideal) (iblk m c 1 t) (iblk m c 2 t) j = mA (m (c.tc.loc main_arg1)) (m (c.tc.loc main_arg2)) ((win0_7.blk t).view.emb j)
      rw [e]
      refine (congrArg _ (eta2 j)).trans ?_
      exact at2 m c t (j 0) (j 1))
    fun i => by
      have hN : cfg0.N = 1 := N_0
      have h0 : (i 0 : Nat) < 256 := (i 0).isLt
      have h1 : (i 1 : Nat) < 1024 := (i 1).isLt
      have hlt : (i 0).val / 256 < cfg0.N := by omega
      let t : Fin cfg0.N := ⟨(i 0).val / 256, hlt⟩
      have ht : t.val = (i 0).val / 256 := rfl
      refine ⟨t, flush0_7 _, ?_⟩
      show i ∈ ((View.whole main_v0_2).slice (win0_7.rect t)).set
      rw [View.set_slice_whole, Rect.mem_set_unit]
      intro a
      match a with
      | ⟨0, _⟩ =>
        show win0_7.index t 0 * 256 ≤ (i 0 : Nat) ∧ (i 0 : Nat) < win0_7.index t 0 * 256 + 256
        rw [(idx7 t).1, ht]; omega
      | ⟨1, _⟩ =>
        show win0_7.index t 1 * 1024 ≤ (i 1 : Nat) ∧ (i 1 : Nat) < win0_7.index t 1 * 1024 + 1024
        rw [(idx7 t).2]; omega

theorem at3 (t : Fin cfg0.N) (r : Fin 256) (d : Fin 1024) : k0_pay2 (F := Ideal) (iblk m c 1 t) (iblk m c 3 t) (ix2 r d)
    = vA (m (c.tc.loc main_arg1)) (m (c.tc.loc main_arg3)) (ix2 (row t r) d) := by
  rw [pay2_val, in1, in3]
  rfl

/-- Result 3. -/
theorem final8 : (dats m 0 c).arrAt 8 cfg0.N = vA (m (c.tc.loc main_arg1)) (m (c.tc.loc main_arg3)) :=
  (dats m 0 c).arrAt_eq_of_cover 8 _
    (fun t hf => by
      rw [Value.flushed8, out8]
      funext j
      rw [View.read_apply]
      have e : (win0_8.blk t).view.emb j = ix2 (row t (j 0)) (j 1) := by
        funext a
        apply Fin.ext
        match a with
        | ⟨0, _⟩ => show win0_8.index t 0 * 256 + 1 * (j 0).val = 256 * t.val + (j 0).val; rw [(idx8 t).1]; omega
        | ⟨1, _⟩ => show win0_8.index t 1 * 1024 + 1 * (j 1).val = (j 1).val; rw [(idx8 t).2]; omega
      show k0_pay2 (F := Ideal) (iblk m c 1 t) (iblk m c 3 t) j = vA (m (c.tc.loc main_arg1)) (m (c.tc.loc main_arg3)) ((win0_8.blk t).view.emb j)
      rw [e]
      refine (congrArg _ (eta2 j)).trans ?_
      exact at3 m c t (j 0) (j 1))
    fun i => by
      have hN : cfg0.N = 1 := N_0
      have h0 : (i 0 : Nat) < 256 := (i 0).isLt
      have h1 : (i 1 : Nat) < 1024 := (i 1).isLt
      have hlt : (i 0).val / 256 < cfg0.N := by omega
      let t : Fin cfg0.N := ⟨(i 0).val / 256, hlt⟩
      have ht : t.val = (i 0).val / 256 := rfl
      refine ⟨t, flush0_8 _, ?_⟩
      show i ∈ ((View.whole main_v0_3).slice (win0_8.rect t)).set
      rw [View.set_slice_whole, Rect.mem_set_unit]
      intro a
      match a with
      | ⟨0, _⟩ =>
        show win0_8.index t 0 * 256 ≤ (i 0 : Nat) ∧ (i 0 : Nat) < win0_8.index t 0 * 256 + 256
        rw [(idx8 t).1, ht]; omega
      | ⟨1, _⟩ =>
        show win0_8.index t 1 * 1024 ≤ (i 1 : Nat) ∧ (i 1 : Nat) < win0_8.index t 1 * 1024 + 1024
        rw [(idx8 t).2]; omega

/-! ## The reference -/

section
open Cert.Reference8Ideal.Read
variable (w g m v : Vec Ideal S256x1024 .f32)

theorem v4 (r : Fin 256) (d : Fin 1024) : val_main_v4 (F := Ideal) g m (ix2 r d)
    = newM (g (ix2 r d)) (m (ix2 r d)) := by
  pointwise [val_main_v4, val_main_v1, val_main_v3, val_main_v0, val_main_v2, val_main_cst, val_main_cst_0]
  rfl

theorem v10 (r : Fin 256) (d : Fin 1024) : val_main_v10 (F := Ideal) g v (ix2 r d)
    = newV (g (ix2 r d)) (v (ix2 r d)) := by
  pointwise [val_main_v10, val_main_v6, val_main_v9, val_main_v5, val_main_v8, val_main_v7, val_main_cst_1, val_main_cst_2]
  rfl

theorem v23 (r : Fin 256) (d : Fin 1024) : val_main_v23 (F := Ideal) w g m v (ix2 r d)
    = delta (w (ix2 r d)) (g (ix2 r d)) (m (ix2 r d)) (v (ix2 r d)) := by
  have hm := v4 g m
  have hv := v10 g v
  pointwise [val_main_v23, val_main_v22, val_main_v21, val_main_cst_7, val_main_v18, val_main_v20, val_main_v12, val_main_v17, val_main_v19, val_main_v11, val_main_v15, val_main_v16, val_main_cst_6, val_main_cst_3, val_main_v14, val_main_cst_5, val_main_v13, val_main_cst_4]
  rw [hm, hv]
  rfl

theorem ref1 : dA w g m v = val_main_v23 (F := Ideal) w g m v := by
  funext i
  rw [eta2 i]
  exact (v23 w g m v _ _).symm

theorem ref2 : mA g m = val_main_v4 (F := Ideal) g m := by
  funext i
  rw [eta2 i]
  exact (v4 g m _ _).symm

theorem ref3 : vA g v = val_main_v10 (F := Ideal) g v := by
  funext i
  rw [eta2 i]
  exact (v10 g v _ _).symm

end

/-- The kernel's call and the reference end with the same four arrays. -/
theorem algebraic : algebraic_Kernel8Ideal_Reference8Ideal (hKernel8Ideal := Cert.Kernel8Ideal.Gen.facts)
    (hReference8Ideal := Cert.Reference8Ideal.Gen.facts) := by
  intro m g m' g' _ hagree
  refine ⟨fun c => gA (m (c.tc.loc main_arg1)),
    fun c => dA (m (c.tc.loc main_arg0)) (m (c.tc.loc main_arg1)) (m (c.tc.loc main_arg2)) (m (c.tc.loc main_arg3)),
    fun c => mA (m (c.tc.loc main_arg1)) (m (c.tc.loc main_arg2)),
    fun c => vA (m (c.tc.loc main_arg1)) (m (c.tc.loc main_arg3)), ?_, ?_⟩
  · refine (θ_run Cert.Kernel8Ideal.defs _ _).mono (fun r h c => ?_) (Cert.Kernel8Ideal.Value.run_blocks m g)
    obtain ⟨h0, h1, h2, h3, hk⟩ := h c
    exact ⟨h0.trans (final5 m c), h1.trans (final6 m c), h2.trans (final7 m c), h3.trans (final8 m c), hk⟩
  · refine (θ_run Cert.Reference8Ideal.defs _ _).mono (fun r h c => ?_) (Cert.Reference8Ideal.Value.run m' g')
    obtain ⟨h0, h1, h2, h3, hk⟩ := h c
    obtain ⟨e0, e1, e2, e3, e4⟩ := hagree c
    refine ⟨h0.trans e1,
      (h1.trans (Cert.Reference8Ideal.Read.val_main_v23_eq _ _ _ _)).trans ?_,
      (h2.trans (Cert.Reference8Ideal.Read.val_main_v4_eq _ _)).trans ?_,
      (h3.trans (Cert.Reference8Ideal.Read.val_main_v10_eq _ _)).trans ?_, hk⟩
    · show Cert.Reference8Ideal.Read.val_main_v23 (F := Ideal) (m' (c.tc.loc Cert.Reference8Ideal.main_arg0)) (m' (c.tc.loc Cert.Reference8Ideal.main_arg1)) (m' (c.tc.loc Cert.Reference8Ideal.main_arg2)) (m' (c.tc.loc Cert.Reference8Ideal.main_arg3)) = _
      rw [e0, e1, e2, e3]; exact (ref1 _ _ _ _).symm
    · show Cert.Reference8Ideal.Read.val_main_v4 (F := Ideal) (m' (c.tc.loc Cert.Reference8Ideal.main_arg1)) (m' (c.tc.loc Cert.Reference8Ideal.main_arg2)) = _
      rw [e1, e2]; exact (ref2 _ _).symm
    · show Cert.Reference8Ideal.Read.val_main_v10 (F := Ideal) (m' (c.tc.loc Cert.Reference8Ideal.main_arg1)) (m' (c.tc.loc Cert.Reference8Ideal.main_arg3)) = _
      rw [e1, e3]; exact (ref3 _ _).symm

end Cert.Kernel8Ideal.Step
end
-- ==== Proof.Step9.lean ====
module

public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Defs
public import proofs.«01_k».proof.Proof.Adam
public import Idealize.ShloMosaic.Lib.Pipeline.ValueKit.Acc
public import Idealize.ShloMosaic.Lib.Pipeline.ReadBack
public import Idealize.ShloMosaic.Lib.StableHlo.RunRead
public import Idealize.ShloMosaic.Lib.Claim

/-!
The AdamW step of the input projection: both programs do the same arithmetic on every weight by itself, the kernel on the transposed arrays.
-/

@[expose] public section

set_option maxRecDepth 16384

noncomputable section
namespace Cert.Kernel9Ideal.Step
open Cert.Kernel9Ideal Cert.Kernel9Ideal.Gen Cert.Ext Cert.Adam Cert.Coe Idealize.ShloMosaic Idealize.ShloMosaic.TcCoe Idealize.SL.Sem

section
variable {F : FTy → Type} [FloatOps F] (m : (ℓ : Loc nD τ sig) → Buf (Elt F) ℓ) (c : Dev nD) (t : Fin cfg0.N)

/-! ## The blocks' places -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

/-- Row `r` of the tile that point `t` handles. -/
def row (t : Fin cfg0.N) (r : Fin 272) : Fin 1088 :=
  ⟨272 * t.val + r.val, by have := r.isLt; have := t.isLt; have hN : cfg0.N = 4 := N_0; omega⟩

theorem blk0 (r : Fin 272) (d : Fin 1024) : iblk m c 0 t (ix2 r d) = V m c main_v0 (ix2 (row t r) d) := by
  unfold iblk
  rw [View.read_apply]
  show V m c main_v0 _ = V m c main_v0 _
  congr 1
  funext a
  apply Fin.ext
  match a with
  | ⟨0, _⟩ => show win0_0.index t 0 * 272 + 1 * r.val = 272 * t.val + r.val; rw [(idx0 t).1]; omega
  | ⟨1, _⟩ => show win0_0.index t 1 * 1024 + 1 * d.val = d.val; rw [(idx0 t).2]; omega

theorem blk1 (r : Fin 272) (d : Fin 1024) : iblk m c 1 t (ix2 r d) = V m c main_v1 (ix2 (row t r) d) := by
  unfold iblk
  rw [View.read_apply]
  show V m c main_v1 _ = V m c main_v1 _
  congr 1
  funext a
  apply Fin.ext
  match a with
  | ⟨0, _⟩ => show win0_1.index t 0 * 272 + 1 * r.val = 272 * t.val + r.val; rw [(idx1 t).1]; omega
  | ⟨1, _⟩ => show win0_1.index t 1 * 1024 + 1 * d.val = d.val; rw [(idx1 t).2]; omega

theorem blk2 (r : Fin 272) (d : Fin 1024) : iblk m c 2 t (ix2 r d) = V m c main_v2 (ix2 (row t r) d) := by
  unfold iblk
  rw [View.read_apply]
  show V m c main_v2 _ = V m c main_v2 _
  congr 1
  funext a
  apply Fin.ext
  match a with
  | ⟨0, _⟩ => show win0_2.index t 0 * 272 + 1 * r.val = 272 * t.val + r.val; rw [(idx2 t).1]; omega
  | ⟨1, _⟩ => show win0_2.index t 1 * 1024 + 1 * d.val = d.val; rw [(idx2 t).2]; omega

theorem blk3 (r : Fin 272) (d : Fin 1024) : iblk m c 3 t (ix2 r d) = V m c main_v3 (ix2 (row t r) d) := by
  unfold iblk
  rw [View.read_apply]
  show V m c main_v3 _ = V m c main_v3 _
  congr 1
  funext a
  apply Fin.ext
  match a with
  | ⟨0, _⟩ => show win0_3.index t 0 * 272 + 1 * r.val = 272 * t.val + r.val; rw [(idx3 t).1]; omega
  | ⟨1, _⟩ => show win0_3.index t 1 * 1024 + 1 * d.val = d.val; rw [(idx3 t).2]; omega

theorem V_v0 : V m c main_v0 = transpose S1088x1024 [1, 0] (m (c.tc.loc main_arg0)) transposes_S1024x1088_S1088x1024_1_0 := by
  after_reads_simp
theorem V_v1 : V m c main_v1 = transpose S1088x1024 [1, 0] (m (c.tc.loc main_arg1)) transposes_S1024x1088_S1088x1024_1_0 := by
  after_reads_simp
theorem V_v2 : V m c main_v2 = transpose S1088x1024 [1, 0] (m (c.tc.loc main_arg2)) transposes_S1024x1088_S1088x1024_1_0 := by
  after_reads_simp
theorem V_v3 : V m c main_v3 = transpose S1088x1024 [1, 0] (m (c.tc.loc main_arg3)) transposes_S1024x1088_S1088x1024_1_0 := by
  after_reads_simp

/-! ## What a point leaves -/

theorem out4 : out0_4 (iblk m c 0 t) (iblk m c 1 t) (iblk m c 2 t) (iblk m c 3 t)
    = k0_pay1 (iblk m c 1 t) := by
  frame_out
theorem out5 : out0_5 (iblk m c 0 t) (iblk m c 1 t) (iblk m c 2 t) (iblk m c 3 t)
    = k0_pay4 (iblk m c 0 t) (iblk m c 1 t) (iblk m c 2 t) (iblk m c 3 t) := by
  frame_out
theorem out6 : out0_6 (iblk m c 0 t) (iblk m c 1 t) (iblk m c 2 t) (iblk m c 3 t)
    = k0_pay2 (iblk m c 1 t) (iblk m c 2 t) := by
  frame_out
theorem out7 : out0_7 (iblk m c 0 t) (iblk m c 1 t) (iblk m c 2 t) (iblk m c 3 t)
    = k0_pay3 (iblk m c 1 t) (iblk m c 3 t) := by
  frame_out
end

/-! ## The values -/

section
variable (w g m v : Vec Ideal S1088x1024 .f32)

/-- The gradient, as it came. -/
def gA : Vec Ideal S1088x1024 .f32 := fun i => g i
/-- The weights' changes. -/
def dA : Vec Ideal S1088x1024 .f32 := fun i => delta (w i) (g i) (m i) (v i)
/-- The first moments. -/
def mA : Vec Ideal S1088x1024 .f32 := fun i => newM (g i) (m i)
/-- The second moments. -/
def vA : Vec Ideal S1088x1024 .f32 := fun i => newV (g i) (v i)
end

section
variable (x0 x1 x2 x3 : Vec Ideal S272x1024 .f32)

theorem pay1_val (r : Fin 272) (d : Fin 1024) : k0_pay1 (F := Ideal) x1 (ix2 r d)
    = x1 (ix2 r d) := by
  pointwise [k0_pay1]

theorem pay2_val (r : Fin 272) (d : Fin 1024) : k0_pay2 (F := Ideal) x1 x2 (ix2 r d)
    = newM (x1 (ix2 r d)) (x2 (ix2 r d)) := by
  have h1 := pay1_val x1
  pointwise [k0_pay2]
  rw [h1]
  rfl

theorem pay3_val (r : Fin 272) (d : Fin 1024) : k0_pay3 (F := Ideal) x1 x3 (ix2 r d)
    = newV (x1 (ix2 r d)) (x3 (ix2 r d)) := by
  have h1 := pay1_val x1
  pointwise [k0_pay3]
  rw [h1]
  rfl

theorem pay4_val (r : Fin 272) (d : Fin 1024) : k0_pay4 (F := Ideal) x0 x1 x2 x3 (ix2 r d)
    = delta (x0 (ix2 r d)) (x1 (ix2 r d)) (x2 (ix2 r d)) (x3 (ix2 r d)) := by
  have h1 := pay1_val x1
  have hm := pay2_val x1 x2
  have hv := pay3_val x1 x3
  pointwise [k0_pay4]
  rw [hm, hv]
  rfl

end

variable (m : (ℓ : Loc nD τ sig) → Buf (Elt Ideal) ℓ) (c : Dev nD)

/-- An argument as the kernel reads it. -/
def flip (x : Vec Ideal S1024x1088 .f32) : Vec Ideal S1088x1024 .f32 := fun i => x (ix2 (i 1) (i 0))

theorem in0 (t : Fin cfg0.N) (r : Fin 272) (d : Fin 1024) : iblk m c 0 t (ix2 r d) = flip (m (c.tc.loc main_arg0)) (ix2 (row t r) d) := by
  rw [blk0, V_v0]
  generalize m (c.tc.loc main_arg0) = w
  unfold flip
  pointwise []
theorem in1 (t : Fin cfg0.N) (r : Fin 272) (d : Fin 1024) : iblk m c 1 t (ix2 r d) = flip (m (c.tc.loc main_arg1)) (ix2 (row t r) d) := by
  rw [blk1, V_v1]
  generalize m (c.tc.loc main_arg1) = w
  unfold flip
  pointwise []
theorem in2 (t : Fin cfg0.N) (r : Fin 272) (d : Fin 1024) : iblk m c 2 t (ix2 r d) = flip (m (c.tc.loc main_arg2)) (ix2 (row t r) d) := by
  rw [blk2, V_v2]
  generalize m (c.tc.loc main_arg2) = w
  unfold flip
  pointwise []
theorem in3 (t : Fin cfg0.N) (r : Fin 272) (d : Fin 1024) : iblk m c 3 t (ix2 r d) = flip (m (c.tc.loc main_arg3)) (ix2 (row t r) d) := by
  rw [blk3, V_v3]
  generalize m (c.tc.loc main_arg3) = w
  unfold flip
  pointwise []

theorem at0 (t : Fin cfg0.N) (r : Fin 272) (d : Fin 1024) : k0_pay1 (F := Ideal) (iblk m c 1 t) (ix2 r d)
    = gA (flip (m (c.tc.loc main_arg1))) (ix2 (row t r) d) := by
  rw [pay1_val, in1]
  rfl

/-- Result 0. -/
theorem final4 : (dats m 0 c).arrAt 4 cfg0.N = gA (flip (m (c.tc.loc main_arg1))) :=
  (dats m 0 c).arrAt_eq_of_cover 4 _
    (fun t hf => by
      rw [Value.flushed4, out4]
      funext j
      rw [View.read_apply]
      have e : (win0_4.blk t).view.emb j = ix2 (row t (j 0)) (j 1) := by
        funext a
        apply Fin.ext
        match a with
        | ⟨0, _⟩ => show win0_4.index t 0 * 272 + 1 * (j 0).val = 272 * t.val + (j 0).val; rw [(idx4 t).1]; omega
        | ⟨1, _⟩ => show win0_4.index t 1 * 1024 + 1 * (j 1).val = (j 1).val; rw [(idx4 t).2]; omega
      show k0_pay1 (F := Ideal) (iblk m c 1 t) j = gA (flip (m (c.tc.loc main_arg1))) ((win0_4.blk t).view.emb j)
      rw [e]
      refine (congrArg _ (eta2 j)).trans ?_
      exact at0 m c t (j 0) (j 1))
    fun i => by
      have hN : cfg0.N = 4 := N_0
      have h0 : (i 0 : Nat) < 1088 := (i 0).isLt
      have h1 : (i 1 : Nat) < 1024 := (i 1).isLt
      have hlt : (i 0).val / 272 < cfg0.N := by omega
      let t : Fin cfg0.N := ⟨(i 0).val / 272, hlt⟩
      have ht : t.val = (i 0).val / 272 := rfl
      refine ⟨t, flush0_4 _, ?_⟩
      show i ∈ ((View.whole main_v4_0).slice (win0_4.rect t)).set
      rw [View.set_slice_whole, Rect.mem_set_unit]
      intro a
      match a with
      | ⟨0, _⟩ =>
        show win0_4.index t 0 * 272 ≤ (i 0 : Nat) ∧ (i 0 : Nat) < win0_4.index t 0 * 272 + 272
        rw [(idx4 t).1, ht]; omega
      | ⟨1, _⟩ =>
        show win0_4.index t 1 * 1024 ≤ (i 1 : Nat) ∧ (i 1 : Nat) < win0_4.index t 1 * 1024 + 1024
        rw [(idx4 t).2]; omega

theorem at1 (t : Fin cfg0.N) (r : Fin 272) (d : Fin 1024) : k0_pay4 (F := Ideal) (iblk m c 0 t) (iblk m c 1 t) (iblk m c 2 t) (iblk m c 3 t) (ix2 r d)
    = dA (flip (m (c.tc.loc main_arg0))) (flip (m (c.tc.loc main_arg1))) (flip (m (c.tc.loc main_arg2))) (flip (m (c.tc.loc main_arg3))) (ix2 (row t r) d) := by
  rw [pay4_val, in0, in1, in2, in3]
  rfl

/-- Result 1. -/
theorem final5 : (dats m 0 c).arrAt 5 cfg0.N = dA (flip (m (c.tc.loc main_arg0))) (flip (m (c.tc.loc main_arg1))) (flip (m (c.tc.loc main_arg2))) (flip (m (c.tc.loc main_arg3))) :=
  (dats m 0 c).arrAt_eq_of_cover 5 _
    (fun t hf => by
      rw [Value.flushed5, out5]
      funext j
      rw [View.read_apply]
      have e : (win0_5.blk t).view.emb j = ix2 (row t (j 0)) (j 1) := by
        funext a
        apply Fin.ext
        match a with
        | ⟨0, _⟩ => show win0_5.index t 0 * 272 + 1 * (j 0).val = 272 * t.val + (j 0).val; rw [(idx5 t).1]; omega
        | ⟨1, _⟩ => show win0_5.index t 1 * 1024 + 1 * (j 1).val = (j 1).val; rw [(idx5 t).2]; omega
      show k0_pay4 (F := Ideal) (iblk m c 0 t) (iblk m c 1 t) (iblk m c 2 t) (iblk m c 3 t) j = dA (flip (m (c.tc.loc main_arg0))) (flip (m (c.tc.loc main_arg1))) (flip (m (c.tc.loc main_arg2))) (flip (m (c.tc.loc main_arg3))) ((win0_5.blk t).view.emb j)
      rw [e]
      refine (congrArg _ (eta2 j)).trans ?_
      exact at1 m c t (j 0) (j 1))
    fun i => by
      have hN : cfg0.N = 4 := N_0
      have h0 : (i 0 : Nat) < 1088 := (i 0).isLt
      have h1 : (i 1 : Nat) < 1024 := (i 1).isLt
      have hlt : (i 0).val / 272 < cfg0.N := by omega
      let t : Fin cfg0.N := ⟨(i 0).val / 272, hlt⟩
      have ht : t.val = (i 0).val / 272 := rfl
      refine ⟨t, flush0_5 _, ?_⟩
      show i ∈ ((View.whole main_v4_1).slice (win0_5.rect t)).set
      rw [View.set_slice_whole, Rect.mem_set_unit]
      intro a
      match a with
      | ⟨0, _⟩ =>
        show win0_5.index t 0 * 272 ≤ (i 0 : Nat) ∧ (i 0 : Nat) < win0_5.index t 0 * 272 + 272
        rw [(idx5 t).1, ht]; omega
      | ⟨1, _⟩ =>
        show win0_5.index t 1 * 1024 ≤ (i 1 : Nat) ∧ (i 1 : Nat) < win0_5.index t 1 * 1024 + 1024
        rw [(idx5 t).2]; omega

theorem at2 (t : Fin cfg0.N) (r : Fin 272) (d : Fin 1024) : k0_pay2 (F := Ideal) (iblk m c 1 t) (iblk m c 2 t) (ix2 r d)
    = mA (flip (m (c.tc.loc main_arg1))) (flip (m (c.tc.loc main_arg2))) (ix2 (row t r) d) := by
  rw [pay2_val, in1, in2]
  rfl

/-- Result 2. -/
theorem final6 : (dats m 0 c).arrAt 6 cfg0.N = mA (flip (m (c.tc.loc main_arg1))) (flip (m (c.tc.loc main_arg2))) :=
  (dats m 0 c).arrAt_eq_of_cover 6 _
    (fun t hf => by
      rw [Value.flushed6, out6]
      funext j
      rw [View.read_apply]
      have e : (win0_6.blk t).view.emb j = ix2 (row t (j 0)) (j 1) := by
        funext a
        apply Fin.ext
        match a with
        | ⟨0, _⟩ => show win0_6.index t 0 * 272 + 1 * (j 0).val = 272 * t.val + (j 0).val; rw [(idx6 t).1]; omega
        | ⟨1, _⟩ => show win0_6.index t 1 * 1024 + 1 * (j 1).val = (j 1).val; rw [(idx6 t).2]; omega
      show k0_pay2 (F := Ideal) (iblk m c 1 t) (iblk m c 2 t) j = mA (flip (m (c.tc.loc main_arg1))) (flip (m (c.tc.loc main_arg2))) ((win0_6.blk t).view.emb j)
      rw [e]
      refine (congrArg _ (eta2 j)).trans ?_
      exact at2 m c t (j 0) (j 1))
    fun i => by
      have hN : cfg0.N = 4 := N_0
      have h0 : (i 0 : Nat) < 1088 := (i 0).isLt
      have h1 : (i 1 : Nat) < 1024 := (i 1).isLt
      have hlt : (i 0).val / 272 < cfg0.N := by omega
      let t : Fin cfg0.N := ⟨(i 0).val / 272, hlt⟩
      have ht : t.val = (i 0).val / 272 := rfl
      refine ⟨t, flush0_6 _, ?_⟩
      show i ∈ ((View.whole main_v4_2).slice (win0_6.rect t)).set
      rw [View.set_slice_whole, Rect.mem_set_unit]
      intro a
      match a with
      | ⟨0, _⟩ =>
        show win0_6.index t 0 * 272 ≤ (i 0 : Nat) ∧ (i 0 : Nat) < win0_6.index t 0 * 272 + 272
        rw [(idx6 t).1, ht]; omega
      | ⟨1, _⟩ =>
        show win0_6.index t 1 * 1024 ≤ (i 1 : Nat) ∧ (i 1 : Nat) < win0_6.index t 1 * 1024 + 1024
        rw [(idx6 t).2]; omega

theorem at3 (t : Fin cfg0.N) (r : Fin 272) (d : Fin 1024) : k0_pay3 (F := Ideal) (iblk m c 1 t) (iblk m c 3 t) (ix2 r d)
    = vA (flip (m (c.tc.loc main_arg1))) (flip (m (c.tc.loc main_arg3))) (ix2 (row t r) d) := by
  rw [pay3_val, in1, in3]
  rfl

/-- Result 3. -/
theorem final7 : (dats m 0 c).arrAt 7 cfg0.N = vA (flip (m (c.tc.loc main_arg1))) (flip (m (c.tc.loc main_arg3))) :=
  (dats m 0 c).arrAt_eq_of_cover 7 _
    (fun t hf => by
      rw [Value.flushed7, out7]
      funext j
      rw [View.read_apply]
      have e : (win0_7.blk t).view.emb j = ix2 (row t (j 0)) (j 1) := by
        funext a
        apply Fin.ext
        match a with
        | ⟨0, _⟩ => show win0_7.index t 0 * 272 + 1 * (j 0).val = 272 * t.val + (j 0).val; rw [(idx7 t).1]; omega
        | ⟨1, _⟩ => show win0_7.index t 1 * 1024 + 1 * (j 1).val = (j 1).val; rw [(idx7 t).2]; omega
      show k0_pay3 (F := Ideal) (iblk m c 1 t) (iblk m c 3 t) j = vA (flip (m (c.tc.loc main_arg1))) (flip (m (c.tc.loc main_arg3))) ((win0_7.blk t).view.emb j)
      rw [e]
      refine (congrArg _ (eta2 j)).trans ?_
      exact at3 m c t (j 0) (j 1))
    fun i => by
      have hN : cfg0.N = 4 := N_0
      have h0 : (i 0 : Nat) < 1088 := (i 0).isLt
      have h1 : (i 1 : Nat) < 1024 := (i 1).isLt
      have hlt : (i 0).val / 272 < cfg0.N := by omega
      let t : Fin cfg0.N := ⟨(i 0).val / 272, hlt⟩
      have ht : t.val = (i 0).val / 272 := rfl
      refine ⟨t, flush0_7 _, ?_⟩
      show i ∈ ((View.whole main_v4_3).slice (win0_7.rect t)).set
      rw [View.set_slice_whole, Rect.mem_set_unit]
      intro a
      match a with
      | ⟨0, _⟩ =>
        show win0_7.index t 0 * 272 ≤ (i 0 : Nat) ∧ (i 0 : Nat) < win0_7.index t 0 * 272 + 272
        rw [(idx7 t).1, ht]; omega
      | ⟨1, _⟩ =>
        show win0_7.index t 1 * 1024 ≤ (i 1 : Nat) ∧ (i 1 : Nat) < win0_7.index t 1 * 1024 + 1024
        rw [(idx7 t).2]; omega

/-! ## The reference -/

section
open Cert.Reference9Ideal.Read
variable (w g m v : Vec Ideal S1024x1088 .f32)

theorem v4 (r : Fin 1024) (d : Fin 1088) : val_main_v4 (F := Ideal) g m (ix2 r d)
    = newM (g (ix2 r d)) (m (ix2 r d)) := by
  pointwise [val_main_v4, val_main_v1, val_main_v3, val_main_v0, val_main_v2, val_main_cst, val_main_cst_0]
  rfl

theorem v10 (r : Fin 1024) (d : Fin 1088) : val_main_v10 (F := Ideal) g v (ix2 r d)
    = newV (g (ix2 r d)) (v (ix2 r d)) := by
  pointwise [val_main_v10, val_main_v6, val_main_v9, val_main_v5, val_main_v8, val_main_v7, val_main_cst_1, val_main_cst_2]
  rfl

theorem v23 (r : Fin 1024) (d : Fin 1088) : val_main_v23 (F := Ideal) w g m v (ix2 r d)
    = delta (w (ix2 r d)) (g (ix2 r d)) (m (ix2 r d)) (v (ix2 r d)) := by
  have hm := v4 g m
  have hv := v10 g v
  pointwise [val_main_v23, val_main_v22, val_main_v21, val_main_cst_7, val_main_v18, val_main_v20, val_main_v12, val_main_v17, val_main_v19, val_main_v11, val_main_v15, val_main_v16, val_main_cst_6, val_main_cst_3, val_main_v14, val_main_cst_5, val_main_v13, val_main_cst_4]
  rw [hm, hv]
  rfl

theorem ref0 : gA (flip g) = val_main_v24 (F := Ideal) g := by
  funext i
  rw [eta2 i]
  pointwise [val_main_v24]
  rfl

theorem ref1 : dA (flip w) (flip g) (flip m) (flip v) = val_main_v25 (F := Ideal) w g m v := by
  funext i
  have h := v23 w g m v
  rw [eta2 i]
  pointwise [val_main_v25]
  exact (h _ _).symm

theorem ref2 : mA (flip g) (flip m) = val_main_v26 (F := Ideal) g m := by
  funext i
  have h := v4 g m
  rw [eta2 i]
  pointwise [val_main_v26]
  exact (h _ _).symm

theorem ref3 : vA (flip g) (flip v) = val_main_v27 (F := Ideal) g v := by
  funext i
  have h := v10 g v
  rw [eta2 i]
  pointwise [val_main_v27]
  exact (h _ _).symm

end

/-- The kernel's call and the reference end with the same four arrays. -/
theorem algebraic : algebraic_Kernel9Ideal_Reference9Ideal (hKernel9Ideal := Cert.Kernel9Ideal.Gen.facts)
    (hReference9Ideal := Cert.Reference9Ideal.Gen.facts) := by
  intro m g m' g' _ hagree
  refine ⟨fun c => gA (flip (m (c.tc.loc main_arg1))),
    fun c => dA (flip (m (c.tc.loc main_arg0))) (flip (m (c.tc.loc main_arg1))) (flip (m (c.tc.loc main_arg2))) (flip (m (c.tc.loc main_arg3))),
    fun c => mA (flip (m (c.tc.loc main_arg1))) (flip (m (c.tc.loc main_arg2))),
    fun c => vA (flip (m (c.tc.loc main_arg1))) (flip (m (c.tc.loc main_arg3))), ?_, ?_⟩
  · refine (θ_run Cert.Kernel9Ideal.defs _ _).mono (fun r h c => ?_) (Cert.Kernel9Ideal.Value.run_blocks m g)
    obtain ⟨h0, h1, h2, h3, hk⟩ := h c
    exact ⟨h0.trans (final4 m c), h1.trans (final5 m c), h2.trans (final6 m c), h3.trans (final7 m c), hk⟩
  · refine (θ_run Cert.Reference9Ideal.defs _ _).mono (fun r h c => ?_) (Cert.Reference9Ideal.Value.run m' g')
    obtain ⟨h0, h1, h2, h3, hk⟩ := h c
    obtain ⟨e0, e1, e2, e3⟩ := hagree c
    refine ⟨(h0.trans (Cert.Reference9Ideal.Read.val_main_v24_eq _)).trans ?_,
      (h1.trans (Cert.Reference9Ideal.Read.val_main_v25_eq _ _ _ _)).trans ?_,
      (h2.trans (Cert.Reference9Ideal.Read.val_main_v26_eq _ _)).trans ?_,
      (h3.trans (Cert.Reference9Ideal.Read.val_main_v27_eq _ _)).trans ?_, hk⟩
    · show Cert.Reference9Ideal.Read.val_main_v24 (F := Ideal) (m' (c.tc.loc Cert.Reference9Ideal.main_arg1)) = _
      rw [e1]; exact (ref0 _).symm
    · show Cert.Reference9Ideal.Read.val_main_v25 (F := Ideal) (m' (c.tc.loc Cert.Reference9Ideal.main_arg0)) (m' (c.tc.loc Cert.Reference9Ideal.main_arg1)) (m' (c.tc.loc Cert.Reference9Ideal.main_arg2)) (m' (c.tc.loc Cert.Reference9Ideal.main_arg3)) = _
      rw [e0, e1, e2, e3]; exact (ref1 _ _ _ _).symm
    · show Cert.Reference9Ideal.Read.val_main_v26 (F := Ideal) (m' (c.tc.loc Cert.Reference9Ideal.main_arg1)) (m' (c.tc.loc Cert.Reference9Ideal.main_arg2)) = _
      rw [e1, e2]; exact (ref2 _ _).symm
    · show Cert.Reference9Ideal.Read.val_main_v27 (F := Ideal) (m' (c.tc.loc Cert.Reference9Ideal.main_arg1)) (m' (c.tc.loc Cert.Reference9Ideal.main_arg3)) = _
      rw [e1, e3]; exact (ref3 _ _).symm

end Cert.Kernel9Ideal.Step
end
-- ==== Proof.Step10.lean ====
module

public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Defs
public import proofs.«01_k».proof.Proof.Adam
public import Idealize.ShloMosaic.Lib.Pipeline.ValueKit.Acc
public import Idealize.ShloMosaic.Lib.Pipeline.ReadBack
public import Idealize.ShloMosaic.Lib.StableHlo.RunRead
public import Idealize.ShloMosaic.Lib.Claim

/-!
The AdamW step of the two branch projections: their gradients come as one array, one above the other.
-/

@[expose] public section

set_option maxRecDepth 16384

noncomputable section
namespace Cert.Kernel10Ideal.Step
open Cert.Kernel10Ideal Cert.Kernel10Ideal.Gen Cert.Ext Cert.Adam Cert.Coe Idealize.ShloMosaic Idealize.ShloMosaic.TcCoe Idealize.SL.Sem

section
variable {F : FTy → Type} [FloatOps F] (m : (ℓ : Loc nD τ sig) → Buf (Elt F) ℓ) (c : Dev nD) (t : Fin cfg0.N)

/-- The upper half of the stacked gradients, as the kernel loads it. -/
def up (x : Vec F S1024x256 .f32) : Vec F S512x256 .f32 :=
  View.ld x (Rect.unit (s := S1024x256) ![0, 0] S512x256.size inb_S1024x256_S512x256_0_0)
/-- The lower half. -/
def lo (x : Vec F S1024x256 .f32) : Vec F S512x256 .f32 :=
  View.ld x (Rect.unit (s := S1024x256) ![512, 0] S512x256.size inb_S1024x256_S512x256_512_0)

/-! ## What the point leaves -/

theorem out7 : (dats m 0 c).flushed 7 t = (cfg0.win 7).cut (grid0.coords t) (k0_pay1 (up (iblk m c 6 t))) := by
  rw [Value.flushed7_A]
  frame_out
  simp only [read_unread_whole]
  rfl
theorem out8 : (dats m 0 c).flushed 8 t = (cfg0.win 8).cut (grid0.coords t) (k0_pay5 (up (iblk m c 6 t)) (iblk m c 0 t) (iblk m c 1 t) (iblk m c 2 t)) := by
  rw [Value.flushed8_A]
  frame_out
  simp only [read_unread_whole]
  rfl
theorem out9 : (dats m 0 c).flushed 9 t = (cfg0.win 9).cut (grid0.coords t) (k0_pay3 (up (iblk m c 6 t)) (iblk m c 1 t)) := by
  rw [Value.flushed9_A]
  frame_out
  simp only [read_unread_whole]
  rfl
theorem out10 : (dats m 0 c).flushed 10 t = (cfg0.win 10).cut (grid0.coords t) (k0_pay4 (up (iblk m c 6 t)) (iblk m c 2 t)) := by
  rw [Value.flushed10_A]
  frame_out
  simp only [read_unread_whole]
  rfl
theorem out11 : (dats m 0 c).flushed 11 t = (cfg0.win 11).cut (grid0.coords t) (k0_pay2 (lo (iblk m c 6 t))) := by
  rw [Value.flushed11_A]
  frame_out
  simp only [read_unread_whole]
  rfl
theorem out12 : (dats m 0 c).flushed 12 t = (cfg0.win 12).cut (grid0.coords t) (k0_pay8 (k0_pay2 (lo (iblk m c 6 t))) (iblk m c 3 t) (iblk m c 4 t) (iblk m c 5 t)) := by
  rw [Value.flushed12_A]
  frame_out
  simp only [read_unread_whole]
  rfl
theorem out13 : (dats m 0 c).flushed 13 t = (cfg0.win 13).cut (grid0.coords t) (k0_pay6 (k0_pay2 (lo (iblk m c 6 t))) (iblk m c 4 t)) := by
  rw [Value.flushed13_A]
  frame_out
  simp only [read_unread_whole]
  rfl
theorem out14 : (dats m 0 c).flushed 14 t = (cfg0.win 14).cut (grid0.coords t) (k0_pay7 (k0_pay2 (lo (iblk m c 6 t))) (iblk m c 5 t)) := by
  rw [Value.flushed14_A]
  frame_out
  simp only [read_unread_whole]
  rfl

/-! ## The blocks' places -/

theorem emb7 (j : S512x256.Idx) : (win0_7.blk t).view.emb j = j := by
  funext a
  apply Fin.ext
  match a with
  | ⟨0, _⟩ => show 0 * 512 + 1 * (j 0).val = (j 0).val; omega
  | ⟨1, _⟩ => show 0 * 256 + 1 * (j 1).val = (j 1).val; omega
theorem emb8 (j : S512x256.Idx) : (win0_8.blk t).view.emb j = j := by
  funext a
  apply Fin.ext
  match a with
  | ⟨0, _⟩ => show 0 * 512 + 1 * (j 0).val = (j 0).val; omega
  | ⟨1, _⟩ => show 0 * 256 + 1 * (j 1).val = (j 1).val; omega
theorem emb9 (j : S512x256.Idx) : (win0_9.blk t).view.emb j = j := by
  funext a
  apply Fin.ext
  match a with
  | ⟨0, _⟩ => show 0 * 512 + 1 * (j 0).val = (j 0).val; omega
  | ⟨1, _⟩ => show 0 * 256 + 1 * (j 1).val = (j 1).val; omega
theorem emb10 (j : S512x256.Idx) : (win0_10.blk t).view.emb j = j := by
  funext a
  apply Fin.ext
  match a with
  | ⟨0, _⟩ => show 0 * 512 + 1 * (j 0).val = (j 0).val; omega
  | ⟨1, _⟩ => show 0 * 256 + 1 * (j 1).val = (j 1).val; omega
theorem emb11 (j : S512x256.Idx) : (win0_11.blk t).view.emb j = j := by
  funext a
  apply Fin.ext
  match a with
  | ⟨0, _⟩ => show 0 * 512 + 1 * (j 0).val = (j 0).val; omega
  | ⟨1, _⟩ => show 0 * 256 + 1 * (j 1).val = (j 1).val; omega
theorem emb12 (j : S512x256.Idx) : (win0_12.blk t).view.emb j = j := by
  funext a
  apply Fin.ext
  match a with
  | ⟨0, _⟩ => show 0 * 512 + 1 * (j 0).val = (j 0).val; omega
  | ⟨1, _⟩ => show 0 * 256 + 1 * (j 1).val = (j 1).val; omega
theorem emb13 (j : S512x256.Idx) : (win0_13.blk t).view.emb j = j := by
  funext a
  apply Fin.ext
  match a with
  | ⟨0, _⟩ => show 0 * 512 + 1 * (j 0).val = (j 0).val; omega
  | ⟨1, _⟩ => show 0 * 256 + 1 * (j 1).val = (j 1).val; omega
theorem emb14 (j : S512x256.Idx) : (win0_14.blk t).view.emb j = j := by
  funext a
  apply Fin.ext
  match a with
  | ⟨0, _⟩ => show 0 * 512 + 1 * (j 0).val = (j 0).val; omega
  | ⟨1, _⟩ => show 0 * 256 + 1 * (j 1).val = (j 1).val; omega
theorem blk0 (r : Fin 512) (d : Fin 256) : iblk m c 0 t (ix2 r d) = V m c main_arg0 (ix2 r d) := by
  unfold iblk
  rw [View.read_apply]
  show V m c main_arg0 _ = V m c main_arg0 _
  congr 1
  funext a
  apply Fin.ext
  match a with
  | ⟨0, _⟩ => show 0 * 512 + 1 * r.val = r.val; omega
  | ⟨1, _⟩ => show 0 * 256 + 1 * d.val = d.val; omega
theorem blk1 (r : Fin 512) (d : Fin 256) : iblk m c 1 t (ix2 r d) = V m c main_arg2 (ix2 r d) := by
  unfold iblk
  rw [View.read_apply]
  show V m c main_arg2 _ = V m c main_arg2 _
  congr 1
  funext a
  apply Fin.ext
  match a with
  | ⟨0, _⟩ => show 0 * 512 + 1 * r.val = r.val; omega
  | ⟨1, _⟩ => show 0 * 256 + 1 * d.val = d.val; omega
theorem blk2 (r : Fin 512) (d : Fin 256) : iblk m c 2 t (ix2 r d) = V m c main_arg3 (ix2 r d) := by
  unfold iblk
  rw [View.read_apply]
  show V m c main_arg3 _ = V m c main_arg3 _
  congr 1
  funext a
  apply Fin.ext
  match a with
  | ⟨0, _⟩ => show 0 * 512 + 1 * r.val = r.val; omega
  | ⟨1, _⟩ => show 0 * 256 + 1 * d.val = d.val; omega
theorem blk3 (r : Fin 512) (d : Fin 256) : iblk m c 3 t (ix2 r d) = V m c main_arg4 (ix2 r d) := by
  unfold iblk
  rw [View.read_apply]
  show V m c main_arg4 _ = V m c main_arg4 _
  congr 1
  funext a
  apply Fin.ext
  match a with
  | ⟨0, _⟩ => show 0 * 512 + 1 * r.val = r.val; omega
  | ⟨1, _⟩ => show 0 * 256 + 1 * d.val = d.val; omega
theorem blk4 (r : Fin 512) (d : Fin 256) : iblk m c 4 t (ix2 r d) = V m c main_arg6 (ix2 r d) := by
  unfold iblk
  rw [View.read_apply]
  show V m c main_arg6 _ = V m c main_arg6 _
  congr 1
  funext a
  apply Fin.ext
  match a with
  | ⟨0, _⟩ => show 0 * 512 + 1 * r.val = r.val; omega
  | ⟨1, _⟩ => show 0 * 256 + 1 * d.val = d.val; omega
theorem blk5 (r : Fin 512) (d : Fin 256) : iblk m c 5 t (ix2 r d) = V m c main_arg7 (ix2 r d) := by
  unfold iblk
  rw [View.read_apply]
  show V m c main_arg7 _ = V m c main_arg7 _
  congr 1
  funext a
  apply Fin.ext
  match a with
  | ⟨0, _⟩ => show 0 * 512 + 1 * r.val = r.val; omega
  | ⟨1, _⟩ => show 0 * 256 + 1 * d.val = d.val; omega
theorem blk6 (r : Fin 1024) (d : Fin 256) : iblk m c 6 t (ix2 r d) = V m c main_v0 (ix2 r d) := by
  unfold iblk
  rw [View.read_apply]
  show V m c main_v0 _ = V m c main_v0 _
  congr 1
  funext a
  apply Fin.ext
  match a with
  | ⟨0, _⟩ => show 0 * 1024 + 1 * r.val = r.val; omega
  | ⟨1, _⟩ => show 0 * 256 + 1 * d.val = d.val; omega

theorem V_v0 : V m c main_v0 = concatenate S1024x256 0 [⟨S512x256, m (c.tc.loc main_arg1)⟩, ⟨S512x256, m (c.tc.loc main_arg5)⟩]
    concatenates_S512x256_S512x256_S1024x256_d0 := by
  after_reads_simp
  rfl
end

/-! ## The values -/

section
variable (x : Vec Ideal S1024x256 .f32) (a b : Vec Ideal S512x256 .f32) (r : Fin 512) (d : Fin 256)

theorem up_val : up x (ix2 r d) = x (ix2 ⟨r.val, by omega⟩ d) := by
  unfold up
  pointwise []
theorem lo_val : lo x (ix2 r d) = x (ix2 ⟨512 + r.val, by omega⟩ d) := by
  unfold lo
  pointwise []
theorem stack_up : concatenate S1024x256 0 [⟨S512x256, a⟩, ⟨S512x256, b⟩] concatenates_S512x256_S512x256_S1024x256_d0
    (ix2 ⟨r.val, by omega⟩ d) = a (ix2 r d) := by
  pointwise []
theorem stack_lo : concatenate S1024x256 0 [⟨S512x256, a⟩, ⟨S512x256, b⟩] concatenates_S512x256_S512x256_S1024x256_d0
    (ix2 ⟨512 + r.val, by omega⟩ d) = b (ix2 r d) := by
  pointwise []
end

section
variable (w g m v : Vec Ideal S512x256 .f32)

/-- The gradient, as it came. -/
def gA : Vec Ideal S512x256 .f32 := fun i => g i
/-- The weights' changes. -/
def dA : Vec Ideal S512x256 .f32 := fun i => delta (w i) (g i) (m i) (v i)
/-- The first moments. -/
def mA : Vec Ideal S512x256 .f32 := fun i => newM (g i) (m i)
/-- The second moments. -/
def vA : Vec Ideal S512x256 .f32 := fun i => newV (g i) (v i)

variable (r : Fin 512) (d : Fin 256)

theorem pay1_val : k0_pay1 (F := Ideal) g (ix2 r d) = g (ix2 r d) := by
  pointwise [k0_pay1]
theorem pay2_val : k0_pay2 (F := Ideal) g (ix2 r d) = g (ix2 r d) := by
  pointwise [k0_pay2]
theorem pay3_val : k0_pay3 (F := Ideal) g m (ix2 r d) = newM (g (ix2 r d)) (m (ix2 r d)) := by
  have h1 := pay1_val g
  pointwise [k0_pay3]
  rw [h1]
  rfl
theorem pay4_val : k0_pay4 (F := Ideal) g v (ix2 r d) = newV (g (ix2 r d)) (v (ix2 r d)) := by
  have h1 := pay1_val g
  pointwise [k0_pay4]
  rw [h1]
  rfl
theorem pay5_val : k0_pay5 (F := Ideal) g w m v (ix2 r d) = delta (w (ix2 r d)) (g (ix2 r d)) (m (ix2 r d)) (v (ix2 r d)) := by
  have hm := pay3_val g m
  have hv := pay4_val g v
  pointwise [k0_pay5]
  rw [hm, hv]
  rfl
theorem pay6_val : k0_pay6 (F := Ideal) g m (ix2 r d) = newM (g (ix2 r d)) (m (ix2 r d)) := by
  pointwise [k0_pay6]
  rfl
theorem pay7_val : k0_pay7 (F := Ideal) g v (ix2 r d) = newV (g (ix2 r d)) (v (ix2 r d)) := by
  pointwise [k0_pay7]
  rfl
theorem pay8_val : k0_pay8 (F := Ideal) g w m v (ix2 r d) = delta (w (ix2 r d)) (g (ix2 r d)) (m (ix2 r d)) (v (ix2 r d)) := by
  have hm := pay6_val g m
  have hv := pay7_val g v
  pointwise [k0_pay8]
  rw [hm, hv]
  rfl
end

variable (m : (ℓ : Loc nD τ sig) → Buf (Elt Ideal) ℓ) (c : Dev nD)

section
variable (t : Fin cfg0.N) (r : Fin 512) (d : Fin 256)

theorem in0 : iblk m c 0 t (ix2 r d) = m (c.tc.loc main_arg0) (ix2 r d) := by
  rw [blk0, V_main_arg0]
theorem in1 : iblk m c 1 t (ix2 r d) = m (c.tc.loc main_arg2) (ix2 r d) := by
  rw [blk1, V_main_arg2]
theorem in2 : iblk m c 2 t (ix2 r d) = m (c.tc.loc main_arg3) (ix2 r d) := by
  rw [blk2, V_main_arg3]
theorem in3 : iblk m c 3 t (ix2 r d) = m (c.tc.loc main_arg4) (ix2 r d) := by
  rw [blk3, V_main_arg4]
theorem in4 : iblk m c 4 t (ix2 r d) = m (c.tc.loc main_arg6) (ix2 r d) := by
  rw [blk4, V_main_arg6]
theorem in5 : iblk m c 5 t (ix2 r d) = m (c.tc.loc main_arg7) (ix2 r d) := by
  rw [blk5, V_main_arg7]
theorem in_up : up (iblk m c 6 t) (ix2 r d) = m (c.tc.loc main_arg1) (ix2 r d) := by
  rw [up_val, blk6, V_v0]
  exact stack_up _ _ r d
theorem in_lo : lo (iblk m c 6 t) (ix2 r d) = m (c.tc.loc main_arg5) (ix2 r d) := by
  rw [lo_val, blk6, V_v0]
  exact stack_lo _ _ r d

theorem at7 : k0_pay1 (F := Ideal) (up (iblk m c 6 t)) (ix2 r d)
    = gA (m (c.tc.loc main_arg1)) (ix2 r d) := by
  rw [pay1_val, in_up]
  rfl
theorem at8 : k0_pay5 (F := Ideal) (up (iblk m c 6 t)) (iblk m c 0 t) (iblk m c 1 t) (iblk m c 2 t) (ix2 r d)
    = dA (m (c.tc.loc main_arg0)) (m (c.tc.loc main_arg1)) (m (c.tc.loc main_arg2)) (m (c.tc.loc main_arg3)) (ix2 r d) := by
  rw [pay5_val, in_up, in0, in1, in2]
  rfl
theorem at9 : k0_pay3 (F := Ideal) (up (iblk m c 6 t)) (iblk m c 1 t) (ix2 r d)
    = mA (m (c.tc.loc main_arg1)) (m (c.tc.loc main_arg2)) (ix2 r d) := by
  rw [pay3_val, in_up, in1]
  rfl
theorem at10 : k0_pay4 (F := Ideal) (up (iblk m c 6 t)) (iblk m c 2 t) (ix2 r d)
    = vA (m (c.tc.loc main_arg1)) (m (c.tc.loc main_arg3)) (ix2 r d) := by
  rw [pay4_val, in_up, in2]
  rfl
theorem at11 : k0_pay2 (F := Ideal) (lo (iblk m c 6 t)) (ix2 r d)
    = gA (m (c.tc.loc main_arg5)) (ix2 r d) := by
  rw [pay2_val, in_lo]
  rfl
theorem at12 : k0_pay8 (F := Ideal) (k0_pay2 (lo (iblk m c 6 t))) (iblk m c 3 t) (iblk m c 4 t) (iblk m c 5 t) (ix2 r d)
    = dA (m (c.tc.loc main_arg4)) (m (c.tc.loc main_arg5)) (m (c.tc.loc main_arg6)) (m (c.tc.loc main_arg7)) (ix2 r d) := by
  rw [pay8_val, pay2_val, in_lo, in3, in4, in5]
  rfl
theorem at13 : k0_pay6 (F := Ideal) (k0_pay2 (lo (iblk m c 6 t))) (iblk m c 4 t) (ix2 r d)
    = mA (m (c.tc.loc main_arg5)) (m (c.tc.loc main_arg6)) (ix2 r d) := by
  rw [pay6_val, pay2_val, in_lo, in4]
  rfl
theorem at14 : k0_pay7 (F := Ideal) (k0_pay2 (lo (iblk m c 6 t))) (iblk m c 5 t) (ix2 r d)
    = vA (m (c.tc.loc main_arg5)) (m (c.tc.loc main_arg7)) (ix2 r d) := by
  rw [pay7_val, pay2_val, in_lo, in5]
  rfl
end

/-- Result 0. -/
theorem final7 : (dats m 0 c).arrAt 7 cfg0.N = gA (m (c.tc.loc main_arg1)) :=
  (dats m 0 c).arrAt_eq_of_cover 7 _
    (fun t hf => by
      rw [out7]
      funext j
      rw [View.read_apply]
      show k0_pay1 (F := Ideal) (up (iblk m c 6 t)) j = gA (m (c.tc.loc main_arg1)) ((win0_7.blk t).view.emb j)
      rw [emb7]
      refine (congrArg _ (eta2 j)).trans ?_
      exact (at7 m c t (j 0) (j 1)).trans (congrArg _ (eta2 j)).symm)
    fun i => by
      have h0 : (i 0 : Nat) < 512 := (i 0).isLt
      have h1 : (i 1 : Nat) < 256 := (i 1).isLt
      refine ⟨t0_0, flush0_7 _, ?_⟩
      show i ∈ ((View.whole main_v1_0).slice (win0_7.rect t0_0)).set
      rw [View.set_slice_whole, Rect.mem_set_unit]
      intro a
      match a with
      | ⟨0, _⟩ => show 0 * 512 ≤ (i 0 : Nat) ∧ (i 0 : Nat) < 0 * 512 + 512; omega
      | ⟨1, _⟩ => show 0 * 256 ≤ (i 1 : Nat) ∧ (i 1 : Nat) < 0 * 256 + 256; omega

/-- Result 1. -/
theorem final8 : (dats m 0 c).arrAt 8 cfg0.N = dA (m (c.tc.loc main_arg0)) (m (c.tc.loc main_arg1)) (m (c.tc.loc main_arg2)) (m (c.tc.loc main_arg3)) :=
  (dats m 0 c).arrAt_eq_of_cover 8 _
    (fun t hf => by
      rw [out8]
      funext j
      rw [View.read_apply]
      show k0_pay5 (F := Ideal) (up (iblk m c 6 t)) (iblk m c 0 t) (iblk m c 1 t) (iblk m c 2 t) j = dA (m (c.tc.loc main_arg0)) (m (c.tc.loc main_arg1)) (m (c.tc.loc main_arg2)) (m (c.tc.loc main_arg3)) ((win0_8.blk t).view.emb j)
      rw [emb8]
      refine (congrArg _ (eta2 j)).trans ?_
      exact (at8 m c t (j 0) (j 1)).trans (congrArg _ (eta2 j)).symm)
    fun i => by
      have h0 : (i 0 : Nat) < 512 := (i 0).isLt
      have h1 : (i 1 : Nat) < 256 := (i 1).isLt
      refine ⟨t0_0, flush0_8 _, ?_⟩
      show i ∈ ((View.whole main_v1_1).slice (win0_8.rect t0_0)).set
      rw [View.set_slice_whole, Rect.mem_set_unit]
      intro a
      match a with
      | ⟨0, _⟩ => show 0 * 512 ≤ (i 0 : Nat) ∧ (i 0 : Nat) < 0 * 512 + 512; omega
      | ⟨1, _⟩ => show 0 * 256 ≤ (i 1 : Nat) ∧ (i 1 : Nat) < 0 * 256 + 256; omega

/-- Result 2. -/
theorem final9 : (dats m 0 c).arrAt 9 cfg0.N = mA (m (c.tc.loc main_arg1)) (m (c.tc.loc main_arg2)) :=
  (dats m 0 c).arrAt_eq_of_cover 9 _
    (fun t hf => by
      rw [out9]
      funext j
      rw [View.read_apply]
      show k0_pay3 (F := Ideal) (up (iblk m c 6 t)) (iblk m c 1 t) j = mA (m (c.tc.loc main_arg1)) (m (c.tc.loc main_arg2)) ((win0_9.blk t).view.emb j)
      rw [emb9]
      refine (congrArg _ (eta2 j)).trans ?_
      exact (at9 m c t (j 0) (j 1)).trans (congrArg _ (eta2 j)).symm)
    fun i => by
      have h0 : (i 0 : Nat) < 512 := (i 0).isLt
      have h1 : (i 1 : Nat) < 256 := (i 1).isLt
      refine ⟨t0_0, flush0_9 _, ?_⟩
      show i ∈ ((View.whole main_v1_2).slice (win0_9.rect t0_0)).set
      rw [View.set_slice_whole, Rect.mem_set_unit]
      intro a
      match a with
      | ⟨0, _⟩ => show 0 * 512 ≤ (i 0 : Nat) ∧ (i 0 : Nat) < 0 * 512 + 512; omega
      | ⟨1, _⟩ => show 0 * 256 ≤ (i 1 : Nat) ∧ (i 1 : Nat) < 0 * 256 + 256; omega

/-- Result 3. -/
theorem final10 : (dats m 0 c).arrAt 10 cfg0.N = vA (m (c.tc.loc main_arg1)) (m (c.tc.loc main_arg3)) :=
  (dats m 0 c).arrAt_eq_of_cover 10 _
    (fun t hf => by
      rw [out10]
      funext j
      rw [View.read_apply]
      show k0_pay4 (F := Ideal) (up (iblk m c 6 t)) (iblk m c 2 t) j = vA (m (c.tc.loc main_arg1)) (m (c.tc.loc main_arg3)) ((win0_10.blk t).view.emb j)
      rw [emb10]
      refine (congrArg _ (eta2 j)).trans ?_
      exact (at10 m c t (j 0) (j 1)).trans (congrArg _ (eta2 j)).symm)
    fun i => by
      have h0 : (i 0 : Nat) < 512 := (i 0).isLt
      have h1 : (i 1 : Nat) < 256 := (i 1).isLt
      refine ⟨t0_0, flush0_10 _, ?_⟩
      show i ∈ ((View.whole main_v1_3).slice (win0_10.rect t0_0)).set
      rw [View.set_slice_whole, Rect.mem_set_unit]
      intro a
      match a with
      | ⟨0, _⟩ => show 0 * 512 ≤ (i 0 : Nat) ∧ (i 0 : Nat) < 0 * 512 + 512; omega
      | ⟨1, _⟩ => show 0 * 256 ≤ (i 1 : Nat) ∧ (i 1 : Nat) < 0 * 256 + 256; omega

/-- Result 4. -/
theorem final11 : (dats m 0 c).arrAt 11 cfg0.N = gA (m (c.tc.loc main_arg5)) :=
  (dats m 0 c).arrAt_eq_of_cover 11 _
    (fun t hf => by
      rw [out11]
      funext j
      rw [View.read_apply]
      show k0_pay2 (F := Ideal) (lo (iblk m c 6 t)) j = gA (m (c.tc.loc main_arg5)) ((win0_11.blk t).view.emb j)
      rw [emb11]
      refine (congrArg _ (eta2 j)).trans ?_
      exact (at11 m c t (j 0) (j 1)).trans (congrArg _ (eta2 j)).symm)
    fun i => by
      have h0 : (i 0 : Nat) < 512 := (i 0).isLt
      have h1 : (i 1 : Nat) < 256 := (i 1).isLt
      refine ⟨t0_0, flush0_11 _, ?_⟩
      show i ∈ ((View.whole main_v1_4).slice (win0_11.rect t0_0)).set
      rw [View.set_slice_whole, Rect.mem_set_unit]
      intro a
      match a with
      | ⟨0, _⟩ => show 0 * 512 ≤ (i 0 : Nat) ∧ (i 0 : Nat) < 0 * 512 + 512; omega
      | ⟨1, _⟩ => show 0 * 256 ≤ (i 1 : Nat) ∧ (i 1 : Nat) < 0 * 256 + 256; omega

/-- Result 5. -/
theorem final12 : (dats m 0 c).arrAt 12 cfg0.N = dA (m (c.tc.loc main_arg4)) (m (c.tc.loc main_arg5)) (m (c.tc.loc main_arg6)) (m (c.tc.loc main_arg7)) :=
  (dats m 0 c).arrAt_eq_of_cover 12 _
    (fun t hf => by
      rw [out12]
      funext j
      rw [View.read_apply]
      show k0_pay8 (F := Ideal) (k0_pay2 (lo (iblk m c 6 t))) (iblk m c 3 t) (iblk m c 4 t) (iblk m c 5 t) j = dA (m (c.tc.loc main_arg4)) (m (c.tc.loc main_arg5)) (m (c.tc.loc main_arg6)) (m (c.tc.loc main_arg7)) ((win0_12.blk t).view.emb j)
      rw [emb12]
      refine (congrArg _ (eta2 j)).trans ?_
      exact (at12 m c t (j 0) (j 1)).trans (congrArg _ (eta2 j)).symm)
    fun i => by
      have h0 : (i 0 : Nat) < 512 := (i 0).isLt
      have h1 : (i 1 : Nat) < 256 := (i 1).isLt
      refine ⟨t0_0, flush0_12 _, ?_⟩
      show i ∈ ((View.whole main_v1_5).slice (win0_12.rect t0_0)).set
      rw [View.set_slice_whole, Rect.mem_set_unit]
      intro a
      match a with
      | ⟨0, _⟩ => show 0 * 512 ≤ (i 0 : Nat) ∧ (i 0 : Nat) < 0 * 512 + 512; omega
      | ⟨1, _⟩ => show 0 * 256 ≤ (i 1 : Nat) ∧ (i 1 : Nat) < 0 * 256 + 256; omega

/-- Result 6. -/
theorem final13 : (dats m 0 c).arrAt 13 cfg0.N = mA (m (c.tc.loc main_arg5)) (m (c.tc.loc main_arg6)) :=
  (dats m 0 c).arrAt_eq_of_cover 13 _
    (fun t hf => by
      rw [out13]
      funext j
      rw [View.read_apply]
      show k0_pay6 (F := Ideal) (k0_pay2 (lo (iblk m c 6 t))) (iblk m c 4 t) j = mA (m (c.tc.loc main_arg5)) (m (c.tc.loc main_arg6)) ((win0_13.blk t).view.emb j)
      rw [emb13]
      refine (congrArg _ (eta2 j)).trans ?_
      exact (at13 m c t (j 0) (j 1)).trans (congrArg _ (eta2 j)).symm)
    fun i => by
      have h0 : (i 0 : Nat) < 512 := (i 0).isLt
      have h1 : (i 1 : Nat) < 256 := (i 1).isLt
      refine ⟨t0_0, flush0_13 _, ?_⟩
      show i ∈ ((View.whole main_v1_6).slice (win0_13.rect t0_0)).set
      rw [View.set_slice_whole, Rect.mem_set_unit]
      intro a
      match a with
      | ⟨0, _⟩ => show 0 * 512 ≤ (i 0 : Nat) ∧ (i 0 : Nat) < 0 * 512 + 512; omega
      | ⟨1, _⟩ => show 0 * 256 ≤ (i 1 : Nat) ∧ (i 1 : Nat) < 0 * 256 + 256; omega

/-- Result 7. -/
theorem final14 : (dats m 0 c).arrAt 14 cfg0.N = vA (m (c.tc.loc main_arg5)) (m (c.tc.loc main_arg7)) :=
  (dats m 0 c).arrAt_eq_of_cover 14 _
    (fun t hf => by
      rw [out14]
      funext j
      rw [View.read_apply]
      show k0_pay7 (F := Ideal) (k0_pay2 (lo (iblk m c 6 t))) (iblk m c 5 t) j = vA (m (c.tc.loc main_arg5)) (m (c.tc.loc main_arg7)) ((win0_14.blk t).view.emb j)
      rw [emb14]
      refine (congrArg _ (eta2 j)).trans ?_
      exact (at14 m c t (j 0) (j 1)).trans (congrArg _ (eta2 j)).symm)
    fun i => by
      have h0 : (i 0 : Nat) < 512 := (i 0).isLt
      have h1 : (i 1 : Nat) < 256 := (i 1).isLt
      refine ⟨t0_0, flush0_14 _, ?_⟩
      show i ∈ ((View.whole main_v1_7).slice (win0_14.rect t0_0)).set
      rw [View.set_slice_whole, Rect.mem_set_unit]
      intro a
      match a with
      | ⟨0, _⟩ => show 0 * 512 ≤ (i 0 : Nat) ∧ (i 0 : Nat) < 0 * 512 + 512; omega
      | ⟨1, _⟩ => show 0 * 256 ≤ (i 1 : Nat) ∧ (i 1 : Nat) < 0 * 256 + 256; omega

/-! ## The reference -/

section
open Cert.Reference10Ideal.Read
variable (w g m v : Vec Ideal S512x256 .f32) (r : Fin 512) (d : Fin 256)

theorem v4 : val_main_v4 (F := Ideal) g m (ix2 r d) = newM (g (ix2 r d)) (m (ix2 r d)) := by
  pointwise [val_main_v4, val_main_v1, val_main_v3, val_main_v0, val_main_v2, val_main_cst, val_main_cst_0]
  rfl
theorem v10 : val_main_v10 (F := Ideal) g v (ix2 r d) = newV (g (ix2 r d)) (v (ix2 r d)) := by
  pointwise [val_main_v10, val_main_v6, val_main_v9, val_main_v5, val_main_v8, val_main_v7, val_main_cst_1, val_main_cst_2]
  rfl
theorem v23 : val_main_v23 (F := Ideal) w g m v (ix2 r d) = delta (w (ix2 r d)) (g (ix2 r d)) (m (ix2 r d)) (v (ix2 r d)) := by
  have hm := v4 g m
  have hv := v10 g v
  pointwise [val_main_v23, val_main_v22, val_main_v21, val_main_cst_7, val_main_v18, val_main_v20, val_main_v12, val_main_v17, val_main_v19, val_main_v11, val_main_v15, val_main_v16, val_main_cst_6, val_main_cst_3, val_main_v14, val_main_cst_5, val_main_v13, val_main_cst_4]
  rw [hm, hv]
  rfl
theorem v28 : val_main_v28 (F := Ideal) g m (ix2 r d) = newM (g (ix2 r d)) (m (ix2 r d)) := by
  pointwise [val_main_v28, val_main_v25, val_main_v27, val_main_v24, val_main_v26, val_main_cst_8, val_main_cst_9]
  rfl
theorem v34 : val_main_v34 (F := Ideal) g v (ix2 r d) = newV (g (ix2 r d)) (v (ix2 r d)) := by
  pointwise [val_main_v34, val_main_v30, val_main_v33, val_main_v29, val_main_v32, val_main_v31, val_main_cst_10, val_main_cst_11]
  rfl
theorem v47 : val_main_v47 (F := Ideal) w g m v (ix2 r d) = delta (w (ix2 r d)) (g (ix2 r d)) (m (ix2 r d)) (v (ix2 r d)) := by
  have hm := v28 g m
  have hv := v34 g v
  pointwise [val_main_v47, val_main_v46, val_main_v45, val_main_cst_16, val_main_v42, val_main_v44, val_main_v36, val_main_v41, val_main_v43, val_main_v35, val_main_v39, val_main_v40, val_main_cst_15, val_main_cst_12, val_main_v38, val_main_cst_14, val_main_v37, val_main_cst_13]
  rw [hm, hv]
  rfl
theorem ref1 : dA w g m v = val_main_v23 (F := Ideal) w g m v := by
  funext i
  rw [eta2 i]
  exact (v23 w g m v _ _).symm
theorem ref2 : mA g m = val_main_v4 (F := Ideal) g m := by
  funext i
  rw [eta2 i]
  exact (v4 g m _ _).symm
theorem ref3 : vA g v = val_main_v10 (F := Ideal) g v := by
  funext i
  rw [eta2 i]
  exact (v10 g v _ _).symm
theorem ref5 : dA w g m v = val_main_v47 (F := Ideal) w g m v := by
  funext i
  rw [eta2 i]
  exact (v47 w g m v _ _).symm
theorem ref6 : mA g m = val_main_v28 (F := Ideal) g m := by
  funext i
  rw [eta2 i]
  exact (v28 g m _ _).symm
theorem ref7 : vA g v = val_main_v34 (F := Ideal) g v := by
  funext i
  rw [eta2 i]
  exact (v34 g v _ _).symm
end

/-- The kernel's call and the reference end with the same eight arrays. -/
theorem algebraic : algebraic_Kernel10Ideal_Reference10Ideal (hKernel10Ideal := Cert.Kernel10Ideal.Gen.facts)
    (hReference10Ideal := Cert.Reference10Ideal.Gen.facts) := by
  intro m g m' g' _ hagree
  refine ⟨fun c => gA (m (c.tc.loc main_arg1)),
    fun c => dA (m (c.tc.loc main_arg0)) (m (c.tc.loc main_arg1)) (m (c.tc.loc main_arg2)) (m (c.tc.loc main_arg3)),
    fun c => mA (m (c.tc.loc main_arg1)) (m (c.tc.loc main_arg2)),
    fun c => vA (m (c.tc.loc main_arg1)) (m (c.tc.loc main_arg3)),
    fun c => gA (m (c.tc.loc main_arg5)),
    fun c => dA (m (c.tc.loc main_arg4)) (m (c.tc.loc main_arg5)) (m (c.tc.loc main_arg6)) (m (c.tc.loc main_arg7)),
    fun c => mA (m (c.tc.loc main_arg5)) (m (c.tc.loc main_arg6)),
    fun c => vA (m (c.tc.loc main_arg5)) (m (c.tc.loc main_arg7)), ?_, ?_⟩
  · refine (θ_run Cert.Kernel10Ideal.defs _ _).mono (fun r h c => ?_) (Cert.Kernel10Ideal.Value.run_blocks m g)
    obtain ⟨h0, h1, h2, h3, h4, h5, h6, h7, hk⟩ := h c
    exact ⟨h0.trans (final7 m c), h1.trans (final8 m c), h2.trans (final9 m c), h3.trans (final10 m c), h4.trans (final11 m c), h5.trans (final12 m c), h6.trans (final13 m c), h7.trans (final14 m c), hk⟩
  · refine (θ_run Cert.Reference10Ideal.defs _ _).mono (fun r h c => ?_) (Cert.Reference10Ideal.Value.run m' g')
    obtain ⟨h0, h1, h2, h3, h4, h5, h6, h7, hk⟩ := h c
    obtain ⟨e0, e1, e2, e3, e4, e5, e6, e7, e8⟩ := hagree c
    refine ⟨h0.trans e1,
      (h1.trans (Cert.Reference10Ideal.Read.val_main_v23_eq _ _ _ _)).trans ?_,
      (h2.trans (Cert.Reference10Ideal.Read.val_main_v4_eq _ _)).trans ?_,
      (h3.trans (Cert.Reference10Ideal.Read.val_main_v10_eq _ _)).trans ?_,
      h4.trans e5,
      (h5.trans (Cert.Reference10Ideal.Read.val_main_v47_eq _ _ _ _)).trans ?_,
      (h6.trans (Cert.Reference10Ideal.Read.val_main_v28_eq _ _)).trans ?_,
      (h7.trans (Cert.Reference10Ideal.Read.val_main_v34_eq _ _)).trans ?_, hk⟩
    · show Cert.Reference10Ideal.Read.val_main_v23 (F := Ideal) (m' (c.tc.loc Cert.Reference10Ideal.main_arg0)) (m' (c.tc.loc Cert.Reference10Ideal.main_arg1)) (m' (c.tc.loc Cert.Reference10Ideal.main_arg2)) (m' (c.tc.loc Cert.Reference10Ideal.main_arg3)) = _
      rw [e0, e1, e2, e3]; exact (ref1 _ _ _ _).symm
    · show Cert.Reference10Ideal.Read.val_main_v4 (F := Ideal) (m' (c.tc.loc Cert.Reference10Ideal.main_arg1)) (m' (c.tc.loc Cert.Reference10Ideal.main_arg2)) = _
      rw [e1, e2]; exact (ref2 _ _).symm
    · show Cert.Reference10Ideal.Read.val_main_v10 (F := Ideal) (m' (c.tc.loc Cert.Reference10Ideal.main_arg1)) (m' (c.tc.loc Cert.Reference10Ideal.main_arg3)) = _
      rw [e1, e3]; exact (ref3 _ _).symm
    · show Cert.Reference10Ideal.Read.val_main_v47 (F := Ideal) (m' (c.tc.loc Cert.Reference10Ideal.main_arg4)) (m' (c.tc.loc Cert.Reference10Ideal.main_arg5)) (m' (c.tc.loc Cert.Reference10Ideal.main_arg6)) (m' (c.tc.loc Cert.Reference10Ideal.main_arg7)) = _
      rw [e4, e5, e6, e7]; exact (ref5 _ _ _ _).symm
    · show Cert.Reference10Ideal.Read.val_main_v28 (F := Ideal) (m' (c.tc.loc Cert.Reference10Ideal.main_arg5)) (m' (c.tc.loc Cert.Reference10Ideal.main_arg6)) = _
      rw [e5, e6]; exact (ref6 _ _).symm
    · show Cert.Reference10Ideal.Read.val_main_v34 (F := Ideal) (m' (c.tc.loc Cert.Reference10Ideal.main_arg5)) (m' (c.tc.loc Cert.Reference10Ideal.main_arg7)) = _
      rw [e5, e7]; exact (ref7 _ _).symm

end Cert.Kernel10Ideal.Step
end
-- ==== Proof.lean ====
module

public import proofs.«01_k».proof.Proof.Pairing
public import proofs.«01_k».proof.Proof.LossFwd
public import proofs.«01_k».proof.Proof.InBwd
public import proofs.«01_k».proof.Proof.Proj
public import proofs.«01_k».proof.Proof.Down
public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Step6
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Step7
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Step8
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Step9
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Step10
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Pre_finite
public import Idealize.ShloMosaic.Adequacy
public import Idealize.ShloMosaic.Init

@[expose] public section

noncomputable section

namespace Cert.Proof

open Idealize.ShloMosaic Idealize.SL.Sem

/-- The reference terminates with its arguments unchanged; it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩) (Cert.ReferenceIdeal.Value.run m ρ)

/-- The same of the reference of program 2. -/
theorem frame_reference2 : Cert.quiescent_Reference2Ideal (hReference2Ideal := Cert.Reference2Ideal.Gen.facts) := fun m ρ _ =>
  (θ_run Cert.Reference2Ideal.defs _ _).mono
    (fun r h => ⟨fun c => (h c).2.2.2.2.2.2, sem_eq_zero_of_no_sems (by decide) r.2⟩) (Cert.Reference2Ideal.Value.run m ρ)

/-- The same of the reference of program 3. -/
theorem frame_reference3 : Cert.quiescent_Reference3Ideal (hReference3Ideal := Cert.Reference3Ideal.Gen.facts) := fun m ρ _ =>
  (θ_run Cert.Reference3Ideal.defs _ _).mono
    (fun r h => ⟨fun c => (h c).2.2.2.2, sem_eq_zero_of_no_sems (by decide) r.2⟩) (Cert.Reference3Ideal.Value.run m ρ)

/-- The same of the reference of program 4. -/
theorem frame_reference4 : Cert.quiescent_Reference4Ideal (hReference4Ideal := Cert.Reference4Ideal.Gen.facts) := fun m ρ _ =>
  (θ_run Cert.Reference4Ideal.defs _ _).mono
    (fun r h => ⟨fun c => (h c).2.2.2.2, sem_eq_zero_of_no_sems (by decide) r.2⟩) (Cert.Reference4Ideal.Value.run m ρ)

/-- The same of the reference of program 5. -/
theorem frame_reference5 : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩) (Cert.Reference5Ideal.Value.run m ρ)

/-- The same of the reference of program 6. -/
theorem frame_reference6 : Cert.quiescent_Reference6Ideal (hReference6Ideal := Cert.Reference6Ideal.Gen.facts) := fun m ρ _ =>
  (θ_run Cert.Reference6Ideal.defs _ _).mono
    (fun r h => ⟨fun c => (h c).2.2.2.2, sem_eq_zero_of_no_sems (by decide) r.2⟩) (Cert.Reference6Ideal.Value.run m ρ)

/-- The same of the reference of program 7. -/
theorem frame_reference7 : Cert.quiescent_Reference7Ideal (hReference7Ideal := Cert.Reference7Ideal.Gen.facts) := fun m ρ _ =>
  (θ_run Cert.Reference7Ideal.defs _ _).mono
    (fun r h => ⟨fun c => (h c).2.2.2.2, sem_eq_zero_of_no_sems (by decide) r.2⟩) (Cert.Reference7Ideal.Value.run m ρ)

/-- The same of the reference of program 8. -/
theorem frame_reference8 : Cert.quiescent_Reference8Ideal (hReference8Ideal := Cert.Reference8Ideal.Gen.facts) := fun m ρ _ =>
  (θ_run Cert.Reference8Ideal.defs _ _).mono
    (fun r h => ⟨fun c => (h c).2.2.2.2, sem_eq_zero_of_no_sems (by decide) r.2⟩) (Cert.Reference8Ideal.Value.run m ρ)

/-- The same of the reference of program 9. -/
theorem frame_reference9 : Cert.quiescent_Reference9Ideal (hReference9Ideal := Cert.Reference9Ideal.Gen.facts) := fun m ρ _ =>
  (θ_run Cert.Reference9Ideal.defs _ _).mono
    (fun r h => ⟨fun c => (h c).2.2.2.2, sem_eq_zero_of_no_sems (by decide) r.2⟩) (Cert.Reference9Ideal.Value.run m ρ)

/-- The same of the reference of program 10. -/
theorem frame_reference10 : Cert.quiescent_Reference10Ideal (hReference10Ideal := Cert.Reference10Ideal.Gen.facts) := fun m ρ _ =>
  (θ_run Cert.Reference10Ideal.defs _ _).mono
    (fun r h => ⟨fun c => (h c).2.2.2.2.2.2.2.2, sem_eq_zero_of_no_sems (by decide) r.2⟩) (Cert.Reference10Ideal.Value.run m ρ)

/-- All claims of the ten calls: the frames, the idealizations, and the equality of each kernel's results with its reference's. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    fun m ρ _ => Cert.Kernel2.Gen.frame m ρ,
    fun m ρ _ => Cert.Kernel2Ideal.Gen.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    frame_reference7,
    fun m ρ _ => Cert.Kernel8.Gen.frame m ρ,
    fun m ρ _ => Cert.Kernel8Ideal.Gen.frame m ρ,
    frame_reference8,
    fun m ρ _ => Cert.Kernel9.Gen.frame m ρ,
    fun m ρ _ => Cert.Kernel9Ideal.Gen.frame m ρ,
    frame_reference9,
    fun m ρ _ => Cert.Kernel10.Gen.frame m ρ,
    fun m ρ _ => Cert.Kernel10Ideal.Gen.frame m ρ,
    frame_reference10,
    trivial,
    Cert.Pairing.algebraic,
    trivial,
    Cert.Kernel2Ideal.Loss.algebraic,
    trivial,
    Cert.Kernel3Ideal.InBwd.algebraic,
    trivial,
    Cert.Kernel4Ideal.Proj.algebraic,
    trivial,
    Cert.Kernel5Ideal.Down.algebraic,
    trivial,
    Cert.Kernel6Ideal.Step.algebraic,
    trivial,
    Cert.Kernel7Ideal.Step.algebraic,
    trivial,
    Cert.Kernel8Ideal.Step.algebraic,
    trivial,
    Cert.Kernel9Ideal.Step.algebraic,
    trivial,
    Cert.Kernel10Ideal.Step.algebraic⟩

end Cert.Proof

end
